-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S262144 : Shape := ⟨1, ![262144]⟩
abbrev S1000000x64 : Shape := ⟨2, ![1000000, 64]⟩
abbrev S16x64 : Shape := ⟨2, ![16, 64]⟩
abbrev S16 : Shape := ⟨1, ![16]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : IVec S262144 32) (main_arg1 : FVec F S1000000x64 .f32) (main_arg2 : FVec F S16x64 .f32) (main_arg3 : FVec F S16 .f32) : IVec S_ 1 :=
  let main_c : IVec S_ 32 := constantI S_ 32 0#32
  let main_v0 : IVec S262144 32 := broadcastInDim S262144 ![] bcast_S_S262144 main_c
  let main_v1 : IVec S262144 1 := cmpi .sge main_arg0 main_v0
  let main_c_0 : IVec S_ 32 := constantI S_ 32 1000000#32
  let main_v2 : IVec S262144 32 := broadcastInDim S262144 ![] bcast_S_S262144 main_c_0
  let main_v3 : IVec S262144 1 := cmpi .slt main_arg0 main_v2
  let main_v4 : IVec S262144 1 := andi main_v1 main_v3
  let main_c_1 : IVec S_ 1 := constantI S_ 1 1#1
  let main_v5 : IVec S_ 1 := (fun x v => Host.reduce IntOp.andi x v reducesTo_S262144_S_d0 h_S_) main_v4 main_c_1
  main_v5
-- ==== Kernel.lean ====
abbrev S262144 : Shape := ⟨1, ![262144]⟩
abbrev S1000000x64 : Shape := ⟨2, ![1000000, 64]⟩
abbrev S16x64 : Shape := ⟨2, ![16, 64]⟩
abbrev S16 : Shape := ⟨1, ![16]⟩
abbrev S_ : Shape := ⟨0, ![]⟩
abbrev S2048x128 : Shape := ⟨2, ![2048, 128]⟩
abbrev S64x1000000 : Shape := ⟨2, ![64, 1000000]⟩
abbrev S507904x128 : Shape := ⟨2, ![507904, 128]⟩
abbrev S64x16384 : Shape := ⟨2, ![64, 16384]⟩
abbrev S16384x128 : Shape := ⟨2, ![16384, 128]⟩
abbrev S64x64 : Shape := ⟨2, ![64, 64]⟩
abbrev S16384x64 : Shape := ⟨2, ![16384, 64]⟩
abbrev S2x16x64 : Shape := ⟨3, ![2, 16, 64]⟩
abbrev S64x128 : Shape := ⟨2, ![64, 128]⟩
abbrev S128x128 : Shape := ⟨2, ![128, 128]⟩
abbrev S64 : Shape := ⟨1, ![64]⟩
abbrev S1x128 : Shape := ⟨2, ![1, 128]⟩
abbrev S128 : Shape := ⟨1, ![128]⟩
abbrev S1x16 : Shape := ⟨2, ![1, 16]⟩
abbrev S1 : Shape := ⟨1, ![1]⟩
abbrev S1x1x64 : Shape := ⟨3, ![1, 1, 64]⟩
abbrev S16x16 : Shape := ⟨2, ![16, 16]⟩
abbrev S1x16x64 : Shape := ⟨3, ![1, 16, 64]⟩

abbrev nBuf : Table → Nat
  | .hbm => 24
  | .local .tc .vmem => 10
  | .local .scVector .vmem => 5
  | _ => 0

abbrev bufTy : (tb : Table) → Fin (nBuf tb) → BufTy
  | .hbm, ⟨0, _⟩ => ⟨S262144, .i32⟩
  | .hbm, ⟨1, _⟩ => ⟨S1000000x64, .f32⟩
  | .hbm, ⟨2, _⟩ => ⟨S16x64, .f32⟩
  | .hbm, ⟨3, _⟩ => ⟨S16, .f32⟩
  | .hbm, ⟨4, _⟩ => ⟨S_, .i32⟩
  | .hbm, ⟨5, _⟩ => ⟨S262144, .i32⟩
  | .hbm, ⟨6, _⟩ => ⟨S262144, .i1⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144, .i32⟩
  | .hbm, ⟨11, _⟩ => ⟨S2048x128, .i32⟩
  | .hbm, ⟨12, _⟩ => ⟨S_, .i32⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S2048x128, .i32⟩
  | .hbm, ⟨19, _⟩ => ⟨S64x1000000, .f32⟩
  | .hbm, ⟨20, _⟩ => ⟨S507904x128, .f32⟩
  | .hbm, ⟨21, _⟩ => ⟨S2x16x64, .f32⟩
  | .hbm, ⟨22, _⟩ => ⟨S1x16, .f32⟩
  | .hbm, ⟨23, _⟩ => ⟨S16x16, .f32⟩
  | .local .tc .vmem, ⟨0, _⟩ => ⟨S64x16384, .f32⟩
  | .local .tc .vmem, ⟨1, _⟩ => ⟨S64x16384, .f32⟩
  | .local .tc .vmem, ⟨2, _⟩ => ⟨S64x16384, .f32⟩
  | .local .tc .vmem, ⟨3, _⟩ => ⟨S64x16384, .f32⟩
  | .local .tc .vmem, ⟨4, _⟩ => ⟨S16384x128, .f32⟩
  | .local .tc .vmem, ⟨5, _⟩ => ⟨S16384x128, .f32⟩
  | .local .tc .vmem, ⟨6, _⟩ => ⟨S2x16x64, .f32⟩
  | .local .tc .vmem, ⟨7, _⟩ => ⟨S16x64, .f32⟩
  | .local .tc .vmem, ⟨8, _⟩ => ⟨S1x16, .f32⟩
  | .local .tc .vmem, ⟨9, _⟩ => ⟨S16x16, .f32⟩
  | .local .scVector .vmem, ⟨0, _⟩ => ⟨S64x128, .i32⟩
  | .local .scVector .vmem, ⟨1, _⟩ => ⟨S64x128, .i32⟩
  | .local .scVector .vmem, ⟨2, _⟩ => ⟨S128x128, .f32⟩
  | .local .scVector .vmem, ⟨3, _⟩ => ⟨S128x128, .f32⟩
  | .local .scVector .vmem, ⟨4, _⟩ => ⟨S64, .f32⟩
  | _, _ => ⟨S262144, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v5_scv : Ref sig .scVector := ⟨.hbm, 11, rfl⟩
abbrev main_v8_scv : Ref sig .scVector := ⟨.hbm, 18, rfl⟩
abbrev main_v10_scv : Ref sig .scVector := ⟨.hbm, 20, rfl⟩
abbrev main_v11_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 11
abbrev cc2_sem1_0 : DmaSem sig := 12
abbrev cc2_sem2_0 : DmaSem sig := 13
abbrev cc2_sem3_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c31_i32 : BitVec 32 := 31#32
  let v0 : BitVec 32 := Scalar.addi c31_i32 arg0
  let c61_i32 : BitVec 32 := 61#32
  let v1 : BitVec 32 := Scalar.minsi v0 c61_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c128_i32 : BitVec 32 := 128#32
  let v29 : BitVec 32 := Scalar.muli v18 c128_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v30 : BitVec 32 := Scalar.muli v28 c64_i32
  let v31 : BitVec 32 := Scalar.addi v29 v30
  let c0_i32_21_r0 : BitVec 32 := 0#32
  ![v31.toNat, 0]
@[reducible] def k1_t1_loop : Scf.Loop 32 :=
  let c0_i32_18 : BitVec 32 := 0#32
  let c32_i32 : BitVec 32 := 32#32
  let v39 : BitVec 32 := Scalar.addi c0_i32_18 c32_i32
  let c1_i32_19 : BitVec 32 := 1#32
  ⟨c0_i32_18, v39, c1_i32_19⟩
@[reducible] def k1_t2_loop : Scf.Loop 32 :=
  let c0_i32_26 : BitVec 32 := 0#32
  let c8_i32_27 : BitVec 32 := 8#32
  let v61 : BitVec 32 := Scalar.addi c0_i32_26 c8_i32_27
  let c1_i32_28 : BitVec 32 := 1#32
  ⟨c0_i32_26, v61, c1_i32_28⟩
def k1_mult1 (k1_t2 : Fin k1_t2_loop.trips) : BitVec 32 :=
  let c0_i32_26 : BitVec 32 := 0#32
  let c1_i32_28 : BitVec 32 := 1#32
  let arg22 : BitVec 32 := Scf.iv c0_i32_26 c1_i32_28 k1_t2
  let c16_i32 : BitVec 32 := 16#32
  let v76 : BitVec 32 := Scalar.muli arg22 c16_i32
  v76
def k1_off2 (k1_t1 : Fin k1_t1_loop.trips) (k1_t2 : Fin k1_t2_loop.trips) : Fin 2 → Nat :=
  let c2_i32_25 : BitVec 32 := 2#32
  let c0_i32_18 : BitVec 32 := 0#32
  let c1_i32_19 : BitVec 32 := 1#32
  let arg13 : BitVec 32 := Scf.iv c0_i32_18 c1_i32_19 k1_t1
  let v60 : BitVec 32 := Scalar.muli c2_i32_25 arg13
  let v78 : Index := Scalar.indexCast v60
  let c0_i32_26 : BitVec 32 := 0#32
  let c1_i32_28 : BitVec 32 := 1#32
  let arg22 : BitVec 32 := Scf.iv c0_i32_26 c1_i32_28 k1_t2
  let c16_i32 : BitVec 32 := 16#32
  let v76 : BitVec 32 := Scalar.muli arg22 c16_i32
  let v77 : BitVec 32 := v76
  let v79 : Index := Scalar.indexCast v77
  ![v78.toNat, v79.toNat]
def k1_mult2 (v85 : BitVec 32) : BitVec 32 :=
  let c0_i32_45 : BitVec 32 := 0#32
  let v86 : BitVec 32 := Scalar.addi v85 c0_i32_45
  v86

def k1_off3 (k1_t2 : Fin k1_t2_loop.trips) (v85 : BitVec 32) (c0_i32_45 : BitVec 32) : Fin 2 → Nat :=
  let c0_i32_26 : BitVec 32 := 0#32
  let c1_i32_28 : BitVec 32 := 1#32
  let arg22 : BitVec 32 := Scf.iv c0_i32_26 c1_i32_28 k1_t2
  let c16_i32_43 : BitVec 32 := 16#32
  let v82 : BitVec 32 := Scalar.muli arg22 c16_i32_43
  let c0_i32_44 : BitVec 32 := 0#32
  let v83 : BitVec 32 := Scalar.addi v82 c0_i32_44
  let v88 : Index := Scalar.indexCast v83
  let v86 : BitVec 32 := Scalar.addi v85 c0_i32_45
  let v87 : BitVec 32 := v86
  let v89 : Index := Scalar.indexCast v87
  ![v88.toNat, v89.toNat]
def k1_mult3 (v85 : BitVec 32) : BitVec 32 :=
  let c16_i32_46 : BitVec 32 := 16#32
  let v93 : BitVec 32 := Scalar.addi v85 c16_i32_46
  v93
def k1_mult4 (v85 : BitVec 32) : BitVec 32 :=
  let c32_i32_47 : BitVec 32 := 32#32
  let v100 : BitVec 32 := Scalar.addi v85 c32_i32_47
  v100
def k1_mult5 (v85 : BitVec 32) : BitVec 32 :=
  let c48_i32 : BitVec 32 := 48#32
  let v107 : BitVec 32 := Scalar.addi v85 c48_i32
  v107

def k1_chk1 (k1_t2 : Fin k1_t2_loop.trips) (v85 : BitVec 32) : Prop :=
  (16 ∣ (k1_mult2 v85).toNat) ∧
  (∀ (r : Fin 4), ∀ a, (k1_off3 k1_t2 v85 (BitVec.ofNat 32 (16 * r.val))) a + S1x16.size a ≤ S128x128.size a) ∧
  (16 ∣ (k1_mult3 v85).toNat) ∧
  (16 ∣ (k1_mult4 v85).toNat) ∧
  (16 ∣ (k1_mult5 v85).toNat)
theorem k1_mult2_dvd : ∀ (k1_t2 : Fin k1_t2_loop.trips) (v85 : BitVec 32) (k1_hw1 : k1_chk1 k1_t2 v85), 16 ∣ (k1_mult2 v85).toNat := fun k1_t2 v85 k1_hw1 => k1_hw1.1
theorem k1_off3_inb : ∀ (k1_t2 : Fin k1_t2_loop.trips) (v85 : BitVec 32) (k1_hw1 : k1_chk1 k1_t2 v85), ∀ (r : Fin 4), ∀ a, (k1_off3 k1_t2 v85 (BitVec.ofNat 32 (16 * r.val))) a + S1x16.size a ≤ S128x128.size a := fun k1_t2 v85 k1_hw1 r => k1_hw1.2.1 r
theorem k1_mult3_dvd : ∀ (k1_t2 : Fin k1_t2_loop.trips) (v85 : BitVec 32) (k1_hw1 : k1_chk1 k1_t2 v85), 16 ∣ (k1_mult3 v85).toNat := fun k1_t2 v85 k1_hw1 => k1_hw1.2.2.1
theorem k1_mult4_dvd : ∀ (k1_t2 : Fin k1_t2_loop.trips) (v85 : BitVec 32) (k1_hw1 : k1_chk1 k1_t2 v85), 16 ∣ (k1_mult4 v85).toNat := fun k1_t2 v85 k1_hw1 => k1_hw1.2.2.2.1
theorem k1_mult5_dvd : ∀ (k1_t2 : Fin k1_t2_loop.trips) (v85 : BitVec 32) (k1_hw1 : k1_chk1 k1_t2 v85), 16 ∣ (k1_mult5 v85).toNat := fun k1_t2 v85 k1_hw1 => k1_hw1.2.2.2.2

def k1_mult6 (v117 : BitVec 32) : BitVec 32 :=
  let c0_i32_50 : BitVec 32 := 0#32
  let v118 : BitVec 32 := Scalar.addi v117 c0_i32_50
  v118

def k1_off4 (k1_t2 : Fin k1_t2_loop.trips) (v117 : BitVec 32) (c0_i32_50 : BitVec 32) : Fin 2 → Nat :=
  let c0_i32_26 : BitVec 32 := 0#32
  let c1_i32_28 : BitVec 32 := 1#32
  let arg22 : BitVec 32 := Scf.iv c0_i32_26 c1_i32_28 k1_t2
  let c16_i32_48 : BitVec 32 := 16#32
  let v114 : BitVec 32 := Scalar.muli arg22 c16_i32_48
  let c1_i32_49 : BitVec 32 := 1#32
  let v115 : BitVec 32 := Scalar.addi v114 c1_i32_49
  let v120 : Index := Scalar.indexCast v115
  let v118 : BitVec 32 := Scalar.addi v117 c0_i32_50
  let v119 : BitVec 32 := v118
  let v121 : Index := Scalar.indexCast v119
  ![v120.toNat, v121.toNat]
def k1_mult7 (v117 : BitVec 32) : BitVec 32 :=
  let c16_i32_51 : BitVec 32 := 16#32
  let v125 : BitVec 32 := Scalar.addi v117 c16_i32_51
  v125
def k1_mult8 (v117 : BitVec 32) : BitVec 32 :=
  let c32_i32_52 : BitVec 32 := 32#32
  let v132 : BitVec 32 := Scalar.addi v117 c32_i32_52
  v132
def k1_mult9 (v117 : BitVec 32) : BitVec 32 :=
  let c48_i32_53 : BitVec 32 := 48#32
  let v139 : BitVec 32 := Scalar.addi v117 c48_i32_53
  v139

def k1_chk2 (k1_t2 : Fin k1_t2_loop.trips) (v117 : BitVec 32) : Prop :=
  (16 ∣ (k1_mult6 v117).toNat) ∧
  (∀ (r : Fin 4), ∀ a, (k1_off4 k1_t2 v117 (BitVec.ofNat 32 (16 * r.val))) a + S1x16.size a ≤ S128x128.size a) ∧
  (16 ∣ (k1_mult7 v117).toNat) ∧
  (16 ∣ (k1_mult8 v117).toNat) ∧
  (16 ∣ (k1_mult9 v117).toNat)
theorem k1_mult6_dvd : ∀ (k1_t2 : Fin k1_t2_loop.trips) (v117 : BitVec 32) (k1_hw2 : k1_chk2 k1_t2 v117), 16 ∣ (k1_mult6 v117).toNat := fun k1_t2 v117 k1_hw2 => k1_hw2.1
theorem k1_off4_inb : ∀ (k1_t2 : Fin k1_t2_loop.trips) (v117 : BitVec 32) (k1_hw2 : k1_chk2 k1_t2 v117), ∀ (r : Fin 4), ∀ a, (k1_off4 k1_t2 v117 (BitVec.ofNat 32 (16 * r.val))) a + S1x16.size a ≤ S128x128.size a := fun k1_t2 v117 k1_hw2 r => k1_hw2.2.1 r
theorem k1_mult7_dvd : ∀ (k1_t2 : Fin k1_t2_loop.trips) (v117 : BitVec 32) (k1_hw2 : k1_chk2 k1_t2 v117), 16 ∣ (k1_mult7 v117).toNat := fun k1_t2 v117 k1_hw2 => k1_hw2.2.2.1
theorem k1_mult8_dvd : ∀ (k1_t2 : Fin k1_t2_loop.trips) (v117 : BitVec 32) (k1_hw2 : k1_chk2 k1_t2 v117), 16 ∣ (k1_mult8 v117).toNat := fun k1_t2 v117 k1_hw2 => k1_hw2.2.2.2.1
theorem k1_mult9_dvd : ∀ (k1_t2 : Fin k1_t2_loop.trips) (v117 : BitVec 32) (k1_hw2 : k1_chk2 k1_t2 v117), 16 ∣ (k1_mult9 v117).toNat := fun k1_t2 v117 k1_hw2 => k1_hw2.2.2.2.2

def k1_mult10 (v149 : BitVec 32) : BitVec 32 :=
  let c0_i32_56 : BitVec 32 := 0#32
  let v150 : BitVec 32 := Scalar.addi v149 c0_i32_56
  v150

def k1_off5 (k1_t2 : Fin k1_t2_loop.trips) (v149 : BitVec 32) (c0_i32_56 : BitVec 32) : Fin 2 → Nat :=
  let c0_i32_26 : BitVec 32 := 0#32
  let c1_i32_28 : BitVec 32 := 1#32
  let arg22 : BitVec 32 := Scf.iv c0_i32_26 c1_i32_28 k1_t2
  let c16_i32_54 : BitVec 32 := 16#32
  let v146 : BitVec 32 := Scalar.muli arg22 c16_i32_54
  let c2_i32_55 : BitVec 32 := 2#32
  let v147 : BitVec 32 := Scalar.addi v146 c2_i32_55
  let v152 : Index := Scalar.indexCast v147
  let v150 : BitVec 32 := Scalar.addi v149 c0_i32_56
  let v151 : BitVec 32 := v150
  let v153 : Index := Scalar.indexCast v151
  ![v152.toNat, v153.toNat]
def k1_mult11 (v149 : BitVec 32) : BitVec 32 :=
  let c16_i32_57 : BitVec 32 := 16#32
  let v157 : BitVec 32 := Scalar.addi v149 c16_i32_57
  v157
def k1_mult12 (v149 : BitVec 32) : BitVec 32 :=
  let c32_i32_58 : BitVec 32 := 32#32
  let v164 : BitVec 32 := Scalar.addi v149 c32_i32_58
  v164
def k1_mult13 (v149 : BitVec 32) : BitVec 32 :=
  let c48_i32_59 : BitVec 32 := 48#32
  let v171 : BitVec 32 := Scalar.addi v149 c48_i32_59
  v171

def k1_chk3 (k1_t2 : Fin k1_t2_loop.trips) (v149 : BitVec 32) : Prop :=
  (16 ∣ (k1_mult10 v149).toNat) ∧
  (∀ (r : Fin 4), ∀ a, (k1_off5 k1_t2 v149 (BitVec.ofNat 32 (16 * r.val))) a + S1x16.size a ≤ S128x128.size a) ∧
  (16 ∣ (k1_mult11 v149).toNat) ∧
  (16 ∣ (k1_mult12 v149).toNat) ∧
  (16 ∣ (k1_mult13 v149).toNat)
theorem k1_mult10_dvd : ∀ (k1_t2 : Fin k1_t2_loop.trips) (v149 : BitVec 32) (k1_hw3 : k1_chk3 k1_t2 v149), 16 ∣ (k1_mult10 v149).toNat := fun k1_t2 v149 k1_hw3 => k1_hw3.1
theorem k1_off5_inb : ∀ (k1_t2 : Fin k1_t2_loop.trips) (v149 : BitVec 32) (k1_hw3 : k1_chk3 k1_t2 v149), ∀ (r : Fin 4), ∀ a, (k1_off5 k1_t2 v149 (BitVec.ofNat 32 (16 * r.val))) a + S1x16.size a ≤ S128x128.size a := fun k1_t2 v149 k1_hw3 r => k1_hw3.2.1 r
theorem k1_mult11_dvd : ∀ (k1_t2 : Fin k1_t2_loop.trips) (v149 : BitVec 32) (k1_hw3 : k1_chk3 k1_t2 v149), 16 ∣ (k1_mult11 v149).toNat := fun k1_t2 v149 k1_hw3 => k1_hw3.2.2.1
theorem k1_mult12_dvd : ∀ (k1_t2 : Fin k1_t2_loop.trips) (v149 : BitVec 32) (k1_hw3 : k1_chk3 k1_t2 v149), 16 ∣ (k1_mult12 v149).toNat := fun k1_t2 v149 k1_hw3 => k1_hw3.2.2.2.1
theorem k1_mult13_dvd : ∀ (k1_t2 : Fin k1_t2_loop.trips) (v149 : BitVec 32) (k1_hw3 : k1_chk3 k1_t2 v149), 16 ∣ (k1_mult13 v149).toNat := fun k1_t2 v149 k1_hw3 => k1_hw3.2.2.2.2

def k1_mult14 (v181 : BitVec 32) : BitVec 32 :=
  let c0_i32_61 : BitVec 32 := 0#32
  let v182 : BitVec 32 := Scalar.addi v181 c0_i32_61
  v182

def k1_off6 (k1_t2 : Fin k1_t2_loop.trips) (v181 : BitVec 32) (c0_i32_61 : BitVec 32) : Fin 2 → Nat :=
  let c0_i32_26 : BitVec 32 := 0#32
  let c1_i32_28 : BitVec 32 := 1#32
  let arg22 : BitVec 32 := Scf.iv c0_i32_26 c1_i32_28 k1_t2
  let c16_i32_60 : BitVec 32 := 16#32
  let v178 : BitVec 32 := Scalar.muli arg22 c16_i32_60
  let c3_i32 : BitVec 32 := 3#32
  let v179 : BitVec 32 := Scalar.addi v178 c3_i32
  let v184 : Index := Scalar.indexCast v179
  let v182 : BitVec 32 := Scalar.addi v181 c0_i32_61
  let v183 : BitVec 32 := v182
  let v185 : Index := Scalar.indexCast v183
  ![v184.toNat, v185.toNat]
def k1_mult15 (v181 : BitVec 32) : BitVec 32 :=
  let c16_i32_62 : BitVec 32 := 16#32
  let v189 : BitVec 32 := Scalar.addi v181 c16_i32_62
  v189
def k1_mult16 (v181 : BitVec 32) : BitVec 32 :=
  let c32_i32_63 : BitVec 32 := 32#32
  let v196 : BitVec 32 := Scalar.addi v181 c32_i32_63
  v196
def k1_mult17 (v181 : BitVec 32) : BitVec 32 :=
  let c48_i32_64 : BitVec 32 := 48#32
  let v203 : BitVec 32 := Scalar.addi v181 c48_i32_64
  v203

def k1_chk4 (k1_t2 : Fin k1_t2_loop.trips) (v181 : BitVec 32) : Prop :=
  (16 ∣ (k1_mult14 v181).toNat) ∧
  (∀ (r : Fin 4), ∀ a, (k1_off6 k1_t2 v181 (BitVec.ofNat 32 (16 * r.val))) a + S1x16.size a ≤ S128x128.size a) ∧
  (16 ∣ (k1_mult15 v181).toNat) ∧
  (16 ∣ (k1_mult16 v181).toNat) ∧
  (16 ∣ (k1_mult17 v181).toNat)
theorem k1_mult14_dvd : ∀ (k1_t2 : Fin k1_t2_loop.trips) (v181 : BitVec 32) (k1_hw4 : k1_chk4 k1_t2 v181), 16 ∣ (k1_mult14 v181).toNat := fun k1_t2 v181 k1_hw4 => k1_hw4.1
theorem k1_off6_inb : ∀ (k1_t2 : Fin k1_t2_loop.trips) (v181 : BitVec 32) (k1_hw4 : k1_chk4 k1_t2 v181), ∀ (r : Fin 4), ∀ a, (k1_off6 k1_t2 v181 (BitVec.ofNat 32 (16 * r.val))) a + S1x16.size a ≤ S128x128.size a := fun k1_t2 v181 k1_hw4 r => k1_hw4.2.1 r
theorem k1_mult15_dvd : ∀ (k1_t2 : Fin k1_t2_loop.trips) (v181 : BitVec 32) (k1_hw4 : k1_chk4 k1_t2 v181), 16 ∣ (k1_mult15 v181).toNat := fun k1_t2 v181 k1_hw4 => k1_hw4.2.2.1
theorem k1_mult16_dvd : ∀ (k1_t2 : Fin k1_t2_loop.trips) (v181 : BitVec 32) (k1_hw4 : k1_chk4 k1_t2 v181), 16 ∣ (k1_mult16 v181).toNat := fun k1_t2 v181 k1_hw4 => k1_hw4.2.2.2.1
theorem k1_mult17_dvd : ∀ (k1_t2 : Fin k1_t2_loop.trips) (v181 : BitVec 32) (k1_hw4 : k1_chk4 k1_t2 v181), 16 ∣ (k1_mult17 v181).toNat := fun k1_t2 v181 k1_hw4 => k1_hw4.2.2.2.2

def k1_mult18 (v213 : BitVec 32) : BitVec 32 :=
  let c0_i32_66 : BitVec 32 := 0#32
  let v214 : BitVec 32 := Scalar.addi v213 c0_i32_66
  v214

def k1_off7 (k1_t2 : Fin k1_t2_loop.trips) (v213 : BitVec 32) (c0_i32_66 : BitVec 32) : Fin 2 → Nat :=
  let c0_i32_26 : BitVec 32 := 0#32
  let c1_i32_28 : BitVec 32 := 1#32
  let arg22 : BitVec 32 := Scf.iv c0_i32_26 c1_i32_28 k1_t2
  let c16_i32_65 : BitVec 32 := 16#32
  let v210 : BitVec 32 := Scalar.muli arg22 c16_i32_65
  let c4_i32 : BitVec 32 := 4#32
  let v211 : BitVec 32 := Scalar.addi v210 c4_i32
  let v216 : Index := Scalar.indexCast v211
  let v214 : BitVec 32 := Scalar.addi v213 c0_i32_66
  let v215 : BitVec 32 := v214
  let v217 : Index := Scalar.indexCast v215
  ![v216.toNat, v217.toNat]
def k1_mult19 (v213 : BitVec 32) : BitVec 32 :=
  let c16_i32_67 : BitVec 32 := 16#32
  let v221 : BitVec 32 := Scalar.addi v213 c16_i32_67
  v221
def k1_mult20 (v213 : BitVec 32) : BitVec 32 :=
  let c32_i32_68 : BitVec 32 := 32#32
  let v228 : BitVec 32 := Scalar.addi v213 c32_i32_68
  v228
def k1_mult21 (v213 : BitVec 32) : BitVec 32 :=
  let c48_i32_69 : BitVec 32 := 48#32
  let v235 : BitVec 32 := Scalar.addi v213 c48_i32_69
  v235

def k1_chk5 (k1_t2 : Fin k1_t2_loop.trips) (v213 : BitVec 32) : Prop :=
  (16 ∣ (k1_mult18 v213).toNat) ∧
  (∀ (r : Fin 4), ∀ a, (k1_off7 k1_t2 v213 (BitVec.ofNat 32 (16 * r.val))) a + S1x16.size a ≤ S128x128.size a) ∧
  (16 ∣ (k1_mult19 v213).toNat) ∧
  (16 ∣ (k1_mult20 v213).toNat) ∧
  (16 ∣ (k1_mult21 v213).toNat)
theorem k1_mult18_dvd : ∀ (k1_t2 : Fin k1_t2_loop.trips) (v213 : BitVec 32) (k1_hw5 : k1_chk5 k1_t2 v213), 16 ∣ (k1_mult18 v213).toNat := fun k1_t2 v213 k1_hw5 => k1_hw5.1
theorem k1_off7_inb : ∀ (k1_t2 : Fin k1_t2_loop.trips) (v213 : BitVec 32) (k1_hw5 : k1_chk5 k1_t2 v213), ∀ (r : Fin 4), ∀ a, (k1_off7 k1_t2 v213 (BitVec.ofNat 32 (16 * r.val))) a + S1x16.size a ≤ S128x128.size a := fun k1_t2 v213 k1_hw5 r => k1_hw5.2.1 r
theorem k1_mult19_dvd : ∀ (k1_t2 : Fin k1_t2_loop.trips) (v213 : BitVec 32) (k1_hw5 : k1_chk5 k1_t2 v213), 16 ∣ (k1_mult19 v213).toNat := fun k1_t2 v213 k1_hw5 => k1_hw5.2.2.1
theorem k1_mult20_dvd : ∀ (k1_t2 : Fin k1_t2_loop.trips) (v213 : BitVec 32) (k1_hw5 : k1_chk5 k1_t2 v213), 16 ∣ (k1_mult20 v213).toNat := fun k1_t2 v213 k1_hw5 => k1_hw5.2.2.2.1
theorem k1_mult21_dvd : ∀ (k1_t2 : Fin k1_t2_loop.trips) (v213 : BitVec 32) (k1_hw5 : k1_chk5 k1_t2 v213), 16 ∣ (k1_mult21 v213).toNat := fun k1_t2 v213 k1_hw5 => k1_hw5.2.2.2.2

def k1_mult22 (v245 : BitVec 32) : BitVec 32 :=
  let c0_i32_71 : BitVec 32 := 0#32
  let v246 : BitVec 32 := Scalar.addi v245 c0_i32_71
  v246

def k1_off8 (k1_t2 : Fin k1_t2_loop.trips) (v245 : BitVec 32) (c0_i32_71 : BitVec 32) : Fin 2 → Nat :=
  let c0_i32_26 : BitVec 32 := 0#32
  let c1_i32_28 : BitVec 32 := 1#32
  let arg22 : BitVec 32 := Scf.iv c0_i32_26 c1_i32_28 k1_t2
  let c16_i32_70 : BitVec 32 := 16#32
  let v242 : BitVec 32 := Scalar.muli arg22 c16_i32_70
  let c5_i32 : BitVec 32 := 5#32
  let v243 : BitVec 32 := Scalar.addi v242 c5_i32
  let v248 : Index := Scalar.indexCast v243
  let v246 : BitVec 32 := Scalar.addi v245 c0_i32_71
  let v247 : BitVec 32 := v246
  let v249 : Index := Scalar.indexCast v247
  ![v248.toNat, v249.toNat]
def k1_mult23 (v245 : BitVec 32) : BitVec 32 :=
  let c16_i32_72 : BitVec 32 := 16#32
  let v253 : BitVec 32 := Scalar.addi v245 c16_i32_72
  v253
def k1_mult24 (v245 : BitVec 32) : BitVec 32 :=
  let c32_i32_73 : BitVec 32 := 32#32
  let v260 : BitVec 32 := Scalar.addi v245 c32_i32_73
  v260
def k1_mult25 (v245 : BitVec 32) : BitVec 32 :=
  let c48_i32_74 : BitVec 32 := 48#32
  let v267 : BitVec 32 := Scalar.addi v245 c48_i32_74
  v267

def k1_chk6 (k1_t2 : Fin k1_t2_loop.trips) (v245 : BitVec 32) : Prop :=
  (16 ∣ (k1_mult22 v245).toNat) ∧
  (∀ (r : Fin 4), ∀ a, (k1_off8 k1_t2 v245 (BitVec.ofNat 32 (16 * r.val))) a + S1x16.size a ≤ S128x128.size a) ∧
  (16 ∣ (k1_mult23 v245).toNat) ∧
  (16 ∣ (k1_mult24 v245).toNat) ∧
  (16 ∣ (k1_mult25 v245).toNat)
theorem k1_mult22_dvd : ∀ (k1_t2 : Fin k1_t2_loop.trips) (v245 : BitVec 32) (k1_hw6 : k1_chk6 k1_t2 v245), 16 ∣ (k1_mult22 v245).toNat := fun k1_t2 v245 k1_hw6 => k1_hw6.1
theorem k1_off8_inb : ∀ (k1_t2 : Fin k1_t2_loop.trips) (v245 : BitVec 32) (k1_hw6 : k1_chk6 k1_t2 v245), ∀ (r : Fin 4), ∀ a, (k1_off8 k1_t2 v245 (BitVec.ofNat 32 (16 * r.val))) a + S1x16.size a ≤ S128x128.size a := fun k1_t2 v245 k1_hw6 r => k1_hw6.2.1 r
theorem k1_mult23_dvd : ∀ (k1_t2 : Fin k1_t2_loop.trips) (v245 : BitVec 32) (k1_hw6 : k1_chk6 k1_t2 v245), 16 ∣ (k1_mult23 v245).toNat := fun k1_t2 v245 k1_hw6 => k1_hw6.2.2.1
theorem k1_mult24_dvd : ∀ (k1_t2 : Fin k1_t2_loop.trips) (v245 : BitVec 32) (k1_hw6 : k1_chk6 k1_t2 v245), 16 ∣ (k1_mult24 v245).toNat := fun k1_t2 v245 k1_hw6 => k1_hw6.2.2.2.1
theorem k1_mult25_dvd : ∀ (k1_t2 : Fin k1_t2_loop.trips) (v245 : BitVec 32) (k1_hw6 : k1_chk6 k1_t2 v245), 16 ∣ (k1_mult25 v245).toNat := fun k1_t2 v245 k1_hw6 => k1_hw6.2.2.2.2

def k1_mult26 (v277 : BitVec 32) : BitVec 32 :=
  let c0_i32_76 : BitVec 32 := 0#32
  let v278 : BitVec 32 := Scalar.addi v277 c0_i32_76
  v278

def k1_off9 (k1_t2 : Fin k1_t2_loop.trips) (v277 : BitVec 32) (c0_i32_76 : BitVec 32) : Fin 2 → Nat :=
  let c0_i32_26 : BitVec 32 := 0#32
  let c1_i32_28 : BitVec 32 := 1#32
  let arg22 : BitVec 32 := Scf.iv c0_i32_26 c1_i32_28 k1_t2
  let c16_i32_75 : BitVec 32 := 16#32
  let v274 : BitVec 32 := Scalar.muli arg22 c16_i32_75
  let c6_i32 : BitVec 32 := 6#32
  let v275 : BitVec 32 := Scalar.addi v274 c6_i32
  let v280 : Index := Scalar.indexCast v275
  let v278 : BitVec 32 := Scalar.addi v277 c0_i32_76
  let v279 : BitVec 32 := v278
  let v281 : Index := Scalar.indexCast v279
  ![v280.toNat, v281.toNat]
def k1_mult27 (v277 : BitVec 32) : BitVec 32 :=
  let c16_i32_77 : BitVec 32 := 16#32
  let v285 : BitVec 32 := Scalar.addi v277 c16_i32_77
  v285
def k1_mult28 (v277 : BitVec 32) : BitVec 32 :=
  let c32_i32_78 : BitVec 32 := 32#32
  let v292 : BitVec 32 := Scalar.addi v277 c32_i32_78
  v292
def k1_mult29 (v277 : BitVec 32) : BitVec 32 :=
  let c48_i32_79 : BitVec 32 := 48#32
  let v299 : BitVec 32 := Scalar.addi v277 c48_i32_79
  v299

def k1_chk7 (k1_t2 : Fin k1_t2_loop.trips) (v277 : BitVec 32) : Prop :=
  (16 ∣ (k1_mult26 v277).toNat) ∧
  (∀ (r : Fin 4), ∀ a, (k1_off9 k1_t2 v277 (BitVec.ofNat 32 (16 * r.val))) a + S1x16.size a ≤ S128x128.size a) ∧
  (16 ∣ (k1_mult27 v277).toNat) ∧
  (16 ∣ (k1_mult28 v277).toNat) ∧
  (16 ∣ (k1_mult29 v277).toNat)
theorem k1_mult26_dvd : ∀ (k1_t2 : Fin k1_t2_loop.trips) (v277 : BitVec 32) (k1_hw7 : k1_chk7 k1_t2 v277), 16 ∣ (k1_mult26 v277).toNat := fun k1_t2 v277 k1_hw7 => k1_hw7.1
theorem k1_off9_inb : ∀ (k1_t2 : Fin k1_t2_loop.trips) (v277 : BitVec 32) (k1_hw7 : k1_chk7 k1_t2 v277), ∀ (r : Fin 4), ∀ a, (k1_off9 k1_t2 v277 (BitVec.ofNat 32 (16 * r.val))) a + S1x16.size a ≤ S128x128.size a := fun k1_t2 v277 k1_hw7 r => k1_hw7.2.1 r
theorem k1_mult27_dvd : ∀ (k1_t2 : Fin k1_t2_loop.trips) (v277 : BitVec 32) (k1_hw7 : k1_chk7 k1_t2 v277), 16 ∣ (k1_mult27 v277).toNat := fun k1_t2 v277 k1_hw7 => k1_hw7.2.2.1
theorem k1_mult28_dvd : ∀ (k1_t2 : Fin k1_t2_loop.trips) (v277 : BitVec 32) (k1_hw7 : k1_chk7 k1_t2 v277), 16 ∣ (k1_mult28 v277).toNat := fun k1_t2 v277 k1_hw7 => k1_hw7.2.2.2.1
theorem k1_mult29_dvd : ∀ (k1_t2 : Fin k1_t2_loop.trips) (v277 : BitVec 32) (k1_hw7 : k1_chk7 k1_t2 v277), 16 ∣ (k1_mult29 v277).toNat := fun k1_t2 v277 k1_hw7 => k1_hw7.2.2.2.2

def k1_mult30 (v309 : BitVec 32) : BitVec 32 :=
  let c0_i32_81 : BitVec 32 := 0#32
  let v310 : BitVec 32 := Scalar.addi v309 c0_i32_81
  v310

def k1_off10 (k1_t2 : Fin k1_t2_loop.trips) (v309 : BitVec 32) (c0_i32_81 : BitVec 32) : Fin 2 → Nat :=
  let c0_i32_26 : BitVec 32 := 0#32
  let c1_i32_28 : BitVec 32 := 1#32
  let arg22 : BitVec 32 := Scf.iv c0_i32_26 c1_i32_28 k1_t2
  let c16_i32_80 : BitVec 32 := 16#32
  let v306 : BitVec 32 := Scalar.muli arg22 c16_i32_80
  let c7_i32 : BitVec 32 := 7#32
  let v307 : BitVec 32 := Scalar.addi v306 c7_i32
  let v312 : Index := Scalar.indexCast v307
  let v310 : BitVec 32 := Scalar.addi v309 c0_i32_81
  let v311 : BitVec 32 := v310
  let v313 : Index := Scalar.indexCast v311
  ![v312.toNat, v313.toNat]
def k1_mult31 (v309 : BitVec 32) : BitVec 32 :=
  let c16_i32_82 : BitVec 32 := 16#32
  let v317 : BitVec 32 := Scalar.addi v309 c16_i32_82
  v317
def k1_mult32 (v309 : BitVec 32) : BitVec 32 :=
  let c32_i32_83 : BitVec 32 := 32#32
  let v324 : BitVec 32 := Scalar.addi v309 c32_i32_83
  v324
def k1_mult33 (v309 : BitVec 32) : BitVec 32 :=
  let c48_i32_84 : BitVec 32 := 48#32
  let v331 : BitVec 32 := Scalar.addi v309 c48_i32_84
  v331

def k1_chk8 (k1_t2 : Fin k1_t2_loop.trips) (v309 : BitVec 32) : Prop :=
  (16 ∣ (k1_mult30 v309).toNat) ∧
  (∀ (r : Fin 4), ∀ a, (k1_off10 k1_t2 v309 (BitVec.ofNat 32 (16 * r.val))) a + S1x16.size a ≤ S128x128.size a) ∧
  (16 ∣ (k1_mult31 v309).toNat) ∧
  (16 ∣ (k1_mult32 v309).toNat) ∧
  (16 ∣ (k1_mult33 v309).toNat)
theorem k1_mult30_dvd : ∀ (k1_t2 : Fin k1_t2_loop.trips) (v309 : BitVec 32) (k1_hw8 : k1_chk8 k1_t2 v309), 16 ∣ (k1_mult30 v309).toNat := fun k1_t2 v309 k1_hw8 => k1_hw8.1
theorem k1_off10_inb : ∀ (k1_t2 : Fin k1_t2_loop.trips) (v309 : BitVec 32) (k1_hw8 : k1_chk8 k1_t2 v309), ∀ (r : Fin 4), ∀ a, (k1_off10 k1_t2 v309 (BitVec.ofNat 32 (16 * r.val))) a + S1x16.size a ≤ S128x128.size a := fun k1_t2 v309 k1_hw8 r => k1_hw8.2.1 r
theorem k1_mult31_dvd : ∀ (k1_t2 : Fin k1_t2_loop.trips) (v309 : BitVec 32) (k1_hw8 : k1_chk8 k1_t2 v309), 16 ∣ (k1_mult31 v309).toNat := fun k1_t2 v309 k1_hw8 => k1_hw8.2.2.1
theorem k1_mult32_dvd : ∀ (k1_t2 : Fin k1_t2_loop.trips) (v309 : BitVec 32) (k1_hw8 : k1_chk8 k1_t2 v309), 16 ∣ (k1_mult32 v309).toNat := fun k1_t2 v309 k1_hw8 => k1_hw8.2.2.2.1
theorem k1_mult33_dvd : ∀ (k1_t2 : Fin k1_t2_loop.trips) (v309 : BitVec 32) (k1_hw8 : k1_chk8 k1_t2 v309), 16 ∣ (k1_mult33 v309).toNat := fun k1_t2 v309 k1_hw8 => k1_hw8.2.2.2.2

def k1_mult34 (v341 : BitVec 32) : BitVec 32 :=
  let c0_i32_87 : BitVec 32 := 0#32
  let v342 : BitVec 32 := Scalar.addi v341 c0_i32_87
  v342

def k1_off11 (k1_t2 : Fin k1_t2_loop.trips) (v341 : BitVec 32) (c0_i32_87 : BitVec 32) : Fin 2 → Nat :=
  let c0_i32_26 : BitVec 32 := 0#32
  let c1_i32_28 : BitVec 32 := 1#32
  let arg22 : BitVec 32 := Scf.iv c0_i32_26 c1_i32_28 k1_t2
  let c16_i32_85 : BitVec 32 := 16#32
  let v338 : BitVec 32 := Scalar.muli arg22 c16_i32_85
  let c8_i32_86 : BitVec 32 := 8#32
  let v339 : BitVec 32 := Scalar.addi v338 c8_i32_86
  let v344 : Index := Scalar.indexCast v339
  let v342 : BitVec 32 := Scalar.addi v341 c0_i32_87
  let v343 : BitVec 32 := v342
  let v345 : Index := Scalar.indexCast v343
  ![v344.toNat, v345.toNat]
def k1_mult35 (v341 : BitVec 32) : BitVec 32 :=
  let c16_i32_88 : BitVec 32 := 16#32
  let v349 : BitVec 32 := Scalar.addi v341 c16_i32_88
  v349
def k1_mult36 (v341 : BitVec 32) : BitVec 32 :=
  let c32_i32_89 : BitVec 32 := 32#32
  let v356 : BitVec 32 := Scalar.addi v341 c32_i32_89
  v356
def k1_mult37 (v341 : BitVec 32) : BitVec 32 :=
  let c48_i32_90 : BitVec 32 := 48#32
  let v363 : BitVec 32 := Scalar.addi v341 c48_i32_90
  v363

def k1_chk9 (k1_t2 : Fin k1_t2_loop.trips) (v341 : BitVec 32) : Prop :=
  (16 ∣ (k1_mult34 v341).toNat) ∧
  (∀ (r : Fin 4), ∀ a, (k1_off11 k1_t2 v341 (BitVec.ofNat 32 (16 * r.val))) a + S1x16.size a ≤ S128x128.size a) ∧
  (16 ∣ (k1_mult35 v341).toNat) ∧
  (16 ∣ (k1_mult36 v341).toNat) ∧
  (16 ∣ (k1_mult37 v341).toNat)
theorem k1_mult34_dvd : ∀ (k1_t2 : Fin k1_t2_loop.trips) (v341 : BitVec 32) (k1_hw9 : k1_chk9 k1_t2 v341), 16 ∣ (k1_mult34 v341).toNat := fun k1_t2 v341 k1_hw9 => k1_hw9.1
theorem k1_off11_inb : ∀ (k1_t2 : Fin k1_t2_loop.trips) (v341 : BitVec 32) (k1_hw9 : k1_chk9 k1_t2 v341), ∀ (r : Fin 4), ∀ a, (k1_off11 k1_t2 v341 (BitVec.ofNat 32 (16 * r.val))) a + S1x16.size a ≤ S128x128.size a := fun k1_t2 v341 k1_hw9 r => k1_hw9.2.1 r
theorem k1_mult35_dvd : ∀ (k1_t2 : Fin k1_t2_loop.trips) (v341 : BitVec 32) (k1_hw9 : k1_chk9 k1_t2 v341), 16 ∣ (k1_mult35 v341).toNat := fun k1_t2 v341 k1_hw9 => k1_hw9.2.2.1
theorem k1_mult36_dvd : ∀ (k1_t2 : Fin k1_t2_loop.trips) (v341 : BitVec 32) (k1_hw9 : k1_chk9 k1_t2 v341), 16 ∣ (k1_mult36 v341).toNat := fun k1_t2 v341 k1_hw9 => k1_hw9.2.2.2.1
theorem k1_mult37_dvd : ∀ (k1_t2 : Fin k1_t2_loop.trips) (v341 : BitVec 32) (k1_hw9 : k1_chk9 k1_t2 v341), 16 ∣ (k1_mult37 v341).toNat := fun k1_t2 v341 k1_hw9 => k1_hw9.2.2.2.2

def k1_mult38 (v373 : BitVec 32) : BitVec 32 :=
  let c0_i32_92 : BitVec 32 := 0#32
  let v374 : BitVec 32 := Scalar.addi v373 c0_i32_92
  v374

def k1_off12 (k1_t2 : Fin k1_t2_loop.trips) (v373 : BitVec 32) (c0_i32_92 : BitVec 32) : Fin 2 → Nat :=
  let c0_i32_26 : BitVec 32 := 0#32
  let c1_i32_28 : BitVec 32 := 1#32
  let arg22 : BitVec 32 := Scf.iv c0_i32_26 c1_i32_28 k1_t2
  let c16_i32_91 : BitVec 32 := 16#32
  let v370 : BitVec 32 := Scalar.muli arg22 c16_i32_91
  let c9_i32 : BitVec 32 := 9#32
  let v371 : BitVec 32 := Scalar.addi v370 c9_i32
  let v376 : Index := Scalar.indexCast v371
  let v374 : BitVec 32 := Scalar.addi v373 c0_i32_92
  let v375 : BitVec 32 := v374
  let v377 : Index := Scalar.indexCast v375
  ![v376.toNat, v377.toNat]
def k1_mult39 (v373 : BitVec 32) : BitVec 32 :=
  let c16_i32_93 : BitVec 32 := 16#32
  let v381 : BitVec 32 := Scalar.addi v373 c16_i32_93
  v381
def k1_mult40 (v373 : BitVec 32) : BitVec 32 :=
  let c32_i32_94 : BitVec 32 := 32#32
  let v388 : BitVec 32 := Scalar.addi v373 c32_i32_94
  v388
def k1_mult41 (v373 : BitVec 32) : BitVec 32 :=
  let c48_i32_95 : BitVec 32 := 48#32
  let v395 : BitVec 32 := Scalar.addi v373 c48_i32_95
  v395

def k1_chk10 (k1_t2 : Fin k1_t2_loop.trips) (v373 : BitVec 32) : Prop :=
  (16 ∣ (k1_mult38 v373).toNat) ∧
  (∀ (r : Fin 4), ∀ a, (k1_off12 k1_t2 v373 (BitVec.ofNat 32 (16 * r.val))) a + S1x16.size a ≤ S128x128.size a) ∧
  (16 ∣ (k1_mult39 v373).toNat) ∧
  (16 ∣ (k1_mult40 v373).toNat) ∧
  (16 ∣ (k1_mult41 v373).toNat)
theorem k1_mult38_dvd : ∀ (k1_t2 : Fin k1_t2_loop.trips) (v373 : BitVec 32) (k1_hw10 : k1_chk10 k1_t2 v373), 16 ∣ (k1_mult38 v373).toNat := fun k1_t2 v373 k1_hw10 => k1_hw10.1
theorem k1_off12_inb : ∀ (k1_t2 : Fin k1_t2_loop.trips) (v373 : BitVec 32) (k1_hw10 : k1_chk10 k1_t2 v373), ∀ (r : Fin 4), ∀ a, (k1_off12 k1_t2 v373 (BitVec.ofNat 32 (16 * r.val))) a + S1x16.size a ≤ S128x128.size a := fun k1_t2 v373 k1_hw10 r => k1_hw10.2.1 r
theorem k1_mult39_dvd : ∀ (k1_t2 : Fin k1_t2_loop.trips) (v373 : BitVec 32) (k1_hw10 : k1_chk10 k1_t2 v373), 16 ∣ (k1_mult39 v373).toNat := fun k1_t2 v373 k1_hw10 => k1_hw10.2.2.1
theorem k1_mult40_dvd : ∀ (k1_t2 : Fin k1_t2_loop.trips) (v373 : BitVec 32) (k1_hw10 : k1_chk10 k1_t2 v373), 16 ∣ (k1_mult40 v373).toNat := fun k1_t2 v373 k1_hw10 => k1_hw10.2.2.2.1
theorem k1_mult41_dvd : ∀ (k1_t2 : Fin k1_t2_loop.trips) (v373 : BitVec 32) (k1_hw10 : k1_chk10 k1_t2 v373), 16 ∣ (k1_mult41 v373).toNat := fun k1_t2 v373 k1_hw10 => k1_hw10.2.2.2.2

def k1_mult42 (v405 : BitVec 32) : BitVec 32 :=
  let c0_i32_97 : BitVec 32 := 0#32
  let v406 : BitVec 32 := Scalar.addi v405 c0_i32_97
  v406

def k1_off13 (k1_t2 : Fin k1_t2_loop.trips) (v405 : BitVec 32) (c0_i32_97 : BitVec 32) : Fin 2 → Nat :=
  let c0_i32_26 : BitVec 32 := 0#32
  let c1_i32_28 : BitVec 32 := 1#32
  let arg22 : BitVec 32 := Scf.iv c0_i32_26 c1_i32_28 k1_t2
  let c16_i32_96 : BitVec 32 := 16#32
  let v402 : BitVec 32 := Scalar.muli arg22 c16_i32_96
  let c10_i32 : BitVec 32 := 10#32
  let v403 : BitVec 32 := Scalar.addi v402 c10_i32
  let v408 : Index := Scalar.indexCast v403
  let v406 : BitVec 32 := Scalar.addi v405 c0_i32_97
  let v407 : BitVec 32 := v406
  let v409 : Index := Scalar.indexCast v407
  ![v408.toNat, v409.toNat]
def k1_mult43 (v405 : BitVec 32) : BitVec 32 :=
  let c16_i32_98 : BitVec 32 := 16#32
  let v413 : BitVec 32 := Scalar.addi v405 c16_i32_98
  v413
def k1_mult44 (v405 : BitVec 32) : BitVec 32 :=
  let c32_i32_99 : BitVec 32 := 32#32
  let v420 : BitVec 32 := Scalar.addi v405 c32_i32_99
  v420
def k1_mult45 (v405 : BitVec 32) : BitVec 32 :=
  let c48_i32_100 : BitVec 32 := 48#32
  let v427 : BitVec 32 := Scalar.addi v405 c48_i32_100
  v427

def k1_chk11 (k1_t2 : Fin k1_t2_loop.trips) (v405 : BitVec 32) : Prop :=
  (16 ∣ (k1_mult42 v405).toNat) ∧
  (∀ (r : Fin 4), ∀ a, (k1_off13 k1_t2 v405 (BitVec.ofNat 32 (16 * r.val))) a + S1x16.size a ≤ S128x128.size a) ∧
  (16 ∣ (k1_mult43 v405).toNat) ∧
  (16 ∣ (k1_mult44 v405).toNat) ∧
  (16 ∣ (k1_mult45 v405).toNat)
theorem k1_mult42_dvd : ∀ (k1_t2 : Fin k1_t2_loop.trips) (v405 : BitVec 32) (k1_hw11 : k1_chk11 k1_t2 v405), 16 ∣ (k1_mult42 v405).toNat := fun k1_t2 v405 k1_hw11 => k1_hw11.1
theorem k1_off13_inb : ∀ (k1_t2 : Fin k1_t2_loop.trips) (v405 : BitVec 32) (k1_hw11 : k1_chk11 k1_t2 v405), ∀ (r : Fin 4), ∀ a, (k1_off13 k1_t2 v405 (BitVec.ofNat 32 (16 * r.val))) a + S1x16.size a ≤ S128x128.size a := fun k1_t2 v405 k1_hw11 r => k1_hw11.2.1 r
theorem k1_mult43_dvd : ∀ (k1_t2 : Fin k1_t2_loop.trips) (v405 : BitVec 32) (k1_hw11 : k1_chk11 k1_t2 v405), 16 ∣ (k1_mult43 v405).toNat := fun k1_t2 v405 k1_hw11 => k1_hw11.2.2.1
theorem k1_mult44_dvd : ∀ (k1_t2 : Fin k1_t2_loop.trips) (v405 : BitVec 32) (k1_hw11 : k1_chk11 k1_t2 v405), 16 ∣ (k1_mult44 v405).toNat := fun k1_t2 v405 k1_hw11 => k1_hw11.2.2.2.1
theorem k1_mult45_dvd : ∀ (k1_t2 : Fin k1_t2_loop.trips) (v405 : BitVec 32) (k1_hw11 : k1_chk11 k1_t2 v405), 16 ∣ (k1_mult45 v405).toNat := fun k1_t2 v405 k1_hw11 => k1_hw11.2.2.2.2

def k1_mult46 (v437 : BitVec 32) : BitVec 32 :=
  let c0_i32_102 : BitVec 32 := 0#32
  let v438 : BitVec 32 := Scalar.addi v437 c0_i32_102
  v438

def k1_off14 (k1_t2 : Fin k1_t2_loop.trips) (v437 : BitVec 32) (c0_i32_102 : BitVec 32) : Fin 2 → Nat :=
  let c0_i32_26 : BitVec 32 := 0#32
  let c1_i32_28 : BitVec 32 := 1#32
  let arg22 : BitVec 32 := Scf.iv c0_i32_26 c1_i32_28 k1_t2
  let c16_i32_101 : BitVec 32 := 16#32
  let v434 : BitVec 32 := Scalar.muli arg22 c16_i32_101
  let c11_i32 : BitVec 32 := 11#32
  let v435 : BitVec 32 := Scalar.addi v434 c11_i32
  let v440 : Index := Scalar.indexCast v435
  let v438 : BitVec 32 := Scalar.addi v437 c0_i32_102
  let v439 : BitVec 32 := v438
  let v441 : Index := Scalar.indexCast v439
  ![v440.toNat, v441.toNat]
def k1_mult47 (v437 : BitVec 32) : BitVec 32 :=
  let c16_i32_103 : BitVec 32 := 16#32
  let v445 : BitVec 32 := Scalar.addi v437 c16_i32_103
  v445
def k1_mult48 (v437 : BitVec 32) : BitVec 32 :=
  let c32_i32_104 : BitVec 32 := 32#32
  let v452 : BitVec 32 := Scalar.addi v437 c32_i32_104
  v452
def k1_mult49 (v437 : BitVec 32) : BitVec 32 :=
  let c48_i32_105 : BitVec 32 := 48#32
  let v459 : BitVec 32 := Scalar.addi v437 c48_i32_105
  v459

def k1_chk12 (k1_t2 : Fin k1_t2_loop.trips) (v437 : BitVec 32) : Prop :=
  (16 ∣ (k1_mult46 v437).toNat) ∧
  (∀ (r : Fin 4), ∀ a, (k1_off14 k1_t2 v437 (BitVec.ofNat 32 (16 * r.val))) a + S1x16.size a ≤ S128x128.size a) ∧
  (16 ∣ (k1_mult47 v437).toNat) ∧
  (16 ∣ (k1_mult48 v437).toNat) ∧
  (16 ∣ (k1_mult49 v437).toNat)
theorem k1_mult46_dvd : ∀ (k1_t2 : Fin k1_t2_loop.trips) (v437 : BitVec 32) (k1_hw12 : k1_chk12 k1_t2 v437), 16 ∣ (k1_mult46 v437).toNat := fun k1_t2 v437 k1_hw12 => k1_hw12.1
theorem k1_off14_inb : ∀ (k1_t2 : Fin k1_t2_loop.trips) (v437 : BitVec 32) (k1_hw12 : k1_chk12 k1_t2 v437), ∀ (r : Fin 4), ∀ a, (k1_off14 k1_t2 v437 (BitVec.ofNat 32 (16 * r.val))) a + S1x16.size a ≤ S128x128.size a := fun k1_t2 v437 k1_hw12 r => k1_hw12.2.1 r
theorem k1_mult47_dvd : ∀ (k1_t2 : Fin k1_t2_loop.trips) (v437 : BitVec 32) (k1_hw12 : k1_chk12 k1_t2 v437), 16 ∣ (k1_mult47 v437).toNat := fun k1_t2 v437 k1_hw12 => k1_hw12.2.2.1
theorem k1_mult48_dvd : ∀ (k1_t2 : Fin k1_t2_loop.trips) (v437 : BitVec 32) (k1_hw12 : k1_chk12 k1_t2 v437), 16 ∣ (k1_mult48 v437).toNat := fun k1_t2 v437 k1_hw12 => k1_hw12.2.2.2.1
theorem k1_mult49_dvd : ∀ (k1_t2 : Fin k1_t2_loop.trips) (v437 : BitVec 32) (k1_hw12 : k1_chk12 k1_t2 v437), 16 ∣ (k1_mult49 v437).toNat := fun k1_t2 v437 k1_hw12 => k1_hw12.2.2.2.2

def k1_mult50 (v469 : BitVec 32) : BitVec 32 :=
  let c0_i32_107 : BitVec 32 := 0#32
  let v470 : BitVec 32 := Scalar.addi v469 c0_i32_107
  v470

def k1_off15 (k1_t2 : Fin k1_t2_loop.trips) (v469 : BitVec 32) (c0_i32_107 : BitVec 32) : Fin 2 → Nat :=
  let c0_i32_26 : BitVec 32 := 0#32
  let c1_i32_28 : BitVec 32 := 1#32
  let arg22 : BitVec 32 := Scf.iv c0_i32_26 c1_i32_28 k1_t2
  let c16_i32_106 : BitVec 32 := 16#32
  let v466 : BitVec 32 := Scalar.muli arg22 c16_i32_106
  let c12_i32 : BitVec 32 := 12#32
  let v467 : BitVec 32 := Scalar.addi v466 c12_i32
  let v472 : Index := Scalar.indexCast v467
  let v470 : BitVec 32 := Scalar.addi v469 c0_i32_107
  let v471 : BitVec 32 := v470
  let v473 : Index := Scalar.indexCast v471
  ![v472.toNat, v473.toNat]
def k1_mult51 (v469 : BitVec 32) : BitVec 32 :=
  let c16_i32_108 : BitVec 32 := 16#32
  let v477 : BitVec 32 := Scalar.addi v469 c16_i32_108
  v477
def k1_mult52 (v469 : BitVec 32) : BitVec 32 :=
  let c32_i32_109 : BitVec 32 := 32#32
  let v484 : BitVec 32 := Scalar.addi v469 c32_i32_109
  v484
def k1_mult53 (v469 : BitVec 32) : BitVec 32 :=
  let c48_i32_110 : BitVec 32 := 48#32
  let v491 : BitVec 32 := Scalar.addi v469 c48_i32_110
  v491

def k1_chk13 (k1_t2 : Fin k1_t2_loop.trips) (v469 : BitVec 32) : Prop :=
  (16 ∣ (k1_mult50 v469).toNat) ∧
  (∀ (r : Fin 4), ∀ a, (k1_off15 k1_t2 v469 (BitVec.ofNat 32 (16 * r.val))) a + S1x16.size a ≤ S128x128.size a) ∧
  (16 ∣ (k1_mult51 v469).toNat) ∧
  (16 ∣ (k1_mult52 v469).toNat) ∧
  (16 ∣ (k1_mult53 v469).toNat)
theorem k1_mult50_dvd : ∀ (k1_t2 : Fin k1_t2_loop.trips) (v469 : BitVec 32) (k1_hw13 : k1_chk13 k1_t2 v469), 16 ∣ (k1_mult50 v469).toNat := fun k1_t2 v469 k1_hw13 => k1_hw13.1
theorem k1_off15_inb : ∀ (k1_t2 : Fin k1_t2_loop.trips) (v469 : BitVec 32) (k1_hw13 : k1_chk13 k1_t2 v469), ∀ (r : Fin 4), ∀ a, (k1_off15 k1_t2 v469 (BitVec.ofNat 32 (16 * r.val))) a + S1x16.size a ≤ S128x128.size a := fun k1_t2 v469 k1_hw13 r => k1_hw13.2.1 r
theorem k1_mult51_dvd : ∀ (k1_t2 : Fin k1_t2_loop.trips) (v469 : BitVec 32) (k1_hw13 : k1_chk13 k1_t2 v469), 16 ∣ (k1_mult51 v469).toNat := fun k1_t2 v469 k1_hw13 => k1_hw13.2.2.1
theorem k1_mult52_dvd : ∀ (k1_t2 : Fin k1_t2_loop.trips) (v469 : BitVec 32) (k1_hw13 : k1_chk13 k1_t2 v469), 16 ∣ (k1_mult52 v469).toNat := fun k1_t2 v469 k1_hw13 => k1_hw13.2.2.2.1
theorem k1_mult53_dvd : ∀ (k1_t2 : Fin k1_t2_loop.trips) (v469 : BitVec 32) (k1_hw13 : k1_chk13 k1_t2 v469), 16 ∣ (k1_mult53 v469).toNat := fun k1_t2 v469 k1_hw13 => k1_hw13.2.2.2.2

def k1_mult54 (v501 : BitVec 32) : BitVec 32 :=
  let c0_i32_112 : BitVec 32 := 0#32
  let v502 : BitVec 32 := Scalar.addi v501 c0_i32_112
  v502

def k1_off16 (k1_t2 : Fin k1_t2_loop.trips) (v501 : BitVec 32) (c0_i32_112 : BitVec 32) : Fin 2 → Nat :=
  let c0_i32_26 : BitVec 32 := 0#32
  let c1_i32_28 : BitVec 32 := 1#32
  let arg22 : BitVec 32 := Scf.iv c0_i32_26 c1_i32_28 k1_t2
  let c16_i32_111 : BitVec 32 := 16#32
  let v498 : BitVec 32 := Scalar.muli arg22 c16_i32_111
  let c13_i32 : BitVec 32 := 13#32
  let v499 : BitVec 32 := Scalar.addi v498 c13_i32
  let v504 : Index := Scalar.indexCast v499
  let v502 : BitVec 32 := Scalar.addi v501 c0_i32_112
  let v503 : BitVec 32 := v502
  let v505 : Index := Scalar.indexCast v503
  ![v504.toNat, v505.toNat]
def k1_mult55 (v501 : BitVec 32) : BitVec 32 :=
  let c16_i32_113 : BitVec 32 := 16#32
  let v509 : BitVec 32 := Scalar.addi v501 c16_i32_113
  v509
def k1_mult56 (v501 : BitVec 32) : BitVec 32 :=
  let c32_i32_114 : BitVec 32 := 32#32
  let v516 : BitVec 32 := Scalar.addi v501 c32_i32_114
  v516
def k1_mult57 (v501 : BitVec 32) : BitVec 32 :=
  let c48_i32_115 : BitVec 32 := 48#32
  let v523 : BitVec 32 := Scalar.addi v501 c48_i32_115
  v523

def k1_chk14 (k1_t2 : Fin k1_t2_loop.trips) (v501 : BitVec 32) : Prop :=
  (16 ∣ (k1_mult54 v501).toNat) ∧
  (∀ (r : Fin 4), ∀ a, (k1_off16 k1_t2 v501 (BitVec.ofNat 32 (16 * r.val))) a + S1x16.size a ≤ S128x128.size a) ∧
  (16 ∣ (k1_mult55 v501).toNat) ∧
  (16 ∣ (k1_mult56 v501).toNat) ∧
  (16 ∣ (k1_mult57 v501).toNat)
theorem k1_mult54_dvd : ∀ (k1_t2 : Fin k1_t2_loop.trips) (v501 : BitVec 32) (k1_hw14 : k1_chk14 k1_t2 v501), 16 ∣ (k1_mult54 v501).toNat := fun k1_t2 v501 k1_hw14 => k1_hw14.1
theorem k1_off16_inb : ∀ (k1_t2 : Fin k1_t2_loop.trips) (v501 : BitVec 32) (k1_hw14 : k1_chk14 k1_t2 v501), ∀ (r : Fin 4), ∀ a, (k1_off16 k1_t2 v501 (BitVec.ofNat 32 (16 * r.val))) a + S1x16.size a ≤ S128x128.size a := fun k1_t2 v501 k1_hw14 r => k1_hw14.2.1 r
theorem k1_mult55_dvd : ∀ (k1_t2 : Fin k1_t2_loop.trips) (v501 : BitVec 32) (k1_hw14 : k1_chk14 k1_t2 v501), 16 ∣ (k1_mult55 v501).toNat := fun k1_t2 v501 k1_hw14 => k1_hw14.2.2.1
theorem k1_mult56_dvd : ∀ (k1_t2 : Fin k1_t2_loop.trips) (v501 : BitVec 32) (k1_hw14 : k1_chk14 k1_t2 v501), 16 ∣ (k1_mult56 v501).toNat := fun k1_t2 v501 k1_hw14 => k1_hw14.2.2.2.1
theorem k1_mult57_dvd : ∀ (k1_t2 : Fin k1_t2_loop.trips) (v501 : BitVec 32) (k1_hw14 : k1_chk14 k1_t2 v501), 16 ∣ (k1_mult57 v501).toNat := fun k1_t2 v501 k1_hw14 => k1_hw14.2.2.2.2

def k1_mult58 (v533 : BitVec 32) : BitVec 32 :=
  let c0_i32_117 : BitVec 32 := 0#32
  let v534 : BitVec 32 := Scalar.addi v533 c0_i32_117
  v534

def k1_off17 (k1_t2 : Fin k1_t2_loop.trips) (v533 : BitVec 32) (c0_i32_117 : BitVec 32) : Fin 2 → Nat :=
  let c0_i32_26 : BitVec 32 := 0#32
  let c1_i32_28 : BitVec 32 := 1#32
  let arg22 : BitVec 32 := Scf.iv c0_i32_26 c1_i32_28 k1_t2
  let c16_i32_116 : BitVec 32 := 16#32
  let v530 : BitVec 32 := Scalar.muli arg22 c16_i32_116
  let c14_i32 : BitVec 32 := 14#32
  let v531 : BitVec 32 := Scalar.addi v530 c14_i32
  let v536 : Index := Scalar.indexCast v531
  let v534 : BitVec 32 := Scalar.addi v533 c0_i32_117
  let v535 : BitVec 32 := v534
  let v537 : Index := Scalar.indexCast v535
  ![v536.toNat, v537.toNat]
def k1_mult59 (v533 : BitVec 32) : BitVec 32 :=
  let c16_i32_118 : BitVec 32 := 16#32
  let v541 : BitVec 32 := Scalar.addi v533 c16_i32_118
  v541
def k1_mult60 (v533 : BitVec 32) : BitVec 32 :=
  let c32_i32_119 : BitVec 32 := 32#32
  let v548 : BitVec 32 := Scalar.addi v533 c32_i32_119
  v548
def k1_mult61 (v533 : BitVec 32) : BitVec 32 :=
  let c48_i32_120 : BitVec 32 := 48#32
  let v555 : BitVec 32 := Scalar.addi v533 c48_i32_120
  v555

def k1_chk15 (k1_t2 : Fin k1_t2_loop.trips) (v533 : BitVec 32) : Prop :=
  (16 ∣ (k1_mult58 v533).toNat) ∧
  (∀ (r : Fin 4), ∀ a, (k1_off17 k1_t2 v533 (BitVec.ofNat 32 (16 * r.val))) a + S1x16.size a ≤ S128x128.size a) ∧
  (16 ∣ (k1_mult59 v533).toNat) ∧
  (16 ∣ (k1_mult60 v533).toNat) ∧
  (16 ∣ (k1_mult61 v533).toNat)
theorem k1_mult58_dvd : ∀ (k1_t2 : Fin k1_t2_loop.trips) (v533 : BitVec 32) (k1_hw15 : k1_chk15 k1_t2 v533), 16 ∣ (k1_mult58 v533).toNat := fun k1_t2 v533 k1_hw15 => k1_hw15.1
theorem k1_off17_inb : ∀ (k1_t2 : Fin k1_t2_loop.trips) (v533 : BitVec 32) (k1_hw15 : k1_chk15 k1_t2 v533), ∀ (r : Fin 4), ∀ a, (k1_off17 k1_t2 v533 (BitVec.ofNat 32 (16 * r.val))) a + S1x16.size a ≤ S128x128.size a := fun k1_t2 v533 k1_hw15 r => k1_hw15.2.1 r
theorem k1_mult59_dvd : ∀ (k1_t2 : Fin k1_t2_loop.trips) (v533 : BitVec 32) (k1_hw15 : k1_chk15 k1_t2 v533), 16 ∣ (k1_mult59 v533).toNat := fun k1_t2 v533 k1_hw15 => k1_hw15.2.2.1
theorem k1_mult60_dvd : ∀ (k1_t2 : Fin k1_t2_loop.trips) (v533 : BitVec 32) (k1_hw15 : k1_chk15 k1_t2 v533), 16 ∣ (k1_mult60 v533).toNat := fun k1_t2 v533 k1_hw15 => k1_hw15.2.2.2.1
theorem k1_mult61_dvd : ∀ (k1_t2 : Fin k1_t2_loop.trips) (v533 : BitVec 32) (k1_hw15 : k1_chk15 k1_t2 v533), 16 ∣ (k1_mult61 v533).toNat := fun k1_t2 v533 k1_hw15 => k1_hw15.2.2.2.2

def k1_mult62 (v565 : BitVec 32) : BitVec 32 :=
  let c0_i32_122 : BitVec 32 := 0#32
  let v566 : BitVec 32 := Scalar.addi v565 c0_i32_122
  v566

def k1_off18 (k1_t2 : Fin k1_t2_loop.trips) (v565 : BitVec 32) (c0_i32_122 : BitVec 32) : Fin 2 → Nat :=
  let c0_i32_26 : BitVec 32 := 0#32
  let c1_i32_28 : BitVec 32 := 1#32
  let arg22 : BitVec 32 := Scf.iv c0_i32_26 c1_i32_28 k1_t2
  let c16_i32_121 : BitVec 32 := 16#32
  let v562 : BitVec 32 := Scalar.muli arg22 c16_i32_121
  let c15_i32 : BitVec 32 := 15#32
  let v563 : BitVec 32 := Scalar.addi v562 c15_i32
  let v568 : Index := Scalar.indexCast v563
  let v566 : BitVec 32 := Scalar.addi v565 c0_i32_122
  let v567 : BitVec 32 := v566
  let v569 : Index := Scalar.indexCast v567
  ![v568.toNat, v569.toNat]
def k1_mult63 (v565 : BitVec 32) : BitVec 32 :=
  let c16_i32_123 : BitVec 32 := 16#32
  let v573 : BitVec 32 := Scalar.addi v565 c16_i32_123
  v573
def k1_mult64 (v565 : BitVec 32) : BitVec 32 :=
  let c32_i32_124 : BitVec 32 := 32#32
  let v580 : BitVec 32 := Scalar.addi v565 c32_i32_124
  v580
def k1_mult65 (v565 : BitVec 32) : BitVec 32 :=
  let c48_i32_125 : BitVec 32 := 48#32
  let v587 : BitVec 32 := Scalar.addi v565 c48_i32_125
  v587

def k1_chk16 (k1_t2 : Fin k1_t2_loop.trips) (v565 : BitVec 32) : Prop :=
  (16 ∣ (k1_mult62 v565).toNat) ∧
  (∀ (r : Fin 4), ∀ a, (k1_off18 k1_t2 v565 (BitVec.ofNat 32 (16 * r.val))) a + S1x16.size a ≤ S128x128.size a) ∧
  (16 ∣ (k1_mult63 v565).toNat) ∧
  (16 ∣ (k1_mult64 v565).toNat) ∧
  (16 ∣ (k1_mult65 v565).toNat)
theorem k1_mult62_dvd : ∀ (k1_t2 : Fin k1_t2_loop.trips) (v565 : BitVec 32) (k1_hw16 : k1_chk16 k1_t2 v565), 16 ∣ (k1_mult62 v565).toNat := fun k1_t2 v565 k1_hw16 => k1_hw16.1
theorem k1_off18_inb : ∀ (k1_t2 : Fin k1_t2_loop.trips) (v565 : BitVec 32) (k1_hw16 : k1_chk16 k1_t2 v565), ∀ (r : Fin 4), ∀ a, (k1_off18 k1_t2 v565 (BitVec.ofNat 32 (16 * r.val))) a + S1x16.size a ≤ S128x128.size a := fun k1_t2 v565 k1_hw16 r => k1_hw16.2.1 r
theorem k1_mult63_dvd : ∀ (k1_t2 : Fin k1_t2_loop.trips) (v565 : BitVec 32) (k1_hw16 : k1_chk16 k1_t2 v565), 16 ∣ (k1_mult63 v565).toNat := fun k1_t2 v565 k1_hw16 => k1_hw16.2.2.1
theorem k1_mult64_dvd : ∀ (k1_t2 : Fin k1_t2_loop.trips) (v565 : BitVec 32) (k1_hw16 : k1_chk16 k1_t2 v565), 16 ∣ (k1_mult64 v565).toNat := fun k1_t2 v565 k1_hw16 => k1_hw16.2.2.2.1
theorem k1_mult65_dvd : ∀ (k1_t2 : Fin k1_t2_loop.trips) (v565 : BitVec 32) (k1_hw16 : k1_chk16 k1_t2 v565), 16 ∣ (k1_mult65 v565).toNat := fun k1_t2 v565 k1_hw16 => k1_hw16.2.2.2.2

def k1_cond1 (k1_t1 : Fin k1_t1_loop.trips) : BitVec 1 :=
  let c0_i32_18 : BitVec 32 := 0#32
  let c1_i32_19 : BitVec 32 := 1#32
  let arg13 : BitVec 32 := Scf.iv c0_i32_18 c1_i32_19 k1_t1
  let c31_i32 : BitVec 32 := 31#32
  let v63 : BitVec 1 := Scalar.cmpi .slt arg13 c31_i32
  let v64 : BitVec 32 := Scalar.extui v63
  let c0_i32_30 : BitVec 32 := 0#32
  let v65 : BitVec 1 := Scalar.cmpi .ne v64 c0_i32_30
  v65

def k1_off19 (k1_t1 : Fin k1_t1_loop.trips) : Fin 2 → Nat :=
  let c2_i32_43 : BitVec 32 := 2#32
  let c0_i32_18 : BitVec 32 := 0#32
  let c1_i32_19 : BitVec 32 := 1#32
  let arg13 : BitVec 32 := Scf.iv c0_i32_18 c1_i32_19 k1_t1
  let v76 : BitVec 32 := Scalar.muli c2_i32_43 arg13
  let c2_i32_44 : BitVec 32 := 2#32
  let v77 : BitVec 32 := Scalar.addi v76 c2_i32_44
  let c0_i32_45 : BitVec 32 := 0#32
  ![v77.toNat, 0]
@[reducible] def k1_t3_loop : Scf.Loop 32 :=
  let c0_i32_37 : BitVec 32 := 0#32
  let c8_i32_38 : BitVec 32 := 8#32
  let v71 : BitVec 32 := Scalar.addi c0_i32_37 c8_i32_38
  let c1_i32_39 : BitVec 32 := 1#32
  ⟨c0_i32_37, v71, c1_i32_39⟩
def k1_mult66 (k1_t3 : Fin k1_t3_loop.trips) : BitVec 32 :=
  let c0_i32_37 : BitVec 32 := 0#32
  let c1_i32_39 : BitVec 32 := 1#32
  let arg22 : BitVec 32 := Scf.iv c0_i32_37 c1_i32_39 k1_t3
  let c16_i32 : BitVec 32 := 16#32
  let v76 : BitVec 32 := Scalar.muli arg22 c16_i32
  v76
def k1_off20 (k1_t1 : Fin k1_t1_loop.trips) (k1_t3 : Fin k1_t3_loop.trips) : Fin 2 → Nat :=
  let c2_i32_35 : BitVec 32 := 2#32
  let c0_i32_18 : BitVec 32 := 0#32
  let c1_i32_19 : BitVec 32 := 1#32
  let arg13 : BitVec 32 := Scf.iv c0_i32_18 c1_i32_19 k1_t1
  let v69 : BitVec 32 := Scalar.muli c2_i32_35 arg13
  let c1_i32_36 : BitVec 32 := 1#32
  let v70 : BitVec 32 := Scalar.addi v69 c1_i32_36
  let v78 : Index := Scalar.indexCast v70
  let c0_i32_37 : BitVec 32 := 0#32
  let c1_i32_39 : BitVec 32 := 1#32
  let arg22 : BitVec 32 := Scf.iv c0_i32_37 c1_i32_39 k1_t3
  let c16_i32 : BitVec 32 := 16#32
  let v76 : BitVec 32 := Scalar.muli arg22 c16_i32
  let v77 : BitVec 32 := v76
  let v79 : Index := Scalar.indexCast v77
  ![v78.toNat, v79.toNat]
def k1_mult67 (v85 : BitVec 32) : BitVec 32 :=
  let c0_i32_45 : BitVec 32 := 0#32
  let v86 : BitVec 32 := Scalar.addi v85 c0_i32_45
  v86

def k1_off21 (k1_t3 : Fin k1_t3_loop.trips) (v85 : BitVec 32) (c0_i32_45 : BitVec 32) : Fin 2 → Nat :=
  let c0_i32_37 : BitVec 32 := 0#32
  let c1_i32_39 : BitVec 32 := 1#32
  let arg22 : BitVec 32 := Scf.iv c0_i32_37 c1_i32_39 k1_t3
  let c16_i32_43 : BitVec 32 := 16#32
  let v82 : BitVec 32 := Scalar.muli arg22 c16_i32_43
  let c0_i32_44 : BitVec 32 := 0#32
  let v83 : BitVec 32 := Scalar.addi v82 c0_i32_44
  let v88 : Index := Scalar.indexCast v83
  let v86 : BitVec 32 := Scalar.addi v85 c0_i32_45
  let v87 : BitVec 32 := v86
  let v89 : Index := Scalar.indexCast v87
  ![v88.toNat, v89.toNat]
def k1_mult68 (v85 : BitVec 32) : BitVec 32 :=
  let c16_i32_46 : BitVec 32 := 16#32
  let v93 : BitVec 32 := Scalar.addi v85 c16_i32_46
  v93
def k1_mult69 (v85 : BitVec 32) : BitVec 32 :=
  let c32_i32_47 : BitVec 32 := 32#32
  let v100 : BitVec 32 := Scalar.addi v85 c32_i32_47
  v100
def k1_mult70 (v85 : BitVec 32) : BitVec 32 :=
  let c48_i32 : BitVec 32 := 48#32
  let v107 : BitVec 32 := Scalar.addi v85 c48_i32
  v107

def k1_chk17 (k1_t3 : Fin k1_t3_loop.trips) (v85 : BitVec 32) : Prop :=
  (16 ∣ (k1_mult67 v85).toNat) ∧
  (∀ (r : Fin 4), ∀ a, (k1_off21 k1_t3 v85 (BitVec.ofNat 32 (16 * r.val))) a + S1x16.size a ≤ S128x128.size a) ∧
  (16 ∣ (k1_mult68 v85).toNat) ∧
  (16 ∣ (k1_mult69 v85).toNat) ∧
  (16 ∣ (k1_mult70 v85).toNat)
theorem k1_mult67_dvd : ∀ (k1_t3 : Fin k1_t3_loop.trips) (v85 : BitVec 32) (k1_hw17 : k1_chk17 k1_t3 v85), 16 ∣ (k1_mult67 v85).toNat := fun k1_t3 v85 k1_hw17 => k1_hw17.1
theorem k1_off21_inb : ∀ (k1_t3 : Fin k1_t3_loop.trips) (v85 : BitVec 32) (k1_hw17 : k1_chk17 k1_t3 v85), ∀ (r : Fin 4), ∀ a, (k1_off21 k1_t3 v85 (BitVec.ofNat 32 (16 * r.val))) a + S1x16.size a ≤ S128x128.size a := fun k1_t3 v85 k1_hw17 r => k1_hw17.2.1 r
theorem k1_mult68_dvd : ∀ (k1_t3 : Fin k1_t3_loop.trips) (v85 : BitVec 32) (k1_hw17 : k1_chk17 k1_t3 v85), 16 ∣ (k1_mult68 v85).toNat := fun k1_t3 v85 k1_hw17 => k1_hw17.2.2.1
theorem k1_mult69_dvd : ∀ (k1_t3 : Fin k1_t3_loop.trips) (v85 : BitVec 32) (k1_hw17 : k1_chk17 k1_t3 v85), 16 ∣ (k1_mult69 v85).toNat := fun k1_t3 v85 k1_hw17 => k1_hw17.2.2.2.1
theorem k1_mult70_dvd : ∀ (k1_t3 : Fin k1_t3_loop.trips) (v85 : BitVec 32) (k1_hw17 : k1_chk17 k1_t3 v85), 16 ∣ (k1_mult70 v85).toNat := fun k1_t3 v85 k1_hw17 => k1_hw17.2.2.2.2

def k1_mult71 (v117 : BitVec 32) : BitVec 32 :=
  let c0_i32_50 : BitVec 32 := 0#32
  let v118 : BitVec 32 := Scalar.addi v117 c0_i32_50
  v118

def k1_off22 (k1_t3 : Fin k1_t3_loop.trips) (v117 : BitVec 32) (c0_i32_50 : BitVec 32) : Fin 2 → Nat :=
  let c0_i32_37 : BitVec 32 := 0#32
  let c1_i32_39 : BitVec 32 := 1#32
  let arg22 : BitVec 32 := Scf.iv c0_i32_37 c1_i32_39 k1_t3
  let c16_i32_48 : BitVec 32 := 16#32
  let v114 : BitVec 32 := Scalar.muli arg22 c16_i32_48
  let c1_i32_49 : BitVec 32 := 1#32
  let v115 : BitVec 32 := Scalar.addi v114 c1_i32_49
  let v120 : Index := Scalar.indexCast v115
  let v118 : BitVec 32 := Scalar.addi v117 c0_i32_50
  let v119 : BitVec 32 := v118
  let v121 : Index := Scalar.indexCast v119
  ![v120.toNat, v121.toNat]
def k1_mult72 (v117 : BitVec 32) : BitVec 32 :=
  let c16_i32_51 : BitVec 32 := 16#32
  let v125 : BitVec 32 := Scalar.addi v117 c16_i32_51
  v125
def k1_mult73 (v117 : BitVec 32) : BitVec 32 :=
  let c32_i32_52 : BitVec 32 := 32#32
  let v132 : BitVec 32 := Scalar.addi v117 c32_i32_52
  v132
def k1_mult74 (v117 : BitVec 32) : BitVec 32 :=
  let c48_i32_53 : BitVec 32 := 48#32
  let v139 : BitVec 32 := Scalar.addi v117 c48_i32_53
  v139

def k1_chk18 (k1_t3 : Fin k1_t3_loop.trips) (v117 : BitVec 32) : Prop :=
  (16 ∣ (k1_mult71 v117).toNat) ∧
  (∀ (r : Fin 4), ∀ a, (k1_off22 k1_t3 v117 (BitVec.ofNat 32 (16 * r.val))) a + S1x16.size a ≤ S128x128.size a) ∧
  (16 ∣ (k1_mult72 v117).toNat) ∧
  (16 ∣ (k1_mult73 v117).toNat) ∧
  (16 ∣ (k1_mult74 v117).toNat)
theorem k1_mult71_dvd : ∀ (k1_t3 : Fin k1_t3_loop.trips) (v117 : BitVec 32) (k1_hw18 : k1_chk18 k1_t3 v117), 16 ∣ (k1_mult71 v117).toNat := fun k1_t3 v117 k1_hw18 => k1_hw18.1
theorem k1_off22_inb : ∀ (k1_t3 : Fin k1_t3_loop.trips) (v117 : BitVec 32) (k1_hw18 : k1_chk18 k1_t3 v117), ∀ (r : Fin 4), ∀ a, (k1_off22 k1_t3 v117 (BitVec.ofNat 32 (16 * r.val))) a + S1x16.size a ≤ S128x128.size a := fun k1_t3 v117 k1_hw18 r => k1_hw18.2.1 r
theorem k1_mult72_dvd : ∀ (k1_t3 : Fin k1_t3_loop.trips) (v117 : BitVec 32) (k1_hw18 : k1_chk18 k1_t3 v117), 16 ∣ (k1_mult72 v117).toNat := fun k1_t3 v117 k1_hw18 => k1_hw18.2.2.1
theorem k1_mult73_dvd : ∀ (k1_t3 : Fin k1_t3_loop.trips) (v117 : BitVec 32) (k1_hw18 : k1_chk18 k1_t3 v117), 16 ∣ (k1_mult73 v117).toNat := fun k1_t3 v117 k1_hw18 => k1_hw18.2.2.2.1
theorem k1_mult74_dvd : ∀ (k1_t3 : Fin k1_t3_loop.trips) (v117 : BitVec 32) (k1_hw18 : k1_chk18 k1_t3 v117), 16 ∣ (k1_mult74 v117).toNat := fun k1_t3 v117 k1_hw18 => k1_hw18.2.2.2.2

def k1_mult75 (v149 : BitVec 32) : BitVec 32 :=
  let c0_i32_56 : BitVec 32 := 0#32
  let v150 : BitVec 32 := Scalar.addi v149 c0_i32_56
  v150

def k1_off23 (k1_t3 : Fin k1_t3_loop.trips) (v149 : BitVec 32) (c0_i32_56 : BitVec 32) : Fin 2 → Nat :=
  let c0_i32_37 : BitVec 32 := 0#32
  let c1_i32_39 : BitVec 32 := 1#32
  let arg22 : BitVec 32 := Scf.iv c0_i32_37 c1_i32_39 k1_t3
  let c16_i32_54 : BitVec 32 := 16#32
  let v146 : BitVec 32 := Scalar.muli arg22 c16_i32_54
  let c2_i32_55 : BitVec 32 := 2#32
  let v147 : BitVec 32 := Scalar.addi v146 c2_i32_55
  let v152 : Index := Scalar.indexCast v147
  let v150 : BitVec 32 := Scalar.addi v149 c0_i32_56
  let v151 : BitVec 32 := v150
  let v153 : Index := Scalar.indexCast v151
  ![v152.toNat, v153.toNat]
def k1_mult76 (v149 : BitVec 32) : BitVec 32 :=
  let c16_i32_57 : BitVec 32 := 16#32
  let v157 : BitVec 32 := Scalar.addi v149 c16_i32_57
  v157
def k1_mult77 (v149 : BitVec 32) : BitVec 32 :=
  let c32_i32_58 : BitVec 32 := 32#32
  let v164 : BitVec 32 := Scalar.addi v149 c32_i32_58
  v164
def k1_mult78 (v149 : BitVec 32) : BitVec 32 :=
  let c48_i32_59 : BitVec 32 := 48#32
  let v171 : BitVec 32 := Scalar.addi v149 c48_i32_59
  v171

def k1_chk19 (k1_t3 : Fin k1_t3_loop.trips) (v149 : BitVec 32) : Prop :=
  (16 ∣ (k1_mult75 v149).toNat) ∧
  (∀ (r : Fin 4), ∀ a, (k1_off23 k1_t3 v149 (BitVec.ofNat 32 (16 * r.val))) a + S1x16.size a ≤ S128x128.size a) ∧
  (16 ∣ (k1_mult76 v149).toNat) ∧
  (16 ∣ (k1_mult77 v149).toNat) ∧
  (16 ∣ (k1_mult78 v149).toNat)
theorem k1_mult75_dvd : ∀ (k1_t3 : Fin k1_t3_loop.trips) (v149 : BitVec 32) (k1_hw19 : k1_chk19 k1_t3 v149), 16 ∣ (k1_mult75 v149).toNat := fun k1_t3 v149 k1_hw19 => k1_hw19.1
theorem k1_off23_inb : ∀ (k1_t3 : Fin k1_t3_loop.trips) (v149 : BitVec 32) (k1_hw19 : k1_chk19 k1_t3 v149), ∀ (r : Fin 4), ∀ a, (k1_off23 k1_t3 v149 (BitVec.ofNat 32 (16 * r.val))) a + S1x16.size a ≤ S128x128.size a := fun k1_t3 v149 k1_hw19 r => k1_hw19.2.1 r
theorem k1_mult76_dvd : ∀ (k1_t3 : Fin k1_t3_loop.trips) (v149 : BitVec 32) (k1_hw19 : k1_chk19 k1_t3 v149), 16 ∣ (k1_mult76 v149).toNat := fun k1_t3 v149 k1_hw19 => k1_hw19.2.2.1
theorem k1_mult77_dvd : ∀ (k1_t3 : Fin k1_t3_loop.trips) (v149 : BitVec 32) (k1_hw19 : k1_chk19 k1_t3 v149), 16 ∣ (k1_mult77 v149).toNat := fun k1_t3 v149 k1_hw19 => k1_hw19.2.2.2.1
theorem k1_mult78_dvd : ∀ (k1_t3 : Fin k1_t3_loop.trips) (v149 : BitVec 32) (k1_hw19 : k1_chk19 k1_t3 v149), 16 ∣ (k1_mult78 v149).toNat := fun k1_t3 v149 k1_hw19 => k1_hw19.2.2.2.2

def k1_mult79 (v181 : BitVec 32) : BitVec 32 :=
  let c0_i32_61 : BitVec 32 := 0#32
  let v182 : BitVec 32 := Scalar.addi v181 c0_i32_61
  v182

def k1_off24 (k1_t3 : Fin k1_t3_loop.trips) (v181 : BitVec 32) (c0_i32_61 : BitVec 32) : Fin 2 → Nat :=
  let c0_i32_37 : BitVec 32 := 0#32
  let c1_i32_39 : BitVec 32 := 1#32
  let arg22 : BitVec 32 := Scf.iv c0_i32_37 c1_i32_39 k1_t3
  let c16_i32_60 : BitVec 32 := 16#32
  let v178 : BitVec 32 := Scalar.muli arg22 c16_i32_60
  let c3_i32 : BitVec 32 := 3#32
  let v179 : BitVec 32 := Scalar.addi v178 c3_i32
  let v184 : Index := Scalar.indexCast v179
  let v182 : BitVec 32 := Scalar.addi v181 c0_i32_61
  let v183 : BitVec 32 := v182
  let v185 : Index := Scalar.indexCast v183
  ![v184.toNat, v185.toNat]
def k1_mult80 (v181 : BitVec 32) : BitVec 32 :=
  let c16_i32_62 : BitVec 32 := 16#32
  let v189 : BitVec 32 := Scalar.addi v181 c16_i32_62
  v189
def k1_mult81 (v181 : BitVec 32) : BitVec 32 :=
  let c32_i32_63 : BitVec 32 := 32#32
  let v196 : BitVec 32 := Scalar.addi v181 c32_i32_63
  v196
def k1_mult82 (v181 : BitVec 32) : BitVec 32 :=
  let c48_i32_64 : BitVec 32 := 48#32
  let v203 : BitVec 32 := Scalar.addi v181 c48_i32_64
  v203

def k1_chk20 (k1_t3 : Fin k1_t3_loop.trips) (v181 : BitVec 32) : Prop :=
  (16 ∣ (k1_mult79 v181).toNat) ∧
  (∀ (r : Fin 4), ∀ a, (k1_off24 k1_t3 v181 (BitVec.ofNat 32 (16 * r.val))) a + S1x16.size a ≤ S128x128.size a) ∧
  (16 ∣ (k1_mult80 v181).toNat) ∧
  (16 ∣ (k1_mult81 v181).toNat) ∧
  (16 ∣ (k1_mult82 v181).toNat)
theorem k1_mult79_dvd : ∀ (k1_t3 : Fin k1_t3_loop.trips) (v181 : BitVec 32) (k1_hw20 : k1_chk20 k1_t3 v181), 16 ∣ (k1_mult79 v181).toNat := fun k1_t3 v181 k1_hw20 => k1_hw20.1
theorem k1_off24_inb : ∀ (k1_t3 : Fin k1_t3_loop.trips) (v181 : BitVec 32) (k1_hw20 : k1_chk20 k1_t3 v181), ∀ (r : Fin 4), ∀ a, (k1_off24 k1_t3 v181 (BitVec.ofNat 32 (16 * r.val))) a + S1x16.size a ≤ S128x128.size a := fun k1_t3 v181 k1_hw20 r => k1_hw20.2.1 r
theorem k1_mult80_dvd : ∀ (k1_t3 : Fin k1_t3_loop.trips) (v181 : BitVec 32) (k1_hw20 : k1_chk20 k1_t3 v181), 16 ∣ (k1_mult80 v181).toNat := fun k1_t3 v181 k1_hw20 => k1_hw20.2.2.1
theorem k1_mult81_dvd : ∀ (k1_t3 : Fin k1_t3_loop.trips) (v181 : BitVec 32) (k1_hw20 : k1_chk20 k1_t3 v181), 16 ∣ (k1_mult81 v181).toNat := fun k1_t3 v181 k1_hw20 => k1_hw20.2.2.2.1
theorem k1_mult82_dvd : ∀ (k1_t3 : Fin k1_t3_loop.trips) (v181 : BitVec 32) (k1_hw20 : k1_chk20 k1_t3 v181), 16 ∣ (k1_mult82 v181).toNat := fun k1_t3 v181 k1_hw20 => k1_hw20.2.2.2.2

def k1_mult83 (v213 : BitVec 32) : BitVec 32 :=
  let c0_i32_66 : BitVec 32 := 0#32
  let v214 : BitVec 32 := Scalar.addi v213 c0_i32_66
  v214

def k1_off25 (k1_t3 : Fin k1_t3_loop.trips) (v213 : BitVec 32) (c0_i32_66 : BitVec 32) : Fin 2 → Nat :=
  let c0_i32_37 : BitVec 32 := 0#32
  let c1_i32_39 : BitVec 32 := 1#32
  let arg22 : BitVec 32 := Scf.iv c0_i32_37 c1_i32_39 k1_t3
  let c16_i32_65 : BitVec 32 := 16#32
  let v210 : BitVec 32 := Scalar.muli arg22 c16_i32_65
  let c4_i32 : BitVec 32 := 4#32
  let v211 : BitVec 32 := Scalar.addi v210 c4_i32
  let v216 : Index := Scalar.indexCast v211
  let v214 : BitVec 32 := Scalar.addi v213 c0_i32_66
  let v215 : BitVec 32 := v214
  let v217 : Index := Scalar.indexCast v215
  ![v216.toNat, v217.toNat]
def k1_mult84 (v213 : BitVec 32) : BitVec 32 :=
  let c16_i32_67 : BitVec 32 := 16#32
  let v221 : BitVec 32 := Scalar.addi v213 c16_i32_67
  v221
def k1_mult85 (v213 : BitVec 32) : BitVec 32 :=
  let c32_i32_68 : BitVec 32 := 32#32
  let v228 : BitVec 32 := Scalar.addi v213 c32_i32_68
  v228
def k1_mult86 (v213 : BitVec 32) : BitVec 32 :=
  let c48_i32_69 : BitVec 32 := 48#32
  let v235 : BitVec 32 := Scalar.addi v213 c48_i32_69
  v235

def k1_chk21 (k1_t3 : Fin k1_t3_loop.trips) (v213 : BitVec 32) : Prop :=
  (16 ∣ (k1_mult83 v213).toNat) ∧
  (∀ (r : Fin 4), ∀ a, (k1_off25 k1_t3 v213 (BitVec.ofNat 32 (16 * r.val))) a + S1x16.size a ≤ S128x128.size a) ∧
  (16 ∣ (k1_mult84 v213).toNat) ∧
  (16 ∣ (k1_mult85 v213).toNat) ∧
  (16 ∣ (k1_mult86 v213).toNat)
theorem k1_mult83_dvd : ∀ (k1_t3 : Fin k1_t3_loop.trips) (v213 : BitVec 32) (k1_hw21 : k1_chk21 k1_t3 v213), 16 ∣ (k1_mult83 v213).toNat := fun k1_t3 v213 k1_hw21 => k1_hw21.1
theorem k1_off25_inb : ∀ (k1_t3 : Fin k1_t3_loop.trips) (v213 : BitVec 32) (k1_hw21 : k1_chk21 k1_t3 v213), ∀ (r : Fin 4), ∀ a, (k1_off25 k1_t3 v213 (BitVec.ofNat 32 (16 * r.val))) a + S1x16.size a ≤ S128x128.size a := fun k1_t3 v213 k1_hw21 r => k1_hw21.2.1 r
theorem k1_mult84_dvd : ∀ (k1_t3 : Fin k1_t3_loop.trips) (v213 : BitVec 32) (k1_hw21 : k1_chk21 k1_t3 v213), 16 ∣ (k1_mult84 v213).toNat := fun k1_t3 v213 k1_hw21 => k1_hw21.2.2.1
theorem k1_mult85_dvd : ∀ (k1_t3 : Fin k1_t3_loop.trips) (v213 : BitVec 32) (k1_hw21 : k1_chk21 k1_t3 v213), 16 ∣ (k1_mult85 v213).toNat := fun k1_t3 v213 k1_hw21 => k1_hw21.2.2.2.1
theorem k1_mult86_dvd : ∀ (k1_t3 : Fin k1_t3_loop.trips) (v213 : BitVec 32) (k1_hw21 : k1_chk21 k1_t3 v213), 16 ∣ (k1_mult86 v213).toNat := fun k1_t3 v213 k1_hw21 => k1_hw21.2.2.2.2

def k1_mult87 (v245 : BitVec 32) : BitVec 32 :=
  let c0_i32_71 : BitVec 32 := 0#32
  let v246 : BitVec 32 := Scalar.addi v245 c0_i32_71
  v246

def k1_off26 (k1_t3 : Fin k1_t3_loop.trips) (v245 : BitVec 32) (c0_i32_71 : BitVec 32) : Fin 2 → Nat :=
  let c0_i32_37 : BitVec 32 := 0#32
  let c1_i32_39 : BitVec 32 := 1#32
  let arg22 : BitVec 32 := Scf.iv c0_i32_37 c1_i32_39 k1_t3
  let c16_i32_70 : BitVec 32 := 16#32
  let v242 : BitVec 32 := Scalar.muli arg22 c16_i32_70
  let c5_i32 : BitVec 32 := 5#32
  let v243 : BitVec 32 := Scalar.addi v242 c5_i32
  let v248 : Index := Scalar.indexCast v243
  let v246 : BitVec 32 := Scalar.addi v245 c0_i32_71
  let v247 : BitVec 32 := v246
  let v249 : Index := Scalar.indexCast v247
  ![v248.toNat, v249.toNat]
def k1_mult88 (v245 : BitVec 32) : BitVec 32 :=
  let c16_i32_72 : BitVec 32 := 16#32
  let v253 : BitVec 32 := Scalar.addi v245 c16_i32_72
  v253
def k1_mult89 (v245 : BitVec 32) : BitVec 32 :=
  let c32_i32_73 : BitVec 32 := 32#32
  let v260 : BitVec 32 := Scalar.addi v245 c32_i32_73
  v260
def k1_mult90 (v245 : BitVec 32) : BitVec 32 :=
  let c48_i32_74 : BitVec 32 := 48#32
  let v267 : BitVec 32 := Scalar.addi v245 c48_i32_74
  v267

def k1_chk22 (k1_t3 : Fin k1_t3_loop.trips) (v245 : BitVec 32) : Prop :=
  (16 ∣ (k1_mult87 v245).toNat) ∧
  (∀ (r : Fin 4), ∀ a, (k1_off26 k1_t3 v245 (BitVec.ofNat 32 (16 * r.val))) a + S1x16.size a ≤ S128x128.size a) ∧
  (16 ∣ (k1_mult88 v245).toNat) ∧
  (16 ∣ (k1_mult89 v245).toNat) ∧
  (16 ∣ (k1_mult90 v245).toNat)
theorem k1_mult87_dvd : ∀ (k1_t3 : Fin k1_t3_loop.trips) (v245 : BitVec 32) (k1_hw22 : k1_chk22 k1_t3 v245), 16 ∣ (k1_mult87 v245).toNat := fun k1_t3 v245 k1_hw22 => k1_hw22.1
theorem k1_off26_inb : ∀ (k1_t3 : Fin k1_t3_loop.trips) (v245 : BitVec 32) (k1_hw22 : k1_chk22 k1_t3 v245), ∀ (r : Fin 4), ∀ a, (k1_off26 k1_t3 v245 (BitVec.ofNat 32 (16 * r.val))) a + S1x16.size a ≤ S128x128.size a := fun k1_t3 v245 k1_hw22 r => k1_hw22.2.1 r
theorem k1_mult88_dvd : ∀ (k1_t3 : Fin k1_t3_loop.trips) (v245 : BitVec 32) (k1_hw22 : k1_chk22 k1_t3 v245), 16 ∣ (k1_mult88 v245).toNat := fun k1_t3 v245 k1_hw22 => k1_hw22.2.2.1
theorem k1_mult89_dvd : ∀ (k1_t3 : Fin k1_t3_loop.trips) (v245 : BitVec 32) (k1_hw22 : k1_chk22 k1_t3 v245), 16 ∣ (k1_mult89 v245).toNat := fun k1_t3 v245 k1_hw22 => k1_hw22.2.2.2.1
theorem k1_mult90_dvd : ∀ (k1_t3 : Fin k1_t3_loop.trips) (v245 : BitVec 32) (k1_hw22 : k1_chk22 k1_t3 v245), 16 ∣ (k1_mult90 v245).toNat := fun k1_t3 v245 k1_hw22 => k1_hw22.2.2.2.2

def k1_mult91 (v277 : BitVec 32) : BitVec 32 :=
  let c0_i32_76 : BitVec 32 := 0#32
  let v278 : BitVec 32 := Scalar.addi v277 c0_i32_76
  v278

def k1_off27 (k1_t3 : Fin k1_t3_loop.trips) (v277 : BitVec 32) (c0_i32_76 : BitVec 32) : Fin 2 → Nat :=
  let c0_i32_37 : BitVec 32 := 0#32
  let c1_i32_39 : BitVec 32 := 1#32
  let arg22 : BitVec 32 := Scf.iv c0_i32_37 c1_i32_39 k1_t3
  let c16_i32_75 : BitVec 32 := 16#32
  let v274 : BitVec 32 := Scalar.muli arg22 c16_i32_75
  let c6_i32 : BitVec 32 := 6#32
  let v275 : BitVec 32 := Scalar.addi v274 c6_i32
  let v280 : Index := Scalar.indexCast v275
  let v278 : BitVec 32 := Scalar.addi v277 c0_i32_76
  let v279 : BitVec 32 := v278
  let v281 : Index := Scalar.indexCast v279
  ![v280.toNat, v281.toNat]
def k1_mult92 (v277 : BitVec 32) : BitVec 32 :=
  let c16_i32_77 : BitVec 32 := 16#32
  let v285 : BitVec 32 := Scalar.addi v277 c16_i32_77
  v285
def k1_mult93 (v277 : BitVec 32) : BitVec 32 :=
  let c32_i32_78 : BitVec 32 := 32#32
  let v292 : BitVec 32 := Scalar.addi v277 c32_i32_78
  v292
def k1_mult94 (v277 : BitVec 32) : BitVec 32 :=
  let c48_i32_79 : BitVec 32 := 48#32
  let v299 : BitVec 32 := Scalar.addi v277 c48_i32_79
  v299

def k1_chk23 (k1_t3 : Fin k1_t3_loop.trips) (v277 : BitVec 32) : Prop :=
  (16 ∣ (k1_mult91 v277).toNat) ∧
  (∀ (r : Fin 4), ∀ a, (k1_off27 k1_t3 v277 (BitVec.ofNat 32 (16 * r.val))) a + S1x16.size a ≤ S128x128.size a) ∧
  (16 ∣ (k1_mult92 v277).toNat) ∧
  (16 ∣ (k1_mult93 v277).toNat) ∧
  (16 ∣ (k1_mult94 v277).toNat)
theorem k1_mult91_dvd : ∀ (k1_t3 : Fin k1_t3_loop.trips) (v277 : BitVec 32) (k1_hw23 : k1_chk23 k1_t3 v277), 16 ∣ (k1_mult91 v277).toNat := fun k1_t3 v277 k1_hw23 => k1_hw23.1
theorem k1_off27_inb : ∀ (k1_t3 : Fin k1_t3_loop.trips) (v277 : BitVec 32) (k1_hw23 : k1_chk23 k1_t3 v277), ∀ (r : Fin 4), ∀ a, (k1_off27 k1_t3 v277 (BitVec.ofNat 32 (16 * r.val))) a + S1x16.size a ≤ S128x128.size a := fun k1_t3 v277 k1_hw23 r => k1_hw23.2.1 r
theorem k1_mult92_dvd : ∀ (k1_t3 : Fin k1_t3_loop.trips) (v277 : BitVec 32) (k1_hw23 : k1_chk23 k1_t3 v277), 16 ∣ (k1_mult92 v277).toNat := fun k1_t3 v277 k1_hw23 => k1_hw23.2.2.1
theorem k1_mult93_dvd : ∀ (k1_t3 : Fin k1_t3_loop.trips) (v277 : BitVec 32) (k1_hw23 : k1_chk23 k1_t3 v277), 16 ∣ (k1_mult93 v277).toNat := fun k1_t3 v277 k1_hw23 => k1_hw23.2.2.2.1
theorem k1_mult94_dvd : ∀ (k1_t3 : Fin k1_t3_loop.trips) (v277 : BitVec 32) (k1_hw23 : k1_chk23 k1_t3 v277), 16 ∣ (k1_mult94 v277).toNat := fun k1_t3 v277 k1_hw23 => k1_hw23.2.2.2.2

def k1_mult95 (v309 : BitVec 32) : BitVec 32 :=
  let c0_i32_81 : BitVec 32 := 0#32
  let v310 : BitVec 32 := Scalar.addi v309 c0_i32_81
  v310

def k1_off28 (k1_t3 : Fin k1_t3_loop.trips) (v309 : BitVec 32) (c0_i32_81 : BitVec 32) : Fin 2 → Nat :=
  let c0_i32_37 : BitVec 32 := 0#32
  let c1_i32_39 : BitVec 32 := 1#32
  let arg22 : BitVec 32 := Scf.iv c0_i32_37 c1_i32_39 k1_t3
  let c16_i32_80 : BitVec 32 := 16#32
  let v306 : BitVec 32 := Scalar.muli arg22 c16_i32_80
  let c7_i32 : BitVec 32 := 7#32
  let v307 : BitVec 32 := Scalar.addi v306 c7_i32
  let v312 : Index := Scalar.indexCast v307
  let v310 : BitVec 32 := Scalar.addi v309 c0_i32_81
  let v311 : BitVec 32 := v310
  let v313 : Index := Scalar.indexCast v311
  ![v312.toNat, v313.toNat]
def k1_mult96 (v309 : BitVec 32) : BitVec 32 :=
  let c16_i32_82 : BitVec 32 := 16#32
  let v317 : BitVec 32 := Scalar.addi v309 c16_i32_82
  v317
def k1_mult97 (v309 : BitVec 32) : BitVec 32 :=
  let c32_i32_83 : BitVec 32 := 32#32
  let v324 : BitVec 32 := Scalar.addi v309 c32_i32_83
  v324
def k1_mult98 (v309 : BitVec 32) : BitVec 32 :=
  let c48_i32_84 : BitVec 32 := 48#32
  let v331 : BitVec 32 := Scalar.addi v309 c48_i32_84
  v331

def k1_chk24 (k1_t3 : Fin k1_t3_loop.trips) (v309 : BitVec 32) : Prop :=
  (16 ∣ (k1_mult95 v309).toNat) ∧
  (∀ (r : Fin 4), ∀ a, (k1_off28 k1_t3 v309 (BitVec.ofNat 32 (16 * r.val))) a + S1x16.size a ≤ S128x128.size a) ∧
  (16 ∣ (k1_mult96 v309).toNat) ∧
  (16 ∣ (k1_mult97 v309).toNat) ∧
  (16 ∣ (k1_mult98 v309).toNat)
theorem k1_mult95_dvd : ∀ (k1_t3 : Fin k1_t3_loop.trips) (v309 : BitVec 32) (k1_hw24 : k1_chk24 k1_t3 v309), 16 ∣ (k1_mult95 v309).toNat := fun k1_t3 v309 k1_hw24 => k1_hw24.1
theorem k1_off28_inb : ∀ (k1_t3 : Fin k1_t3_loop.trips) (v309 : BitVec 32) (k1_hw24 : k1_chk24 k1_t3 v309), ∀ (r : Fin 4), ∀ a, (k1_off28 k1_t3 v309 (BitVec.ofNat 32 (16 * r.val))) a + S1x16.size a ≤ S128x128.size a := fun k1_t3 v309 k1_hw24 r => k1_hw24.2.1 r
theorem k1_mult96_dvd : ∀ (k1_t3 : Fin k1_t3_loop.trips) (v309 : BitVec 32) (k1_hw24 : k1_chk24 k1_t3 v309), 16 ∣ (k1_mult96 v309).toNat := fun k1_t3 v309 k1_hw24 => k1_hw24.2.2.1
theorem k1_mult97_dvd : ∀ (k1_t3 : Fin k1_t3_loop.trips) (v309 : BitVec 32) (k1_hw24 : k1_chk24 k1_t3 v309), 16 ∣ (k1_mult97 v309).toNat := fun k1_t3 v309 k1_hw24 => k1_hw24.2.2.2.1
theorem k1_mult98_dvd : ∀ (k1_t3 : Fin k1_t3_loop.trips) (v309 : BitVec 32) (k1_hw24 : k1_chk24 k1_t3 v309), 16 ∣ (k1_mult98 v309).toNat := fun k1_t3 v309 k1_hw24 => k1_hw24.2.2.2.2

def k1_mult99 (v341 : BitVec 32) : BitVec 32 :=
  let c0_i32_87 : BitVec 32 := 0#32
  let v342 : BitVec 32 := Scalar.addi v341 c0_i32_87
  v342

def k1_off29 (k1_t3 : Fin k1_t3_loop.trips) (v341 : BitVec 32) (c0_i32_87 : BitVec 32) : Fin 2 → Nat :=
  let c0_i32_37 : BitVec 32 := 0#32
  let c1_i32_39 : BitVec 32 := 1#32
  let arg22 : BitVec 32 := Scf.iv c0_i32_37 c1_i32_39 k1_t3
  let c16_i32_85 : BitVec 32 := 16#32
  let v338 : BitVec 32 := Scalar.muli arg22 c16_i32_85
  let c8_i32_86 : BitVec 32 := 8#32
  let v339 : BitVec 32 := Scalar.addi v338 c8_i32_86
  let v344 : Index := Scalar.indexCast v339
  let v342 : BitVec 32 := Scalar.addi v341 c0_i32_87
  let v343 : BitVec 32 := v342
  let v345 : Index := Scalar.indexCast v343
  ![v344.toNat, v345.toNat]
def k1_mult100 (v341 : BitVec 32) : BitVec 32 :=
  let c16_i32_88 : BitVec 32 := 16#32
  let v349 : BitVec 32 := Scalar.addi v341 c16_i32_88
  v349
def k1_mult101 (v341 : BitVec 32) : BitVec 32 :=
  let c32_i32_89 : BitVec 32 := 32#32
  let v356 : BitVec 32 := Scalar.addi v341 c32_i32_89
  v356
def k1_mult102 (v341 : BitVec 32) : BitVec 32 :=
  let c48_i32_90 : BitVec 32 := 48#32
  let v363 : BitVec 32 := Scalar.addi v341 c48_i32_90
  v363

def k1_chk25 (k1_t3 : Fin k1_t3_loop.trips) (v341 : BitVec 32) : Prop :=
  (16 ∣ (k1_mult99 v341).toNat) ∧
  (∀ (r : Fin 4), ∀ a, (k1_off29 k1_t3 v341 (BitVec.ofNat 32 (16 * r.val))) a + S1x16.size a ≤ S128x128.size a) ∧
  (16 ∣ (k1_mult100 v341).toNat) ∧
  (16 ∣ (k1_mult101 v341).toNat) ∧
  (16 ∣ (k1_mult102 v341).toNat)
theorem k1_mult99_dvd : ∀ (k1_t3 : Fin k1_t3_loop.trips) (v341 : BitVec 32) (k1_hw25 : k1_chk25 k1_t3 v341), 16 ∣ (k1_mult99 v341).toNat := fun k1_t3 v341 k1_hw25 => k1_hw25.1
theorem k1_off29_inb : ∀ (k1_t3 : Fin k1_t3_loop.trips) (v341 : BitVec 32) (k1_hw25 : k1_chk25 k1_t3 v341), ∀ (r : Fin 4), ∀ a, (k1_off29 k1_t3 v341 (BitVec.ofNat 32 (16 * r.val))) a + S1x16.size a ≤ S128x128.size a := fun k1_t3 v341 k1_hw25 r => k1_hw25.2.1 r
theorem k1_mult100_dvd : ∀ (k1_t3 : Fin k1_t3_loop.trips) (v341 : BitVec 32) (k1_hw25 : k1_chk25 k1_t3 v341), 16 ∣ (k1_mult100 v341).toNat := fun k1_t3 v341 k1_hw25 => k1_hw25.2.2.1
theorem k1_mult101_dvd : ∀ (k1_t3 : Fin k1_t3_loop.trips) (v341 : BitVec 32) (k1_hw25 : k1_chk25 k1_t3 v341), 16 ∣ (k1_mult101 v341).toNat := fun k1_t3 v341 k1_hw25 => k1_hw25.2.2.2.1
theorem k1_mult102_dvd : ∀ (k1_t3 : Fin k1_t3_loop.trips) (v341 : BitVec 32) (k1_hw25 : k1_chk25 k1_t3 v341), 16 ∣ (k1_mult102 v341).toNat := fun k1_t3 v341 k1_hw25 => k1_hw25.2.2.2.2

def k1_mult103 (v373 : BitVec 32) : BitVec 32 :=
  let c0_i32_92 : BitVec 32 := 0#32
  let v374 : BitVec 32 := Scalar.addi v373 c0_i32_92
  v374

def k1_off30 (k1_t3 : Fin k1_t3_loop.trips) (v373 : BitVec 32) (c0_i32_92 : BitVec 32) : Fin 2 → Nat :=
  let c0_i32_37 : BitVec 32 := 0#32
  let c1_i32_39 : BitVec 32 := 1#32
  let arg22 : BitVec 32 := Scf.iv c0_i32_37 c1_i32_39 k1_t3
  let c16_i32_91 : BitVec 32 := 16#32
  let v370 : BitVec 32 := Scalar.muli arg22 c16_i32_91
  let c9_i32 : BitVec 32 := 9#32
  let v371 : BitVec 32 := Scalar.addi v370 c9_i32
  let v376 : Index := Scalar.indexCast v371
  let v374 : BitVec 32 := Scalar.addi v373 c0_i32_92
  let v375 : BitVec 32 := v374
  let v377 : Index := Scalar.indexCast v375
  ![v376.toNat, v377.toNat]
def k1_mult104 (v373 : BitVec 32) : BitVec 32 :=
  let c16_i32_93 : BitVec 32 := 16#32
  let v381 : BitVec 32 := Scalar.addi v373 c16_i32_93
  v381
def k1_mult105 (v373 : BitVec 32) : BitVec 32 :=
  let c32_i32_94 : BitVec 32 := 32#32
  let v388 : BitVec 32 := Scalar.addi v373 c32_i32_94
  v388
def k1_mult106 (v373 : BitVec 32) : BitVec 32 :=
  let c48_i32_95 : BitVec 32 := 48#32
  let v395 : BitVec 32 := Scalar.addi v373 c48_i32_95
  v395

def k1_chk26 (k1_t3 : Fin k1_t3_loop.trips) (v373 : BitVec 32) : Prop :=
  (16 ∣ (k1_mult103 v373).toNat) ∧
  (∀ (r : Fin 4), ∀ a, (k1_off30 k1_t3 v373 (BitVec.ofNat 32 (16 * r.val))) a + S1x16.size a ≤ S128x128.size a) ∧
  (16 ∣ (k1_mult104 v373).toNat) ∧
  (16 ∣ (k1_mult105 v373).toNat) ∧
  (16 ∣ (k1_mult106 v373).toNat)
theorem k1_mult103_dvd : ∀ (k1_t3 : Fin k1_t3_loop.trips) (v373 : BitVec 32) (k1_hw26 : k1_chk26 k1_t3 v373), 16 ∣ (k1_mult103 v373).toNat := fun k1_t3 v373 k1_hw26 => k1_hw26.1
theorem k1_off30_inb : ∀ (k1_t3 : Fin k1_t3_loop.trips) (v373 : BitVec 32) (k1_hw26 : k1_chk26 k1_t3 v373), ∀ (r : Fin 4), ∀ a, (k1_off30 k1_t3 v373 (BitVec.ofNat 32 (16 * r.val))) a + S1x16.size a ≤ S128x128.size a := fun k1_t3 v373 k1_hw26 r => k1_hw26.2.1 r
theorem k1_mult104_dvd : ∀ (k1_t3 : Fin k1_t3_loop.trips) (v373 : BitVec 32) (k1_hw26 : k1_chk26 k1_t3 v373), 16 ∣ (k1_mult104 v373).toNat := fun k1_t3 v373 k1_hw26 => k1_hw26.2.2.1
theorem k1_mult105_dvd : ∀ (k1_t3 : Fin k1_t3_loop.trips) (v373 : BitVec 32) (k1_hw26 : k1_chk26 k1_t3 v373), 16 ∣ (k1_mult105 v373).toNat := fun k1_t3 v373 k1_hw26 => k1_hw26.2.2.2.1
theorem k1_mult106_dvd : ∀ (k1_t3 : Fin k1_t3_loop.trips) (v373 : BitVec 32) (k1_hw26 : k1_chk26 k1_t3 v373), 16 ∣ (k1_mult106 v373).toNat := fun k1_t3 v373 k1_hw26 => k1_hw26.2.2.2.2

def k1_mult107 (v405 : BitVec 32) : BitVec 32 :=
  let c0_i32_97 : BitVec 32 := 0#32
  let v406 : BitVec 32 := Scalar.addi v405 c0_i32_97
  v406

def k1_off31 (k1_t3 : Fin k1_t3_loop.trips) (v405 : BitVec 32) (c0_i32_97 : BitVec 32) : Fin 2 → Nat :=
  let c0_i32_37 : BitVec 32 := 0#32
  let c1_i32_39 : BitVec 32 := 1#32
  let arg22 : BitVec 32 := Scf.iv c0_i32_37 c1_i32_39 k1_t3
  let c16_i32_96 : BitVec 32 := 16#32
  let v402 : BitVec 32 := Scalar.muli arg22 c16_i32_96
  let c10_i32 : BitVec 32 := 10#32
  let v403 : BitVec 32 := Scalar.addi v402 c10_i32
  let v408 : Index := Scalar.indexCast v403
  let v406 : BitVec 32 := Scalar.addi v405 c0_i32_97
  let v407 : BitVec 32 := v406
  let v409 : Index := Scalar.indexCast v407
  ![v408.toNat, v409.toNat]
def k1_mult108 (v405 : BitVec 32) : BitVec 32 :=
  let c16_i32_98 : BitVec 32 := 16#32
  let v413 : BitVec 32 := Scalar.addi v405 c16_i32_98
  v413
def k1_mult109 (v405 : BitVec 32) : BitVec 32 :=
  let c32_i32_99 : BitVec 32 := 32#32
  let v420 : BitVec 32 := Scalar.addi v405 c32_i32_99
  v420
def k1_mult110 (v405 : BitVec 32) : BitVec 32 :=
  let c48_i32_100 : BitVec 32 := 48#32
  let v427 : BitVec 32 := Scalar.addi v405 c48_i32_100
  v427

def k1_chk27 (k1_t3 : Fin k1_t3_loop.trips) (v405 : BitVec 32) : Prop :=
  (16 ∣ (k1_mult107 v405).toNat) ∧
  (∀ (r : Fin 4), ∀ a, (k1_off31 k1_t3 v405 (BitVec.ofNat 32 (16 * r.val))) a + S1x16.size a ≤ S128x128.size a) ∧
  (16 ∣ (k1_mult108 v405).toNat) ∧
  (16 ∣ (k1_mult109 v405).toNat) ∧
  (16 ∣ (k1_mult110 v405).toNat)
theorem k1_mult107_dvd : ∀ (k1_t3 : Fin k1_t3_loop.trips) (v405 : BitVec 32) (k1_hw27 : k1_chk27 k1_t3 v405), 16 ∣ (k1_mult107 v405).toNat := fun k1_t3 v405 k1_hw27 => k1_hw27.1
theorem k1_off31_inb : ∀ (k1_t3 : Fin k1_t3_loop.trips) (v405 : BitVec 32) (k1_hw27 : k1_chk27 k1_t3 v405), ∀ (r : Fin 4), ∀ a, (k1_off31 k1_t3 v405 (BitVec.ofNat 32 (16 * r.val))) a + S1x16.size a ≤ S128x128.size a := fun k1_t3 v405 k1_hw27 r => k1_hw27.2.1 r
theorem k1_mult108_dvd : ∀ (k1_t3 : Fin k1_t3_loop.trips) (v405 : BitVec 32) (k1_hw27 : k1_chk27 k1_t3 v405), 16 ∣ (k1_mult108 v405).toNat := fun k1_t3 v405 k1_hw27 => k1_hw27.2.2.1
theorem k1_mult109_dvd : ∀ (k1_t3 : Fin k1_t3_loop.trips) (v405 : BitVec 32) (k1_hw27 : k1_chk27 k1_t3 v405), 16 ∣ (k1_mult109 v405).toNat := fun k1_t3 v405 k1_hw27 => k1_hw27.2.2.2.1
theorem k1_mult110_dvd : ∀ (k1_t3 : Fin k1_t3_loop.trips) (v405 : BitVec 32) (k1_hw27 : k1_chk27 k1_t3 v405), 16 ∣ (k1_mult110 v405).toNat := fun k1_t3 v405 k1_hw27 => k1_hw27.2.2.2.2

def k1_mult111 (v437 : BitVec 32) : BitVec 32 :=
  let c0_i32_102 : BitVec 32 := 0#32
  let v438 : BitVec 32 := Scalar.addi v437 c0_i32_102
  v438

def k1_off32 (k1_t3 : Fin k1_t3_loop.trips) (v437 : BitVec 32) (c0_i32_102 : BitVec 32) : Fin 2 → Nat :=
  let c0_i32_37 : BitVec 32 := 0#32
  let c1_i32_39 : BitVec 32 := 1#32
  let arg22 : BitVec 32 := Scf.iv c0_i32_37 c1_i32_39 k1_t3
  let c16_i32_101 : BitVec 32 := 16#32
  let v434 : BitVec 32 := Scalar.muli arg22 c16_i32_101
  let c11_i32 : BitVec 32 := 11#32
  let v435 : BitVec 32 := Scalar.addi v434 c11_i32
  let v440 : Index := Scalar.indexCast v435
  let v438 : BitVec 32 := Scalar.addi v437 c0_i32_102
  let v439 : BitVec 32 := v438
  let v441 : Index := Scalar.indexCast v439
  ![v440.toNat, v441.toNat]
def k1_mult112 (v437 : BitVec 32) : BitVec 32 :=
  let c16_i32_103 : BitVec 32 := 16#32
  let v445 : BitVec 32 := Scalar.addi v437 c16_i32_103
  v445
def k1_mult113 (v437 : BitVec 32) : BitVec 32 :=
  let c32_i32_104 : BitVec 32 := 32#32
  let v452 : BitVec 32 := Scalar.addi v437 c32_i32_104
  v452
def k1_mult114 (v437 : BitVec 32) : BitVec 32 :=
  let c48_i32_105 : BitVec 32 := 48#32
  let v459 : BitVec 32 := Scalar.addi v437 c48_i32_105
  v459

def k1_chk28 (k1_t3 : Fin k1_t3_loop.trips) (v437 : BitVec 32) : Prop :=
  (16 ∣ (k1_mult111 v437).toNat) ∧
  (∀ (r : Fin 4), ∀ a, (k1_off32 k1_t3 v437 (BitVec.ofNat 32 (16 * r.val))) a + S1x16.size a ≤ S128x128.size a) ∧
  (16 ∣ (k1_mult112 v437).toNat) ∧
  (16 ∣ (k1_mult113 v437).toNat) ∧
  (16 ∣ (k1_mult114 v437).toNat)
theorem k1_mult111_dvd : ∀ (k1_t3 : Fin k1_t3_loop.trips) (v437 : BitVec 32) (k1_hw28 : k1_chk28 k1_t3 v437), 16 ∣ (k1_mult111 v437).toNat := fun k1_t3 v437 k1_hw28 => k1_hw28.1
theorem k1_off32_inb : ∀ (k1_t3 : Fin k1_t3_loop.trips) (v437 : BitVec 32) (k1_hw28 : k1_chk28 k1_t3 v437), ∀ (r : Fin 4), ∀ a, (k1_off32 k1_t3 v437 (BitVec.ofNat 32 (16 * r.val))) a + S1x16.size a ≤ S128x128.size a := fun k1_t3 v437 k1_hw28 r => k1_hw28.2.1 r
theorem k1_mult112_dvd : ∀ (k1_t3 : Fin k1_t3_loop.trips) (v437 : BitVec 32) (k1_hw28 : k1_chk28 k1_t3 v437), 16 ∣ (k1_mult112 v437).toNat := fun k1_t3 v437 k1_hw28 => k1_hw28.2.2.1
theorem k1_mult113_dvd : ∀ (k1_t3 : Fin k1_t3_loop.trips) (v437 : BitVec 32) (k1_hw28 : k1_chk28 k1_t3 v437), 16 ∣ (k1_mult113 v437).toNat := fun k1_t3 v437 k1_hw28 => k1_hw28.2.2.2.1
theorem k1_mult114_dvd : ∀ (k1_t3 : Fin k1_t3_loop.trips) (v437 : BitVec 32) (k1_hw28 : k1_chk28 k1_t3 v437), 16 ∣ (k1_mult114 v437).toNat := fun k1_t3 v437 k1_hw28 => k1_hw28.2.2.2.2

def k1_mult115 (v469 : BitVec 32) : BitVec 32 :=
  let c0_i32_107 : BitVec 32 := 0#32
  let v470 : BitVec 32 := Scalar.addi v469 c0_i32_107
  v470

def k1_off33 (k1_t3 : Fin k1_t3_loop.trips) (v469 : BitVec 32) (c0_i32_107 : BitVec 32) : Fin 2 → Nat :=
  let c0_i32_37 : BitVec 32 := 0#32
  let c1_i32_39 : BitVec 32 := 1#32
  let arg22 : BitVec 32 := Scf.iv c0_i32_37 c1_i32_39 k1_t3
  let c16_i32_106 : BitVec 32 := 16#32
  let v466 : BitVec 32 := Scalar.muli arg22 c16_i32_106
  let c12_i32 : BitVec 32 := 12#32
  let v467 : BitVec 32 := Scalar.addi v466 c12_i32
  let v472 : Index := Scalar.indexCast v467
  let v470 : BitVec 32 := Scalar.addi v469 c0_i32_107
  let v471 : BitVec 32 := v470
  let v473 : Index := Scalar.indexCast v471
  ![v472.toNat, v473.toNat]
def k1_mult116 (v469 : BitVec 32) : BitVec 32 :=
  let c16_i32_108 : BitVec 32 := 16#32
  let v477 : BitVec 32 := Scalar.addi v469 c16_i32_108
  v477
def k1_mult117 (v469 : BitVec 32) : BitVec 32 :=
  let c32_i32_109 : BitVec 32 := 32#32
  let v484 : BitVec 32 := Scalar.addi v469 c32_i32_109
  v484
def k1_mult118 (v469 : BitVec 32) : BitVec 32 :=
  let c48_i32_110 : BitVec 32 := 48#32
  let v491 : BitVec 32 := Scalar.addi v469 c48_i32_110
  v491

def k1_chk29 (k1_t3 : Fin k1_t3_loop.trips) (v469 : BitVec 32) : Prop :=
  (16 ∣ (k1_mult115 v469).toNat) ∧
  (∀ (r : Fin 4), ∀ a, (k1_off33 k1_t3 v469 (BitVec.ofNat 32 (16 * r.val))) a + S1x16.size a ≤ S128x128.size a) ∧
  (16 ∣ (k1_mult116 v469).toNat) ∧
  (16 ∣ (k1_mult117 v469).toNat) ∧
  (16 ∣ (k1_mult118 v469).toNat)
theorem k1_mult115_dvd : ∀ (k1_t3 : Fin k1_t3_loop.trips) (v469 : BitVec 32) (k1_hw29 : k1_chk29 k1_t3 v469), 16 ∣ (k1_mult115 v469).toNat := fun k1_t3 v469 k1_hw29 => k1_hw29.1
theorem k1_off33_inb : ∀ (k1_t3 : Fin k1_t3_loop.trips) (v469 : BitVec 32) (k1_hw29 : k1_chk29 k1_t3 v469), ∀ (r : Fin 4), ∀ a, (k1_off33 k1_t3 v469 (BitVec.ofNat 32 (16 * r.val))) a + S1x16.size a ≤ S128x128.size a := fun k1_t3 v469 k1_hw29 r => k1_hw29.2.1 r
theorem k1_mult116_dvd : ∀ (k1_t3 : Fin k1_t3_loop.trips) (v469 : BitVec 32) (k1_hw29 : k1_chk29 k1_t3 v469), 16 ∣ (k1_mult116 v469).toNat := fun k1_t3 v469 k1_hw29 => k1_hw29.2.2.1
theorem k1_mult117_dvd : ∀ (k1_t3 : Fin k1_t3_loop.trips) (v469 : BitVec 32) (k1_hw29 : k1_chk29 k1_t3 v469), 16 ∣ (k1_mult117 v469).toNat := fun k1_t3 v469 k1_hw29 => k1_hw29.2.2.2.1
theorem k1_mult118_dvd : ∀ (k1_t3 : Fin k1_t3_loop.trips) (v469 : BitVec 32) (k1_hw29 : k1_chk29 k1_t3 v469), 16 ∣ (k1_mult118 v469).toNat := fun k1_t3 v469 k1_hw29 => k1_hw29.2.2.2.2

def k1_mult119 (v501 : BitVec 32) : BitVec 32 :=
  let c0_i32_112 : BitVec 32 := 0#32
  let v502 : BitVec 32 := Scalar.addi v501 c0_i32_112
  v502

def k1_off34 (k1_t3 : Fin k1_t3_loop.trips) (v501 : BitVec 32) (c0_i32_112 : BitVec 32) : Fin 2 → Nat :=
  let c0_i32_37 : BitVec 32 := 0#32
  let c1_i32_39 : BitVec 32 := 1#32
  let arg22 : BitVec 32 := Scf.iv c0_i32_37 c1_i32_39 k1_t3
  let c16_i32_111 : BitVec 32 := 16#32
  let v498 : BitVec 32 := Scalar.muli arg22 c16_i32_111
  let c13_i32 : BitVec 32 := 13#32
  let v499 : BitVec 32 := Scalar.addi v498 c13_i32
  let v504 : Index := Scalar.indexCast v499
  let v502 : BitVec 32 := Scalar.addi v501 c0_i32_112
  let v503 : BitVec 32 := v502
  let v505 : Index := Scalar.indexCast v503
  ![v504.toNat, v505.toNat]
def k1_mult120 (v501 : BitVec 32) : BitVec 32 :=
  let c16_i32_113 : BitVec 32 := 16#32
  let v509 : BitVec 32 := Scalar.addi v501 c16_i32_113
  v509
def k1_mult121 (v501 : BitVec 32) : BitVec 32 :=
  let c32_i32_114 : BitVec 32 := 32#32
  let v516 : BitVec 32 := Scalar.addi v501 c32_i32_114
  v516
def k1_mult122 (v501 : BitVec 32) : BitVec 32 :=
  let c48_i32_115 : BitVec 32 := 48#32
  let v523 : BitVec 32 := Scalar.addi v501 c48_i32_115
  v523

def k1_chk30 (k1_t3 : Fin k1_t3_loop.trips) (v501 : BitVec 32) : Prop :=
  (16 ∣ (k1_mult119 v501).toNat) ∧
  (∀ (r : Fin 4), ∀ a, (k1_off34 k1_t3 v501 (BitVec.ofNat 32 (16 * r.val))) a + S1x16.size a ≤ S128x128.size a) ∧
  (16 ∣ (k1_mult120 v501).toNat) ∧
  (16 ∣ (k1_mult121 v501).toNat) ∧
  (16 ∣ (k1_mult122 v501).toNat)
theorem k1_mult119_dvd : ∀ (k1_t3 : Fin k1_t3_loop.trips) (v501 : BitVec 32) (k1_hw30 : k1_chk30 k1_t3 v501), 16 ∣ (k1_mult119 v501).toNat := fun k1_t3 v501 k1_hw30 => k1_hw30.1
theorem k1_off34_inb : ∀ (k1_t3 : Fin k1_t3_loop.trips) (v501 : BitVec 32) (k1_hw30 : k1_chk30 k1_t3 v501), ∀ (r : Fin 4), ∀ a, (k1_off34 k1_t3 v501 (BitVec.ofNat 32 (16 * r.val))) a + S1x16.size a ≤ S128x128.size a := fun k1_t3 v501 k1_hw30 r => k1_hw30.2.1 r
theorem k1_mult120_dvd : ∀ (k1_t3 : Fin k1_t3_loop.trips) (v501 : BitVec 32) (k1_hw30 : k1_chk30 k1_t3 v501), 16 ∣ (k1_mult120 v501).toNat := fun k1_t3 v501 k1_hw30 => k1_hw30.2.2.1
theorem k1_mult121_dvd : ∀ (k1_t3 : Fin k1_t3_loop.trips) (v501 : BitVec 32) (k1_hw30 : k1_chk30 k1_t3 v501), 16 ∣ (k1_mult121 v501).toNat := fun k1_t3 v501 k1_hw30 => k1_hw30.2.2.2.1
theorem k1_mult122_dvd : ∀ (k1_t3 : Fin k1_t3_loop.trips) (v501 : BitVec 32) (k1_hw30 : k1_chk30 k1_t3 v501), 16 ∣ (k1_mult122 v501).toNat := fun k1_t3 v501 k1_hw30 => k1_hw30.2.2.2.2

def k1_mult123 (v533 : BitVec 32) : BitVec 32 :=
  let c0_i32_117 : BitVec 32 := 0#32
  let v534 : BitVec 32 := Scalar.addi v533 c0_i32_117
  v534

def k1_off35 (k1_t3 : Fin k1_t3_loop.trips) (v533 : BitVec 32) (c0_i32_117 : BitVec 32) : Fin 2 → Nat :=
  let c0_i32_37 : BitVec 32 := 0#32
  let c1_i32_39 : BitVec 32 := 1#32
  let arg22 : BitVec 32 := Scf.iv c0_i32_37 c1_i32_39 k1_t3
  let c16_i32_116 : BitVec 32 := 16#32
  let v530 : BitVec 32 := Scalar.muli arg22 c16_i32_116
  let c14_i32 : BitVec 32 := 14#32
  let v531 : BitVec 32 := Scalar.addi v530 c14_i32
  let v536 : Index := Scalar.indexCast v531
  let v534 : BitVec 32 := Scalar.addi v533 c0_i32_117
  let v535 : BitVec 32 := v534
  let v537 : Index := Scalar.indexCast v535
  ![v536.toNat, v537.toNat]
def k1_mult124 (v533 : BitVec 32) : BitVec 32 :=
  let c16_i32_118 : BitVec 32 := 16#32
  let v541 : BitVec 32 := Scalar.addi v533 c16_i32_118
  v541
def k1_mult125 (v533 : BitVec 32) : BitVec 32 :=
  let c32_i32_119 : BitVec 32 := 32#32
  let v548 : BitVec 32 := Scalar.addi v533 c32_i32_119
  v548
def k1_mult126 (v533 : BitVec 32) : BitVec 32 :=
  let c48_i32_120 : BitVec 32 := 48#32
  let v555 : BitVec 32 := Scalar.addi v533 c48_i32_120
  v555

def k1_chk31 (k1_t3 : Fin k1_t3_loop.trips) (v533 : BitVec 32) : Prop :=
  (16 ∣ (k1_mult123 v533).toNat) ∧
  (∀ (r : Fin 4), ∀ a, (k1_off35 k1_t3 v533 (BitVec.ofNat 32 (16 * r.val))) a + S1x16.size a ≤ S128x128.size a) ∧
  (16 ∣ (k1_mult124 v533).toNat) ∧
  (16 ∣ (k1_mult125 v533).toNat) ∧
  (16 ∣ (k1_mult126 v533).toNat)
theorem k1_mult123_dvd : ∀ (k1_t3 : Fin k1_t3_loop.trips) (v533 : BitVec 32) (k1_hw31 : k1_chk31 k1_t3 v533), 16 ∣ (k1_mult123 v533).toNat := fun k1_t3 v533 k1_hw31 => k1_hw31.1
theorem k1_off35_inb : ∀ (k1_t3 : Fin k1_t3_loop.trips) (v533 : BitVec 32) (k1_hw31 : k1_chk31 k1_t3 v533), ∀ (r : Fin 4), ∀ a, (k1_off35 k1_t3 v533 (BitVec.ofNat 32 (16 * r.val))) a + S1x16.size a ≤ S128x128.size a := fun k1_t3 v533 k1_hw31 r => k1_hw31.2.1 r
theorem k1_mult124_dvd : ∀ (k1_t3 : Fin k1_t3_loop.trips) (v533 : BitVec 32) (k1_hw31 : k1_chk31 k1_t3 v533), 16 ∣ (k1_mult124 v533).toNat := fun k1_t3 v533 k1_hw31 => k1_hw31.2.2.1
theorem k1_mult125_dvd : ∀ (k1_t3 : Fin k1_t3_loop.trips) (v533 : BitVec 32) (k1_hw31 : k1_chk31 k1_t3 v533), 16 ∣ (k1_mult125 v533).toNat := fun k1_t3 v533 k1_hw31 => k1_hw31.2.2.2.1
theorem k1_mult126_dvd : ∀ (k1_t3 : Fin k1_t3_loop.trips) (v533 : BitVec 32) (k1_hw31 : k1_chk31 k1_t3 v533), 16 ∣ (k1_mult126 v533).toNat := fun k1_t3 v533 k1_hw31 => k1_hw31.2.2.2.2

def k1_mult127 (v565 : BitVec 32) : BitVec 32 :=
  let c0_i32_122 : BitVec 32 := 0#32
  let v566 : BitVec 32 := Scalar.addi v565 c0_i32_122
  v566

def k1_off36 (k1_t3 : Fin k1_t3_loop.trips) (v565 : BitVec 32) (c0_i32_122 : BitVec 32) : Fin 2 → Nat :=
  let c0_i32_37 : BitVec 32 := 0#32
  let c1_i32_39 : BitVec 32 := 1#32
  let arg22 : BitVec 32 := Scf.iv c0_i32_37 c1_i32_39 k1_t3
  let c16_i32_121 : BitVec 32 := 16#32
  let v562 : BitVec 32 := Scalar.muli arg22 c16_i32_121
  let c15_i32 : BitVec 32 := 15#32
  let v563 : BitVec 32 := Scalar.addi v562 c15_i32
  let v568 : Index := Scalar.indexCast v563
  let v566 : BitVec 32 := Scalar.addi v565 c0_i32_122
  let v567 : BitVec 32 := v566
  let v569 : Index := Scalar.indexCast v567
  ![v568.toNat, v569.toNat]
def k1_mult128 (v565 : BitVec 32) : BitVec 32 :=
  let c16_i32_123 : BitVec 32 := 16#32
  let v573 : BitVec 32 := Scalar.addi v565 c16_i32_123
  v573
def k1_mult129 (v565 : BitVec 32) : BitVec 32 :=
  let c32_i32_124 : BitVec 32 := 32#32
  let v580 : BitVec 32 := Scalar.addi v565 c32_i32_124
  v580
def k1_mult130 (v565 : BitVec 32) : BitVec 32 :=
  let c48_i32_125 : BitVec 32 := 48#32
  let v587 : BitVec 32 := Scalar.addi v565 c48_i32_125
  v587

def k1_chk32 (k1_t3 : Fin k1_t3_loop.trips) (v565 : BitVec 32) : Prop :=
  (16 ∣ (k1_mult127 v565).toNat) ∧
  (∀ (r : Fin 4), ∀ a, (k1_off36 k1_t3 v565 (BitVec.ofNat 32 (16 * r.val))) a + S1x16.size a ≤ S128x128.size a) ∧
  (16 ∣ (k1_mult128 v565).toNat) ∧
  (16 ∣ (k1_mult129 v565).toNat) ∧
  (16 ∣ (k1_mult130 v565).toNat)
theorem k1_mult127_dvd : ∀ (k1_t3 : Fin k1_t3_loop.trips) (v565 : BitVec 32) (k1_hw32 : k1_chk32 k1_t3 v565), 16 ∣ (k1_mult127 v565).toNat := fun k1_t3 v565 k1_hw32 => k1_hw32.1
theorem k1_off36_inb : ∀ (k1_t3 : Fin k1_t3_loop.trips) (v565 : BitVec 32) (k1_hw32 : k1_chk32 k1_t3 v565), ∀ (r : Fin 4), ∀ a, (k1_off36 k1_t3 v565 (BitVec.ofNat 32 (16 * r.val))) a + S1x16.size a ≤ S128x128.size a := fun k1_t3 v565 k1_hw32 r => k1_hw32.2.1 r
theorem k1_mult128_dvd : ∀ (k1_t3 : Fin k1_t3_loop.trips) (v565 : BitVec 32) (k1_hw32 : k1_chk32 k1_t3 v565), 16 ∣ (k1_mult128 v565).toNat := fun k1_t3 v565 k1_hw32 => k1_hw32.2.2.1
theorem k1_mult129_dvd : ∀ (k1_t3 : Fin k1_t3_loop.trips) (v565 : BitVec 32) (k1_hw32 : k1_chk32 k1_t3 v565), 16 ∣ (k1_mult129 v565).toNat := fun k1_t3 v565 k1_hw32 => k1_hw32.2.2.2.1
theorem k1_mult130_dvd : ∀ (k1_t3 : Fin k1_t3_loop.trips) (v565 : BitVec 32) (k1_hw32 : k1_chk32 k1_t3 v565), 16 ∣ (k1_mult130 v565).toNat := fun k1_t3 v565 k1_hw32 => k1_hw32.2.2.2.2

def k1_cond2 (k1_t1 : Fin k1_t1_loop.trips) : BitVec 1 :=
  let c0_i32_18 : BitVec 32 := 0#32
  let c1_i32_19 : BitVec 32 := 1#32
  let arg13 : BitVec 32 := Scf.iv c0_i32_18 c1_i32_19 k1_t1
  let c31_i32_41 : BitVec 32 := 31#32
  let v73 : BitVec 1 := Scalar.cmpi .slt arg13 c31_i32_41
  let v74 : BitVec 32 := Scalar.extui v73
  let c0_i32_42 : BitVec 32 := 0#32
  let v75 : BitVec 1 := Scalar.cmpi .ne v74 c0_i32_42
  v75

def k1_off37 (k1_t1 : Fin k1_t1_loop.trips) : Fin 2 → Nat :=
  let c2_i32_43 : BitVec 32 := 2#32
  let c0_i32_18 : BitVec 32 := 0#32
  let c1_i32_19 : BitVec 32 := 1#32
  let arg13 : BitVec 32 := Scf.iv c0_i32_18 c1_i32_19 k1_t1
  let v76 : BitVec 32 := Scalar.muli c2_i32_43 arg13
  let c3_i32 : BitVec 32 := 3#32
  let v77 : BitVec 32 := Scalar.addi v76 c3_i32
  let c0_i32_44 : BitVec 32 := 0#32
  ![v77.toNat, 0]
def k1_off38 (i : grid1.Coords) : Fin 3 → Nat :=
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let arg0 : BitVec 32 := BitVec.ofNat 32 (i 0).val
  let c8_i32 : BitVec 32 := 8#32
  let v0 : BitVec 32 := Scalar.muli arg0 c8_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c0_i32_21_r2 : BitVec 32 := 0#32
  ![v28.toNat, v18.toNat, 0]
abbrev grid2 : Pipeline.Grid := .none

abbrev stage2_0 : Fin 1 → Memref sig .tc .vmem S2x16x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144 : Shape := ⟨1, ![262144]⟩
abbrev S1000000x64 : Shape := ⟨2, ![1000000, 64]⟩
abbrev S16x64 : Shape := ⟨2, ![16, 64]⟩
abbrev S16 : Shape := ⟨1, ![16]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144x64 : Shape := ⟨2, ![262144, 64]⟩
abbrev S16x16384x64 : Shape := ⟨3, ![16, 16384, 64]⟩
abbrev S64x16 : Shape := ⟨2, ![64, 16]⟩
abbrev S16x16 : Shape := ⟨2, ![16, 16]⟩
abbrev S1x16 : Shape := ⟨2, ![1, 16]⟩

abbrev nBuf : Space → Nat
  | .hbm => 38
  | .vmem => 0
  | .smem => 0
  | _ => 0

abbrev bufTy : (tb : Table) → Fin (tcTables nBuf tb) → BufTy
  | .hbm, ⟨0, _⟩ => ⟨S262144, .i32⟩
  | .hbm, ⟨1, _⟩ => ⟨S1000000x64, .f32⟩
  | .hbm, ⟨2, _⟩ => ⟨S16x64, .f32⟩
  | .hbm, ⟨3, _⟩ => ⟨S16, .f32⟩
  | .hbm, ⟨4, _⟩ => ⟨S_, .i32⟩
  | .hbm, ⟨5, _⟩ => ⟨S262144, .i32⟩
  | .hbm, ⟨6, _⟩ => ⟨S262144, .i1⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144, .i32⟩
  | .hbm, ⟨11, _⟩ => ⟨S262144x1, .i32⟩
  | .hbm, ⟨12, _⟩ => ⟨S1, .i32⟩
  | .hbm, ⟨13, _⟩ => ⟨S_, .i32⟩
  | .hbm, ⟨14, _⟩ => ⟨S262144x1, .i32⟩
  | .hbm, ⟨15, _⟩ => ⟨S262144x1, .i1⟩
  | .hbm, ⟨16, _⟩ => ⟨S1x1, .i32⟩
  | .hbm, ⟨17, _⟩ => ⟨S262144x1, .i32⟩
  | .hbm, ⟨18, _⟩ => ⟨S262144x1, .i1⟩
  | .hbm, ⟨19, _⟩ => ⟨S262144x1, .i1⟩
  | .hbm, ⟨20, _⟩ => ⟨S_, .i1⟩
  | .hbm, ⟨21, _⟩ => ⟨S262144, .i1⟩
  | .hbm, ⟨22, _⟩ => ⟨S262144x64, .f32⟩
  | .hbm, ⟨23, _⟩ => ⟨S262144x64, .i1⟩
  | .hbm, ⟨24, _⟩ => ⟨S_, .f32⟩
  | .hbm, ⟨25, _⟩ => ⟨S262144x64, .f32⟩
  | .hbm, ⟨26, _⟩ => ⟨S262144x64, .f32⟩
  | .hbm, ⟨27, _⟩ => ⟨S16x16384x64, .f32⟩
  | .hbm, ⟨28, _⟩ => ⟨S_, .f32⟩
  | .hbm, ⟨29, _⟩ => ⟨S16x64, .f32⟩
  | .hbm, ⟨30, _⟩ => ⟨S_, .f32⟩
  | .hbm, ⟨31, _⟩ => ⟨S16x64, .f32⟩
  | .hbm, ⟨32, _⟩ => ⟨S16x64, .f32⟩
  | .hbm, ⟨33, _⟩ => ⟨S64x16, .f32⟩
  | .hbm, ⟨34, _⟩ => ⟨S16x16, .f32⟩
  | .hbm, ⟨35, _⟩ => ⟨S1x16, .f32⟩
  | .hbm, ⟨36, _⟩ => ⟨S16x16, .f32⟩
  | .hbm, ⟨37, _⟩ => ⟨S16x16, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩

abbrev nD : Nat := 1
abbrev τ : Topo := Topo.v7x

variable {F : FTy → Type} [FloatOps F]
-- ==== Proof.Range.lean ====
/-
  What the precondition says of the words: each is in the embedding table.
-/
module

public import proofs.«01_k».proof.Proof.Gen.Pre_in_range
public import Idealize.ShloMosaic.Lib.ReduceAll

@[expose] public section

noncomputable section

namespace Cert.Proof

open Idealize.ShloMosaic

instance : Subsingleton Cert.Pre_in_range.S_.Idx := ⟨fun _ _ => funext fun a => a.elim0⟩

theorem word_range (v : BitVec 32) (e : IntOp.andi (IntOp.cmpi .sge v 0#32) (IntOp.cmpi .slt v 1000000#32) = 1#1) :
    0 ≤ v.toInt ∧ v.toInt < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide, decide_eq_true_eq] at e
  exact e

theorem range_of_fn {F : FTy → Type} [FloatOps F] [Cert.Pre_in_range.Facts] (t : IVec Cert.Pre_in_range.S262144 32) (e w b)
    (h : Cert.Pre_in_range.fn (F := F) t e w b = fun _ => 1#1) (i : Cert.Pre_in_range.S262144.Idx) : 0 ≤ (t i).toInt ∧ (t i).toInt < 1000000 := by
  have e := congrFun h (Shape.Idx.first Cert.Pre_in_range.Facts.h_S_)
  unfold Cert.Pre_in_range.fn at e
  exact word_range _ (Host.reduce_andi_all _ _ _ _ _ e i)

end Cert.Proof

end
-- ==== Proof.Base.lean ====
/-
  The set-up that the proofs of the kernel share: the SparseCore configuration and its facts, the resource algebra, the
  arrays of @main as the TensorCore and as a vector subcore name them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Pipeline.DatRel
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

example : CountersIn UU := inferInstance

end Cert.Proof.KI

end
-- ==== Proof.Pack.lean ====
/-
  The packing kernel on the TensorCore: what a run of its body leaves in the packed block's window, as a function of what
  its two windows on the transposed table hold.
-/
module

public import proofs.«01_k».proof.Proof.Base
public import Idealize.ShloMosaic.Lib.VecWindow

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-- The index `(r, c)` of a half block (taken modulo the extents, so total). -/
def ixH (r c : ℕ) : S16384x64.Idx := fun
  | 0 => ⟨r % 16384, Nat.mod_lt _ (by decide)⟩
  | 1 => ⟨c % 64, Nat.mod_lt _ (by decide)⟩
  | ⟨_ + 2, h⟩ => absurd h (Nat.not_lt.2 (Nat.le_add_left _ _))

/-- A packed block: the first window's half beside the second's. -/
def pack (W0 W1 : S64x16384.Idx → F .f32) : S16384x128.Idx → F .f32 := fun y =>
  if (y 1).val < 64 then k0_pay2 W0 (ixH (y 0).val (y 1).val) else k0_pay3 W1 (ixH (y 0).val ((y 1).val - 64))

/-- The two stores of the body, read back. -/
theorem read_pack (M2 : Memref sig .tc .vmem S16384x128 .f32) (f2 : BufTy.Contents (Elt F) M2.view.ty) (W0 W1 : S64x16384.Idx → F .f32) :
    M2.view.read (Elt F) (M2.view.writes (Elt F) f2
      [⟨Rect.unit (s := S16384x128) ![0, 64] S16384x64.size inb_S16384x128_S16384x64_0_64, k0_pay3 W1⟩,
        ⟨Rect.unit (s := S16384x128) ![0, 0] S16384x64.size inb_S16384x128_S16384x64_0_0, k0_pay2 W0⟩]) = pack W0 W1 := by
  funext y
  have hy0 : (y 0).val < 16384 := (y 0).isLt
  have hy1 : (y 1).val < 128 := (y 1).isLt
  rw [View.read_writes_cons_unit M2.view f2 _ _ _ y rfl, View.read_writes_cons_unit M2.view f2 _ _ _ y rfl]
  unfold pack
  by_cases h : (y 1).val < 64
  · rw [dif_neg (fun h' => by have := (h' 1).1; change 64 ≤ _ at this; omega), if_pos h, dif_pos (fun a => by
      match a with
      | 0 => exact ⟨Nat.zero_le _, by show _ < 0 + 16384; omega⟩
      | 1 => exact ⟨Nat.zero_le _, by show _ < 0 + 64; omega⟩)]
    congr 1
    funext a
    match a with
    | 0 => exact Fin.ext (show (y 0).val - 0 = (y 0).val % 16384 by omega)
    | 1 => exact Fin.ext (show (y 1).val - 0 = (y 1).val % 64 by omega)
  · rw [if_neg h, dif_pos (fun a => by
      match a with
      | 0 => exact ⟨Nat.zero_le _, by show _ < 0 + 16384; omega⟩
      | 1 => exact ⟨by show 64 ≤ _; omega, by show _ < 64 + 64; omega⟩)]
    congr 1
    funext a
    match a with
    | 0 => exact Fin.ext (show (y 0).val - 0 = (y 0).val % 16384 by omega)
    | 1 => exact Fin.ext (show (y 1).val - 64 = ((y 1).val - 64) % 64 by omega)

set_option maxHeartbeats 1000000 in
theorem tr_body (c : Dev nD) (i : grid0.Coords) (M0 : Memref sig .tc .vmem S64x16384 .f32) (h0 : M0.IsWhole)
    (M1 : Memref sig .tc .vmem S64x16384 .f32) (h1 : M1.IsWhole) (M2 : Memref sig .tc .vmem S16384x128 .f32) (h2 : M2.IsWhole)
    (W0 W1 : S64x16384.Idx → F .f32) (X : S16384x128.Idx → F .f32) :
    iprop(owns (Val := Elt F) (c.tc : Thread nD τ) M0 fullShare W0 ∗ owns (Val := Elt F) (c.tc : Thread nD τ) M1 fullShare W1
        ∗ owns (Val := Elt F) (c.tc : Thread nD τ) M2 fullShare X)
      ⊢ (wp frame (wpE (defs₀ (F := F)) 𝒱₀ (c.tc : Thread nD τ) none) Set.univ (cc0__tr_body i M0 h0 M1 h1 M2 h2) fun _ =>
          iprop(owns (Val := Elt F) (c.tc : Thread nD τ) M0 fullShare W0 ∗ owns (Val := Elt F) (c.tc : Thread nD τ) M1 fullShare W1
            ∗ owns (Val := Elt F) (c.tc : Thread nD τ) M2 fullShare (pack W0 W1)) : sProp 𝕄) := by
  rw [cc0__tr_body_eq_skeleton]; unfold cc0__tr_body_skel owns
  iintro ⟨⟨%f0, %e0, H0⟩, ⟨%f1, %e1, H1⟩, ⟨%f2, -, H2⟩⟩
  sl_exec
  rw [View.readAt_full, View.readAt_full, e0, e1, wp_ret]
  imodintro
  isplitl [H0]; · iexists _; isplitr; swap; (· iexact H0); ipureintro; exact e0
  isplitl [H1]; · iexists _; isplitr; swap; (· iexact H1); ipureintro; exact e1
  iexists _; isplitr; swap; (· iexact H2)
  ipureintro; exact read_pack M2 f2 W0 W1

end Cert.Proof.KI

end
-- ==== Proof.Group.lean ====
/-
  One trip of the inner loops of the vector subcores' kernel: sixteen rows of a gathered buffer, each read at its own
  column offset, added into the eight running vectors.
-/
module

public import proofs.«01_k».proof.Proof.Base
public import Idealize.ShloMosaic.Lib.ValueLayout

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

/-! ## Indices -/

/-- The index `(r, c)` of a 128 × 128 buffer (taken modulo the extents, so total). -/
def ixB (r c : ℕ) : S128x128.Idx := fun
  | 0 => ⟨r % 128, Nat.mod_lt _ (by decide)⟩
  | 1 => ⟨c % 128, Nat.mod_lt _ (by decide)⟩
  | ⟨_ + 2, h⟩ => absurd h (Nat.not_lt.2 (Nat.le_add_left _ _))

/-- The index `(g, r)` of a 64 × 128 buffer (taken modulo the extents, so total). -/
def ixO (g r : ℕ) : S64x128.Idx := fun
  | 0 => ⟨g % 64, Nat.mod_lt _ (by decide)⟩
  | 1 => ⟨r % 128, Nat.mod_lt _ (by decide)⟩
  | ⟨_ + 2, h⟩ => absurd h (Nat.not_lt.2 (Nat.le_add_left _ _))

variable [FloatOps F]

/-! ## The value of a chunk -/

/-- The sixteen lanes of row `r` that start at column `c`. -/
def rowCol (B : S128x128.Idx → F .f32) (r c : ℕ) : FVec F S16 .f32 := fun x => B (ixB r (c + (x 0).val))

/-- The sixteen lanes of row `r` that start at column `o + 16 q`. -/
abbrev rowVal (B : S128x128.Idx → F .f32) (r o q : ℕ) : FVec F S16 .f32 := rowCol B r (o + 16 * q)

/-- The running vector number `(h, q)` after `n` of its rows: rows `h, h + 2, h + 4, …` in this order. -/
def accN (B : S128x128.Idx → F .f32) (O : ℕ → ℕ) (h q : ℕ) (a : FVec F S16 .f32) : ℕ → FVec F S16 .f32
  | 0 => a
  | n + 1 => addf (accN B O h q a n) (rowVal B (2 * n + h) (O (2 * n + h)) q)

/-- The eight running vectors as the loops carry them. -/
abbrev A8 (F : FTy → Type) : Type := FVec F S16 .f32 × FVec F S16 .f32 × FVec F S16 .f32 × FVec F S16 .f32
  × FVec F S16 .f32 × FVec F S16 .f32 × FVec F S16 .f32 × FVec F S16 .f32

/-- All eight after `n` rows each. -/
def acc8 (B : S128x128.Idx → F .f32) (O : ℕ → ℕ) (a : A8 F) (n : ℕ) : A8 F :=
  (accN B O 0 0 a.1 n, accN B O 0 1 a.2.1 n, accN B O 0 2 a.2.2.1 n, accN B O 0 3 a.2.2.2.1 n,
    accN B O 1 0 a.2.2.2.2.1 n, accN B O 1 1 a.2.2.2.2.2.1 n, accN B O 1 2 a.2.2.2.2.2.2.1 n, accN B O 1 3 a.2.2.2.2.2.2.2 n)

/-- The column offsets of chunk `g`'s rows, as read off the offsets' buffer. -/
def offs (O7 : S64x128.Idx → BitVec 32) (g : ℕ) (r : ℕ) : ℕ := (O7 (ixO g r)).toNat

/-- Eight rows of a running vector's, one trip's worth. -/
theorem accN_trip (B : S128x128.Idx → F .f32) (O : ℕ → ℕ) (h q : ℕ) (a : FVec F S16 .f32) (t : ℕ) :
    accN B O h q a (8 * (t + 1)) = addf (addf (addf (addf (addf (addf (addf (addf (accN B O h q a (8 * t))
      (rowVal B (16 * t + (0 + h)) (O (16 * t + (0 + h))) q)) (rowVal B (16 * t + (2 + h)) (O (16 * t + (2 + h))) q))
      (rowVal B (16 * t + (4 + h)) (O (16 * t + (4 + h))) q)) (rowVal B (16 * t + (6 + h)) (O (16 * t + (6 + h))) q))
      (rowVal B (16 * t + (8 + h)) (O (16 * t + (8 + h))) q)) (rowVal B (16 * t + (10 + h)) (O (16 * t + (10 + h))) q))
      (rowVal B (16 * t + (12 + h)) (O (16 * t + (12 + h))) q)) (rowVal B (16 * t + (14 + h)) (O (16 * t + (14 + h))) q) := by
  rw [show 8 * (t + 1) = 8 * t + 7 + 1 by omega]
  have e : ∀ k m, 2 * k = m → 2 * (8 * t + k) + h = 16 * t + (m + h) := fun k m hk => by omega
  have e0 := e 0 0 rfl
  have e1 := e 1 2 rfl
  have e2 := e 2 4 rfl
  have e3 := e 3 6 rfl
  have e4 := e 4 8 rfl
  have e5 := e 5 10 rfl
  have e6 := e 6 12 rfl
  have e7 := e 7 14 rfl
  rw [Nat.add_zero] at e0
  simp only [accN, e0, e1, e2, e3, e4, e5, e6, e7]

/-! ## The arithmetic of the offsets -/

theorem row_word : ∀ (t : Fin 8) (u : Fin 16),
    (Scalar.indexCast (Scalar.addi (Scalar.muli (Scf.iv 0#32 1#32 t) 16#32) (BitVec.ofNat 32 u.val)) : Index).toNat = 16 * t.val + u.val := by
  decide +kernel

theorem col_word (v : BitVec 32) (hv : v = 0#32 ∨ v = 64#32) : ∀ q : Fin 4,
    (Scalar.indexCast (Scalar.addi v (BitVec.ofNat 32 (16 * q.val))) : Index).toNat = v.toNat + 16 * q.val := by
  rcases hv with rfl | rfl <;> decide

theorem mult_word (v : BitVec 32) (hv : v = 0#32 ∨ v = 64#32) : ∀ q : Fin 4,
    16 ∣ (Scalar.addi v (BitVec.ofNat 32 (16 * q.val))).toNat := by
  rcases hv with rfl | rfl <;> decide

/-- The side condition of a row's four loads, at an offset that is 0 or 64. -/
theorem chk_of (t : Fin 8) (u : Fin 16) (v : BitVec 32) (hv : v = 0#32 ∨ v = 64#32) :
    (16 ∣ (Scalar.addi v 0#32).toNat) ∧
    (∀ (r : Fin 4), ∀ a, (![(Scalar.indexCast (Scalar.addi (Scalar.muli (Scf.iv 0#32 1#32 t) 16#32) (BitVec.ofNat 32 u.val)) : Index).toNat,
        (Scalar.indexCast (Scalar.addi v (BitVec.ofNat 32 (16 * r.val))) : Index).toNat] : Fin 2 → ℕ) a + S1x16.size a ≤ S128x128.size a) ∧
    (16 ∣ (Scalar.addi v 16#32).toNat) ∧ (16 ∣ (Scalar.addi v 32#32).toNat) ∧ (16 ∣ (Scalar.addi v 48#32).toNat) := by
  refine ⟨mult_word v hv 0, fun r a => ?_, mult_word v hv 1, mult_word v hv 2, mult_word v hv 3⟩
  have hv' : v.toNat ≤ 64 := by rcases hv with rfl | rfl <;> decide
  rw [row_word, col_word v hv]
  match a with
  | 0 => show 16 * t.val + u.val + 1 ≤ 128; have := t.isLt; have := u.isLt; omega
  | 1 => show v.toNat + 16 * r.val + 16 ≤ 128; have := r.isLt; omega

/-! ## What the loads read -/

/-- A sixteen-lane load of a row of a 128 × 128 buffer, as a vector of sixteen lanes. -/
theorem load_row {κ : Kind} {sp : Space} (v : View sig κ sp S128x128 .f32) (f : v.ty.Contents (Elt F))
    {off : Fin 2 → ℕ} (inb : ∀ a, off a + S1x16.size a ≤ S128x128.size a) (r c : ℕ) (h0 : off 0 = r) (h1 : off 1 = c) :
    shapeCast S16 (v.readAt (Elt F) (Rect.unit (s := S128x128) off S1x16.size inb).toLoadRect f) shapeCasts_S1x16_S16
      = rowCol (v.read (Elt F) f) r c := by
  funext x
  obtain ⟨i, rfl⟩ : ∃ i : Fin 16, x = ix1 i := ⟨x 0, by funext a; match a with | 0 => rfl⟩
  refine (shapeCast_1a_a_apply _ _ i).trans ?_
  show v.read (Elt F) f _ = v.read (Elt F) f _
  congr 1
  have e0 := inb 0; have e1 := inb 1; have hx := i.isLt
  have e0' : off 0 + 1 ≤ 128 := e0
  have e1' : off 1 + 16 ≤ 128 := e1
  funext a; apply Fin.ext
  match a with
  | 0 => show off 0 + 1 * 0 = r % 128; omega
  | 1 => show off 1 + 1 * i.val = (c + i.val) % 128; omega

/-- A sixteen-lane load of a row of a 64 × 128 buffer of words, at lane `u`. -/
theorem load_word {κ : Kind} {sp : Space} (v : View sig κ sp S64x128 .i32) (f : v.ty.Contents (Elt F))
    {off : Fin 2 → ℕ} (inb : ∀ a, off a + S1x16.size a ≤ S64x128.size a) (g r : ℕ) (h : off = ![g, r]) (u : ℕ) (hu : S16.Slices ![u] S1)
    (hp : ∀ a, (![0] : Fin 1 → ℕ) a < S1.size a) :
    extractAt ![0] (extractStridedSlice S1 ![u] (shapeCast S16 (v.readAt (Elt F) (Rect.unit (s := S64x128) off S1x16.size inb).toLoadRect f)
        shapeCasts_S1x16_S16) hu) hp
      = v.read (Elt F) f (ixO g (r + u)) := by
  subst h
  have hu' : u + 1 ≤ 16 := hu.2 0
  unfold extractAt extractStridedSlice
  have hx : ∀ y : S16.Idx, (y 0).val = u → y = ix1 (⟨u, by omega⟩ : Fin 16) := fun y hy => by funext a; match a with | 0 => exact Fin.ext hy
  rw [hx (fun a => _) rfl, shapeCast_1a_a_apply]
  show v.read (Elt F) f _ = v.read (Elt F) f _
  congr 1
  have e0' : g + 1 ≤ 64 := inb 0
  have e1' : r + 16 ≤ 128 := inb 1
  funext a; apply Fin.ext
  match a with
  | 0 => show g + 1 * 0 = g % 64; omega
  | 1 => show r + 1 * u = (r + u) % 128; omega

end Cert.Proof.KI

end
-- ==== Proof.Inner.lean ====
/-
  The two inner loops of the vector subcores' kernel, one for each of the two gathered buffers: a trip adds sixteen rows
  into the eight running vectors.
-/
module

public import proofs.«01_k».proof.Proof.Group

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

-- the memrefs the body table passes the kernel
local notation "pV" => (Memref.whole Cert.KernelIdeal.main_v5_scv : Memref Cert.KernelIdeal.sig Kind.scVector Space.hbm Cert.KernelIdeal.S2048x128 EltTy.i32)
local notation "fV" => (Memref.whole Cert.KernelIdeal.main_v8_scv : Memref Cert.KernelIdeal.sig Kind.scVector Space.hbm Cert.KernelIdeal.S2048x128 EltTy.i32)
local notation "tV" => (Memref.whole Cert.KernelIdeal.main_v10_scv : Memref Cert.KernelIdeal.sig Kind.scVector Space.hbm Cert.KernelIdeal.S507904x128 EltTy.f32)
local notation "rV" => (Memref.whole Cert.KernelIdeal.main_v11_scv : Memref Cert.KernelIdeal.sig Kind.scVector Space.hbm Cert.KernelIdeal.S2x16x64 EltTy.f32)
local notation "s0V" => (Memref.whole Cert.KernelIdeal.cc1_scratch0 : Memref Cert.KernelIdeal.sig Kind.scVector Space.vmem Cert.KernelIdeal.S64x128 EltTy.i32)
local notation "s1V" => (Memref.whole Cert.KernelIdeal.cc1_scratch1 : Memref Cert.KernelIdeal.sig Kind.scVector Space.vmem Cert.KernelIdeal.S64x128 EltTy.i32)
local notation "s2V" => (Memref.whole Cert.KernelIdeal.cc1_scratch2 : Memref Cert.KernelIdeal.sig Kind.scVector Space.vmem Cert.KernelIdeal.S128x128 EltTy.f32)
local notation "s3V" => (Memref.whole Cert.KernelIdeal.cc1_scratch3 : Memref Cert.KernelIdeal.sig Kind.scVector Space.vmem Cert.KernelIdeal.S128x128 EltTy.f32)
local notation "s4V" => (Memref.whole Cert.KernelIdeal.cc1_scratch4 : Memref Cert.KernelIdeal.sig Kind.scVector Space.vmem Cert.KernelIdeal.S64 EltTy.f32)
local notation "wh" => Memref.isWhole_whole

variable [FloatOps F]

abbrev cV (L : grid1.Coords) : Fin τ.nSC := (L 0).castLE hcore1
abbrev jV (L : grid1.Coords) : Fin τ.nSub := (L 1).castLE hsub1
/-- The vector subcore at grid point `L`. -/
abbrev VT (d : Dev nD) (L : grid1.Coords) : Thread nD τ := V d (cV L) (jV L)

variable (d : Dev nD) (L : grid1.Coords)

/-- Every column offset is 0 or 64. -/
abbrev Two (O7 : S64x128.Idx → BitVec 32) : Prop := ∀ y, O7 y = 0#32 ∨ O7 y = 64#32

/-- The offsets' buffer held whole, and a gathered buffer held as a view of it. -/
def offPts (f : Buf (Elt F) ((s1V).view.loc (VT d L))) : sProp 𝕄 := (s1V).view.loc (VT d L) ↦{fullShare} f
def bufPts (M : Memref sig .scVector .vmem S128x128 .f32) (f : Buf (Elt F) (M.view.loc (VT d L))) : sProp 𝕄 :=
  M.view.loc (VT d L) ↦{fullShare} f

/-- A load of sixteen lanes of a row of the gathered buffer, at a column offset that is 0 or 64. -/
theorem row_step (M : Memref sig .scVector .vmem S128x128 .f32) (f : Buf (Elt F) (M.view.loc (VT d L))) (R : sProp 𝕄)
    (t : Fin 8) (o7 : S64x128.Idx → BitVec 32) (ho : Two o7) (g u c : ℕ) (v : BitVec 32) (hv : v = o7 (ixO g (16 * t.val + u))) (hu : u < 16) (hc : c = 0 ∨ c = 16 ∨ c = 32 ∨ c = 48)
    {inb : ∀ a, (![(Scalar.indexCast (Scalar.addi (Scalar.muli (Scf.iv 0#32 1#32 t) 16#32) (BitVec.ofNat 32 u)) : Index).toNat,
        (Scalar.indexCast (Scalar.addi v (BitVec.ofNat 32 c)) : Index).toNat] : Fin 2 → ℕ) a + S1x16.size a ≤ S128x128.size a}
    {hl} {α : Type} {k : Vec F S1x16 .f32 → Prog (TpuEff nD τ sig (Elt F) Λ₀ (VT d L).2) α} {Φ : α → sProp 𝕄}
    (H : ∀ x, shapeCast S16 x shapeCasts_S1x16_S16 = rowCol (M.view.read (Elt F) f) (16 * t.val + u) (offs o7 g (16 * t.val + u) + c) →
      (iprop(bufPts d L M f ∗ R) ⊢ wp frame (wpE (defs₀ (F := F)) 𝒱₀ (VT d L) none) Set.univ (k x) Φ)) :
    iprop(bufPts d L M f ∗ R) ⊢ wp frame (wpE (defs₀ (F := F)) 𝒱₀ (VT d L) none) Set.univ
      (Prog.op (TpuEff.load M (Rect.unit (s := S128x128) ![(Scalar.indexCast (Scalar.addi (Scalar.muli (Scf.iv 0#32 1#32 t) 16#32) (BitVec.ofNat 32 u)) : Index).toNat,
        (Scalar.indexCast (Scalar.addi v (BitVec.ofNat 32 c)) : Index).toNat] S1x16.size inb).toLoadRect hl) k) Φ := by
  have ho' : v = 0#32 ∨ v = 64#32 := hv ▸ ho _
  have e : offs o7 g (16 * t.val + u) = v.toNat := (congrArg BitVec.toNat hv).symm
  rw [e] at H
  have h1 := load_row M.view f inb (16 * t.val + u) (v.toNat + c) (row_word t ⟨u, hu⟩) (by
    rcases hc with rfl | rfl | rfl | rfl
    · exact col_word v ho' 0
    · exact col_word v ho' 1
    · exact col_word v ho' 2
    · exact col_word v ho' 3)
  have h2 := H _ h1
  unfold bufPts at h2 ⊢
  iintro ⟨H8, HR⟩
  sl_exec
  iapply h2
  iframe

/-- The load of sixteen offsets. -/
theorem word_step (M : Memref sig .scVector .vmem S128x128 .f32) (f : Buf (Elt F) (M.view.loc (VT d L))) (o7 : Buf (Elt F) ((s1V).view.loc (VT d L)))
    (g r : ℕ) {off : Fin 2 → ℕ} {inb : ∀ a, off a + S1x16.size a ≤ S64x128.size a} (h : off = ![g, r])
    {hl} {α : Type} {k : Vec F S1x16 .i32 → Prog (TpuEff nD τ sig (Elt F) Λ₀ (VT d L).2) α} {Φ : α → sProp 𝕄}
    (H : ∀ x : Vec F S1x16 .i32, (∀ u hu hp, extractAt ![0] (extractStridedSlice S1 ![u] (shapeCast S16 x shapeCasts_S1x16_S16) hu) hp = o7 (ixO g (r + u))) →
      (iprop(bufPts d L M f ∗ offPts d L o7) ⊢ wp frame (wpE (defs₀ (F := F)) 𝒱₀ (VT d L) none) Set.univ (k x) Φ)) :
    iprop(bufPts d L M f ∗ offPts d L o7) ⊢ wp frame (wpE (defs₀ (F := F)) 𝒱₀ (VT d L) none) Set.univ
      (Prog.op (TpuEff.load s1V (Rect.unit (s := S64x128) off S1x16.size inb).toLoadRect hl) k) Φ := by
  have h2 := H _ (fun u hu hp => load_word (s1V).view o7 inb g r h u hu hp)
  unfold offPts at h2 ⊢
  iintro ⟨HR, H7⟩
  sl_exec
  iapply h2
  iframe

/-- An assumed side condition. -/
theorem assume_step {P : sProp 𝕄} {C : Prop} (dec : Decidable C) (hC : C)
    {α : Type} {k : _ → Prog (TpuEff nD τ sig (Elt F) Λ₀ (VT d L).2) α} {Φ : α → sProp 𝕄}
    (H : P ⊢ wp frame (wpE (defs₀ (F := F)) 𝒱₀ (VT d L) none) Set.univ (k ⟨hC⟩) Φ) :
    P ⊢ wp frame (wpE (defs₀ (F := F)) 𝒱₀ (VT d L) none) Set.univ (Prog.op (TpuEff.assume C dec) k) Φ := by
  iintro HP
  sl_exec
  iapply H
  iframe

/-- A read offset is 0 or 64. -/
theorem word_two {o7 : S64x128.Idx → BitVec 32} {g r : ℕ} {x : Vec F S1x16 .i32}
    (hw : ∀ u hu hp, extractAt ![0] (extractStridedSlice S1 ![u] (shapeCast S16 x shapeCasts_S1x16_S16) hu) hp = o7 (ixO g (r + u)))
    (ho : Two o7) (u : ℕ) (hu : S16.Slices ![u] S1) (hp : ∀ a, (![0] : Fin 1 → ℕ) a < S1.size a) :
    extractAt ![0] (extractStridedSlice S1 ![u] (shapeCast S16 x shapeCasts_S1x16_S16) hu) hp = 0#32
      ∨ extractAt ![0] (extractStridedSlice S1 ![u] (shapeCast S16 x shapeCasts_S1x16_S16) hu) hp = 64#32 := by
  rw [hw u hu hp]; exact ho _

/-- The side condition of a row, at an offset that is 0 or 64. -/
theorem chk_nat (t : Fin 8) (u : ℕ) (v : BitVec 32) (hu : u < 16) (hv : v = 0#32 ∨ v = 64#32) :
    (16 ∣ (Scalar.addi v 0#32).toNat) ∧
    (∀ (r : Fin 4), ∀ a, (![(Scalar.indexCast (Scalar.addi (Scalar.muli (Scf.iv 0#32 1#32 t) 16#32) (BitVec.ofNat 32 u)) : Index).toNat,
        (Scalar.indexCast (Scalar.addi v (BitVec.ofNat 32 (16 * r.val))) : Index).toNat] : Fin 2 → ℕ) a + S1x16.size a ≤ S128x128.size a) ∧
    (16 ∣ (Scalar.addi v 16#32).toNat) ∧ (16 ∣ (Scalar.addi v 32#32).toNat) ∧ (16 ∣ (Scalar.addi v 48#32).toNat) :=
  chk_of t ⟨u, hu⟩ v hv

/-- Eight additions one inside the other, each addend replaced. -/
theorem addf8 {a b r0 r1 r2 r3 r4 r5 r6 r7 s0 s1 s2 s3 s4 s5 s6 s7 : FVec F S16 .f32} (h : a = b) (h0 : r0 = s0) (h1 : r1 = s1) (h2 : r2 = s2)
    (h3 : r3 = s3) (h4 : r4 = s4) (h5 : r5 = s5) (h6 : r6 = s6) (h7 : r7 = s7) :
    addf (addf (addf (addf (addf (addf (addf (addf a r0) r1) r2) r3) r4) r5) r6) r7
      = addf (addf (addf (addf (addf (addf (addf (addf b s0) s1) s2) s3) s4) s5) s6) s7 := by
  subst h h0 h1 h2 h3 h4 h5 h6 h7; rfl

set_option maxHeartbeats 2000000 in
/-- A trip of the first inner loop. -/
theorem t2_step (t1 : Fin k1_t1_loop.trips) (v60 : BitVec 32) (t2 : Fin k1_t2_loop.trips) (acc a0 : A8 F)
    (o7 : Buf (Elt F) ((s1V).view.loc (VT d L))) (B : Buf (Elt F) ((s2V).view.loc (VT d L))) (ho : Two o7)
    (hacc : acc = acc8 B (offs o7 (2 * t1.val)) a0 (8 * t2.val)) :
    (iprop(bufPts d L s2V B ∗ offPts d L o7) : sProp 𝕄)
      ⊢ wp frame (wpE (defs₀ (F := F)) 𝒱₀ (VT d L) none) Set.univ
          (k1_t2_body L pV (wh _) fV (wh _) tV (wh _) rV (wh _) s0V (wh _) s1V (wh _) s2V (wh _) s3V (wh _) s4V (wh _)
            cc1_scratch5 cc1_scratch6 cc1_scoped0 cc1_scoped1 cc1_scoped2 t1 v60 t2 acc)
          fun acc' => iprop(⌜acc' = acc8 B (offs o7 (2 * t1.val)) a0 (8 * (t2.val + 1))⌝
            ∗ bufPts d L s2V B ∗ offPts d L o7) := by
  obtain ⟨a1, a2, a3, a4, a5, a6, a7, a8⟩ := acc
  simp only [acc8, Prod.mk.injEq] at hacc
  obtain ⟨e1, e2, e3, e4, e5, e6, e7, e8⟩ := hacc
  unfold k1_t2_body
  simp only [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton, k1_part10_eq_skeleton]
  unfold k1_part1_skel k1_part2_skel k1_part3_skel k1_part4_skel k1_part5_skel k1_part6_skel k1_part7_skel k1_part8_skel k1_part9_skel k1_part10_skel
  simp only [Prog.lift, Prog.bind_op, Prog.bind_ret, Prog.pure_eq_ret, Prog.bind_assoc]
  refine word_step d L s2V B o7 _ _ (k1_off2_eq t1 t2) (fun y hw => ?_)
  iterate 16
    refine assume_step d L _ ?_ ?_
    · refine chk_nat t2 _ _ ?_ ?_
      rotate_left
      · exact word_two hw ho _ (by decide) _
      · decide
    iterate 4
      refine row_step d L s2V B _ t2 o7 ho (2 * t1.val) _ _ _ ?_ ?_ ?_ (fun x hx => ?_)
      · exact hw _ (by decide) _
      · decide
      · decide
  iintro ⟨HB, HO⟩
  rw [wp_ret]
  imodintro
  iframe
  ipureintro
  simp only [acc8, accN_trip]
  refine congrArg₂ Prod.mk (addf8 e1 ?_ ?_ ?_ ?_ ?_ ?_ ?_ ?_) (congrArg₂ Prod.mk (addf8 e2 ?_ ?_ ?_ ?_ ?_ ?_ ?_ ?_)
    (congrArg₂ Prod.mk (addf8 e3 ?_ ?_ ?_ ?_ ?_ ?_ ?_ ?_) (congrArg₂ Prod.mk (addf8 e4 ?_ ?_ ?_ ?_ ?_ ?_ ?_ ?_)
    (congrArg₂ Prod.mk (addf8 e5 ?_ ?_ ?_ ?_ ?_ ?_ ?_ ?_) (congrArg₂ Prod.mk (addf8 e6 ?_ ?_ ?_ ?_ ?_ ?_ ?_ ?_)
    (congrArg₂ Prod.mk (addf8 e7 ?_ ?_ ?_ ?_ ?_ ?_ ?_ ?_) (addf8 e8 ?_ ?_ ?_ ?_ ?_ ?_ ?_ ?_)))))))
  all_goals assumption

set_option maxHeartbeats 2000000 in
/-- A trip of the second inner loop. -/
theorem t3_step (t1 : Fin k1_t1_loop.trips) (v60 : BitVec 32) (t3 : Fin k1_t3_loop.trips) (acc a0 : A8 F)
    (o7 : Buf (Elt F) ((s1V).view.loc (VT d L))) (B : Buf (Elt F) ((s3V).view.loc (VT d L))) (ho : Two o7)
    (hacc : acc = acc8 B (offs o7 (2 * t1.val + 1)) a0 (8 * t3.val)) :
    (iprop(bufPts d L s3V B ∗ offPts d L o7) : sProp 𝕄)
      ⊢ wp frame (wpE (defs₀ (F := F)) 𝒱₀ (VT d L) none) Set.univ
          (k1_t3_body L pV (wh _) fV (wh _) tV (wh _) rV (wh _) s0V (wh _) s1V (wh _) s2V (wh _) s3V (wh _) s4V (wh _)
            cc1_scratch5 cc1_scratch6 cc1_scoped0 cc1_scoped1 cc1_scoped2 t1 v60 t3 acc)
          fun acc' => iprop(⌜acc' = acc8 B (offs o7 (2 * t1.val + 1)) a0 (8 * (t3.val + 1))⌝
            ∗ bufPts d L s3V B ∗ offPts d L o7) := by
  obtain ⟨a1, a2, a3, a4, a5, a6, a7, a8⟩ := acc
  simp only [acc8, Prod.mk.injEq] at hacc
  obtain ⟨e1, e2, e3, e4, e5, e6, e7, e8⟩ := hacc
  unfold k1_t3_body
  simp only [k1_part11_eq_skeleton, k1_part12_eq_skeleton, k1_part13_eq_skeleton, k1_part14_eq_skeleton, k1_part15_eq_skeleton, k1_part16_eq_skeleton,
    k1_part17_eq_skeleton, k1_part18_eq_skeleton, k1_part19_eq_skeleton, k1_part20_eq_skeleton]
  unfold k1_part11_skel k1_part12_skel k1_part13_skel k1_part14_skel k1_part15_skel k1_part16_skel k1_part17_skel k1_part18_skel k1_part19_skel k1_part20_skel
  simp only [Prog.lift, Prog.bind_op, Prog.bind_ret, Prog.pure_eq_ret, Prog.bind_assoc]
  refine word_step d L s3V B o7 _ _ (k1_off20_eq t1 t3) (fun y hw => ?_)
  iterate 16
    refine assume_step d L _ ?_ ?_
    · refine chk_nat t3 _ _ ?_ ?_
      rotate_left
      · exact word_two hw ho _ (by decide) _
      · decide
    iterate 4
      refine row_step d L s3V B _ t3 o7 ho (2 * t1.val + 1) _ _ _ ?_ ?_ ?_ (fun x hx => ?_)
      · exact hw _ (by decide) _
      · decide
      · decide
  iintro ⟨HB, HO⟩
  rw [wp_ret]
  imodintro
  iframe
  ipureintro
  simp only [acc8, accN_trip]
  refine congrArg₂ Prod.mk (addf8 e1 ?_ ?_ ?_ ?_ ?_ ?_ ?_ ?_) (congrArg₂ Prod.mk (addf8 e2 ?_ ?_ ?_ ?_ ?_ ?_ ?_ ?_)
    (congrArg₂ Prod.mk (addf8 e3 ?_ ?_ ?_ ?_ ?_ ?_ ?_ ?_) (congrArg₂ Prod.mk (addf8 e4 ?_ ?_ ?_ ?_ ?_ ?_ ?_ ?_)
    (congrArg₂ Prod.mk (addf8 e5 ?_ ?_ ?_ ?_ ?_ ?_ ?_ ?_) (congrArg₂ Prod.mk (addf8 e6 ?_ ?_ ?_ ?_ ?_ ?_ ?_ ?_)
    (congrArg₂ Prod.mk (addf8 e7 ?_ ?_ ?_ ?_ ?_ ?_ ?_ ?_) (addf8 e8 ?_ ?_ ?_ ?_ ?_ ?_ ?_ ?_)))))))
  all_goals assumption

end Cert.Proof.KI

end
-- ==== Proof.Gather.lean ====
/-
  The vector subcores' gathers: what one delivers (`chunk`), and the rules of its issue and of its wait.
-/
module

public import proofs.«01_k».proof.Proof.Inner

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

-- the memrefs the body table passes the kernel
local notation "pV" => (Memref.whole Cert.KernelIdeal.main_v5_scv : Memref Cert.KernelIdeal.sig Kind.scVector Space.hbm Cert.KernelIdeal.S2048x128 EltTy.i32)
local notation "fV" => (Memref.whole Cert.KernelIdeal.main_v8_scv : Memref Cert.KernelIdeal.sig Kind.scVector Space.hbm Cert.KernelIdeal.S2048x128 EltTy.i32)
local notation "tV" => (Memref.whole Cert.KernelIdeal.main_v10_scv : Memref Cert.KernelIdeal.sig Kind.scVector Space.hbm Cert.KernelIdeal.S507904x128 EltTy.f32)
local notation "rV" => (Memref.whole Cert.KernelIdeal.main_v11_scv : Memref Cert.KernelIdeal.sig Kind.scVector Space.hbm Cert.KernelIdeal.S2x16x64 EltTy.f32)
local notation "s0V" => (Memref.whole Cert.KernelIdeal.cc1_scratch0 : Memref Cert.KernelIdeal.sig Kind.scVector Space.vmem Cert.KernelIdeal.S64x128 EltTy.i32)
local notation "s1V" => (Memref.whole Cert.KernelIdeal.cc1_scratch1 : Memref Cert.KernelIdeal.sig Kind.scVector Space.vmem Cert.KernelIdeal.S64x128 EltTy.i32)
local notation "s2V" => (Memref.whole Cert.KernelIdeal.cc1_scratch2 : Memref Cert.KernelIdeal.sig Kind.scVector Space.vmem Cert.KernelIdeal.S128x128 EltTy.f32)
local notation "s3V" => (Memref.whole Cert.KernelIdeal.cc1_scratch3 : Memref Cert.KernelIdeal.sig Kind.scVector Space.vmem Cert.KernelIdeal.S128x128 EltTy.f32)
local notation "s4V" => (Memref.whole Cert.KernelIdeal.cc1_scratch4 : Memref Cert.KernelIdeal.sig Kind.scVector Space.vmem Cert.KernelIdeal.S64 EltTy.f32)
local notation "wh" => Memref.isWhole_whole

variable [FloatOps F]

variable (d : Dev nD) (L : grid1.Coords)

/-! ## What a gather delivers -/

/-- The index `(r, c)` of the table (taken modulo the extents, so total). -/
def ixT (r c : ℕ) : S507904x128.Idx := fun
  | 0 => ⟨r % 507904, Nat.mod_lt _ (by decide)⟩
  | 1 => ⟨c % 128, Nat.mod_lt _ (by decide)⟩
  | ⟨_ + 2, h⟩ => absurd h (Nat.not_lt.2 (Nat.le_add_left _ _))

/-- Chunk `g` of the gathered rows: row `r` is the table's row named by word `(g, r)` of the list. -/
def chunk (Tb : S507904x128.Idx → F .f32) (P6 : S64x128.Idx → BitVec 32) (g : ℕ) : S128x128.Idx → F .f32 :=
  fun y => Tb (ixT (P6 (ixO g (y 0).val)).toNat (y 1).val)

/-- Every word of the list names a row of the table. -/
abbrev InT (P6 : S64x128.Idx → BitVec 32) : Prop := ∀ y, (P6 y).toNat < 507904

/-- Row `off 0` of the list, as a gather names it. -/
abbrev listV (off : Fin 2 → ℕ) (inb : ∀ a, off a + S1x128.size a ≤ S64x128.size a) : Memref sig .scVector .vmem S128 .i32 :=
  ((s0V).slice (Rect.unit (s := S64x128) off S1x128.size inb) (fun _ => rfl)).squeeze S128 squeezes_S1x128_S128

/-- The table, as a gather names it. -/
abbrev tblV : Memref sig .scVector .hbm S507904x128 .f32 :=
  (tV).slice (Rect.unit (s := S507904x128) ![0, 0] S507904x128.size inb_S507904x128_S507904x128_0_0) (fun _ => rfl)

theorem read_list (off : Fin 2 → ℕ) (inb) (g : ℕ) (hoff : off = ![g, 0]) (hg : g < 64) (P6 : S64x128.Idx → BitVec 32) (x : S128.Idx) :
    (listV off inb).view.read (Elt F) P6 x = P6 (ixO g (x 0).val) := by
  subst hoff
  rw [show (listV _ inb).view.read (Elt F) P6 x = P6 ((listV _ inb).view.emb x) from (View.read_apply _ _).trans (cast_eq _ _)]
  congr 1
  have e : Shape.reshapeEquiv (s := S1x128) (s' := S128) squeezes_S1x128_S128.numel_eq x = (fun
      | 0 => ⟨0, by decide⟩
      | 1 => ⟨(x 0).val, (x 0).isLt⟩
      | ⟨_ + 2, h⟩ => absurd h (Nat.not_lt.2 (Nat.le_add_left _ _)) : S1x128.Idx) :=
    Shape.reshapeEquiv_eq_of_rowMajor _ (by
      rw [Shape.rowMajor_val_two, Shape.rowMajor_val_one]
      show 0 * 128 + (x 0).val = (x 0).val
      omega)
  show (Rect.unit (s := S64x128) ![g, 0] S1x128.size inb).emb (Shape.reshapeEquiv _ x) = _
  rw [e]
  funext a
  have hx : (x 0).val < 128 := (x 0).isLt
  match a with
  | 0 => exact Fin.ext (show g + 1 * 0 = g % 64 by omega)
  | 1 => exact Fin.ext (show 0 + 1 * (x 0).val = (x 0).val % 128 by omega)

theorem list_in (off : Fin 2 → ℕ) (inb) (g : ℕ) (hoff : off = ![g, 0]) (hg : g < 64) (P6 : S64x128.Idx → BitVec 32) (h : InT P6) :
    ∀ x, ((listV off inb).view.read (Elt F) P6 x).toNat < S507904x128.size gathers_S507904x128_S128x128.axis := fun x => by
  rw [read_list off inb g hoff hg P6 x]; exact h _

theorem payload_chunk (off : Fin 2 → ℕ) (inb) (g : ℕ) (hoff : off = ![g, 0]) (hg : g < 64) (Tb : S507904x128.Idx → F .f32)
    (P6 : S64x128.Idx → BitVec 32) (hn : S128.numel = S128x128.size gathers_S507904x128_S128x128.axis')
    (hin : ∀ x, ((listV off inb).view.read (Elt F) P6 x).toNat < S507904x128.size gathers_S507904x128_S128x128.axis) :
    SparseCore.gatherPayload gathers_S507904x128_S128x128 ((tblV).view.read (Elt F) Tb) (SparseCore.rows ((listV off inb).view.read (Elt F) P6) hn hin)
      = chunk Tb P6 g := by
  funext x
  unfold SparseCore.gatherPayload chunk
  rw [show ∀ j, (tblV).view.read (Elt F) Tb j = Tb ((tblV).view.emb j) from fun j => (View.read_apply _ _).trans (cast_eq _ _)]
  congr 1
  have hr := read_list (F := F) off inb g hoff hg P6
  have hx0 : (x 0).val < 128 := (x 0).isLt
  have hx1 : (x 1).val < 128 := (x 1).isLt
  have ha : gathers_S507904x128_S128x128.axis = 0 := rfl
  funext a
  match a with
  | 0 =>
    have e0 := Shape.Gathers.idx_axis gathers_S507904x128_S128x128 (SparseCore.rows ((listV off inb).view.read (Elt F) P6) hn hin) x
    refine Fin.ext ?_
    show 0 + 1 * (gathers_S507904x128_S128x128.idx (SparseCore.rows ((listV off inb).view.read (Elt F) P6) hn hin) x 0).val = _ % 507904
    rw [show gathers_S507904x128_S128x128.idx (SparseCore.rows ((listV off inb).view.read (Elt F) P6) hn hin) x 0 = _ from e0]
    show 0 + 1 * ((listV off inb).view.read (Elt F) P6 _).toNat = _
    rw [hr]
    have hlt := hin (S128.rowMajor.symm ((x 0).cast hn.symm))
    rw [hr] at hlt
    have e1 : (S128.rowMajor.symm ((x 0).cast hn.symm) 0).val = (x 0).val := by
      have := congrArg Fin.val (S128.rowMajor.apply_symm_apply ((x 0).cast hn.symm))
      rw [Shape.rowMajor_val_one] at this
      exact this
    rw [e1] at hlt
    have hlt' : (P6 (ixO g (x 0).val)).toNat < 507904 := hlt
    have e2 : (P6 (ixO g (S128.rowMajor.symm ((x 0).cast hn.symm) 0).val)).toNat = (P6 (ixO g (x 0).val)).toNat := by rw [e1]
    rw [Nat.zero_add, Nat.one_mul, Nat.mod_eq_of_lt hlt']
    exact e2
  | 1 =>
    have e0 := Shape.Gathers.idx_of_ne gathers_S507904x128_S128x128 (SparseCore.rows ((listV off inb).view.read (Elt F) P6) hn hin) x (b := 1) (by decide)
    refine Fin.ext ?_
    show 0 + 1 * (gathers_S507904x128_S128x128.idx (SparseCore.rows ((listV off inb).view.read (Elt F) P6) hn hin) x 1).val = _ % 128
    rw [e0]
    show 0 + 1 * (x 1).val = (x 1).val % 128
    omega

/-! ## Its issue and its wait -/

/-- A share of the table and one of the list, as a gather holds them. -/
def tabTok (q : PosShare TreeShare) (Tb : Buf (Elt F) ((tV).view.loc (VT d L))) : sProp 𝕄 := (tV).view.loc (VT d L) ↦{q} Tb
def listTok (q : PosShare TreeShare) (P6 : Buf (Elt F) ((s0V).view.loc (VT d L))) : sProp 𝕄 := (s0V).view.loc (VT d L) ↦{q} P6

/-- What a gather of chunk `g` into the buffer `M` delivers; -/
def Dl (M : Memref sig .scVector .vmem S128x128 .f32) (f : Buf (Elt F) (M.view.loc (VT d L))) (qt ql : PosShare TreeShare) (Tb : S507904x128.Idx → F .f32) (P6 : S64x128.Idx → BitVec 32) : sProp 𝕄 :=
  iprop(bufPts d L M f ∗ tabTok d L qt Tb ∗ listTok d L ql P6)
/-- its flight on the cell `sm`; -/
def Fl (M : Memref sig .scVector .vmem S128x128 .f32) (sm : DmaSem sig) (f : Buf (Elt F) (M.view.loc (VT d L))) (qt ql : PosShare TreeShare) (Tb : S507904x128.Idx → F .f32) (P6 : S64x128.Idx → BitVec 32) : sProp 𝕄 :=
  Transfers.Flight countersEmb (VT d L) (.dma sm) none (M.view.dmaCredit) (Dl d L M f qt ql Tb P6)
/-- and nothing in flight there. -/
def Fr (M : Memref sig .scVector .vmem S128x128 .f32) (sm : DmaSem sig) (qt ql : PosShare TreeShare) (Tb : S507904x128.Idx → F .f32) (P6 : S64x128.Idx → BitVec 32) : sProp 𝕄 :=
  iprop((∃ f, bufPts d L M f) ∗ tabTok d L qt Tb ∗ listTok d L ql P6 ∗ semVal (VT d L, SemLoc.dma sm) 0)

set_option maxHeartbeats 1000000 in
theorem issue0 (off : Fin 2 → ℕ) (inb) (g : ℕ) (hoff : off = ![g, 0]) (hg : g < 64) (qt ql : PosShare TreeShare)
    (Tb : S507904x128.Idx → F .f32) (P6 : S64x128.Idx → BitVec 32) (h : InT P6) {hn h1 h2 h3 h4 h5} {α : Type}
    {k : PUnit → Prog (TpuEff nD τ sig (Elt F) Λ₀ (VT d L).2) α} {Φ : α → sProp 𝕄} :
    (Fr d L s2V cc1_scratch5.sem qt ql Tb P6 : sProp 𝕄)
      ⊢ iprop((Fl d L s2V cc1_scratch5.sem (chunk Tb P6 g) qt ql Tb P6 -∗ wp frame (wpE (defs₀ (F := F)) 𝒱₀ (VT d L) none) Set.univ (k ⟨⟩) Φ)
        -∗ wp frame (wpE (defs₀ (F := F)) 𝒱₀ (VT d L) none) Set.univ
          (SparseCore.enqueueIndirectGather h1 tblV s2V gathers_S507904x128_S128x128 (listV off inb) hn cc1_scratch5.sem h2 h3 h4 h5 >>= k) Φ) := by
  unfold Fr Fl Dl bufPts tabTok listTok
  iintro ⟨⟨%f, HB⟩, HT, HP, Hv⟩ HK
  have hN : ∀ h : S507904x128.Gathers 0 S128x128, ∑ j, ((s2V).slice (S128x128.rowRect h.axis' j) (S128x128.stride_rowRect h.axis' j)).view.dmaCredit
      = (s2V).view.dmaCredit := by decide
  iapply (SparseCore.wp_gatherFromWhole countersEmb 𝒱₀ (VT d L) none (src := tblV) (dst := s2V) (offs := listV off inb) (hg := gathers_S507904x128_S128x128) (default : HIx 1)
      (s2V).view.dmaCredit (hN _) (by decide) (list_in off inb g hoff hg P6 h)) $$ [HB HT HP Hv]
  · isplitl [HT]; · iexact HT
    isplitl [HB]; · iexact HB
    isplitl [HP]; · iexact HP
    iexact Hv
  rw [payload_chunk off inb g hoff hg Tb P6, show View.write (Elt F) (s2V).view f (chunk Tb P6 g) Finset.univ = chunk Tb P6 g from View.write_whole_univ _ _ _]
  iintro Hf
  iapply HK
  iexact Hf

set_option maxHeartbeats 1000000 in
theorem issue1 (off : Fin 2 → ℕ) (inb) (g : ℕ) (hoff : off = ![g, 0]) (hg : g < 64) (qt ql : PosShare TreeShare)
    (Tb : S507904x128.Idx → F .f32) (P6 : S64x128.Idx → BitVec 32) (h : InT P6) {hn h1 h2 h3 h4 h5} {α : Type}
    {k : PUnit → Prog (TpuEff nD τ sig (Elt F) Λ₀ (VT d L).2) α} {Φ : α → sProp 𝕄} :
    (Fr d L s3V cc1_scratch6.sem qt ql Tb P6 : sProp 𝕄)
      ⊢ iprop((Fl d L s3V cc1_scratch6.sem (chunk Tb P6 g) qt ql Tb P6 -∗ wp frame (wpE (defs₀ (F := F)) 𝒱₀ (VT d L) none) Set.univ (k ⟨⟩) Φ)
        -∗ wp frame (wpE (defs₀ (F := F)) 𝒱₀ (VT d L) none) Set.univ
          (SparseCore.enqueueIndirectGather h1 tblV s3V gathers_S507904x128_S128x128 (listV off inb) hn cc1_scratch6.sem h2 h3 h4 h5 >>= k) Φ) := by
  unfold Fr Fl Dl bufPts tabTok listTok
  iintro ⟨⟨%f, HB⟩, HT, HP, Hv⟩ HK
  have hN : ∀ h : S507904x128.Gathers 0 S128x128, ∑ j, ((s3V).slice (S128x128.rowRect h.axis' j) (S128x128.stride_rowRect h.axis' j)).view.dmaCredit
      = (s3V).view.dmaCredit := by decide
  iapply (SparseCore.wp_gatherFromWhole countersEmb 𝒱₀ (VT d L) none (src := tblV) (dst := s3V) (offs := listV off inb) (hg := gathers_S507904x128_S128x128) (default : HIx 1)
      (s3V).view.dmaCredit (hN _) (by decide) (list_in off inb g hoff hg P6 h)) $$ [HB HT HP Hv]
  · isplitl [HT]; · iexact HT
    isplitl [HB]; · iexact HB
    isplitl [HP]; · iexact HP
    iexact Hv
  rw [payload_chunk off inb g hoff hg Tb P6, show View.write (Elt F) (s3V).view f (chunk Tb P6 g) Finset.univ = chunk Tb P6 g from View.write_whole_univ _ _ _]
  iintro Hf
  iapply HK
  iexact Hf

/-- What the subcore owes, its waits recorded at no index beyond those of `W`. -/
def owing (O : CellTallies nD τ sig (HIx 1)) (W : Waits sig (HIx 1)) : sProp 𝕄 :=
  iprop(∃ W', ⌜∀ p ∈ W', p ∈ W ∨ p.2 = none⌝ ∗ owes (VT d L) O W')

theorem await (O : CellTallies nD τ sig (HIx 1)) (W : Waits sig (HIx 1)) (M : Memref sig .scVector .vmem S128x128 .f32) (sm : DmaSem sig)
    (f : Buf (Elt F) (M.view.loc (VT d L))) (qt ql : PosShare TreeShare) (Tb : S507904x128.Idx → F .f32) (P6 : S64x128.Idx → BitVec 32)
    {src : Memref sig .scVector .hbm S507904x128 .f32} {h1 h2} {α : Type}
    {k : PUnit → Prog (TpuEff nD τ sig (Elt F) Λ₀ (VT d L).2) α} {Φ : α → sProp 𝕄} :
    iprop(Fl d L M sm f qt ql Tb P6 ∗ owing d L O W ∗ Transfers.MayWaits (VT d L) (none : HIx 1) O)
      ⊢ iprop((iprop(bufPts d L M f ∗ tabTok d L qt Tb ∗ listTok d L ql P6 ∗ semVal (VT d L, SemLoc.dma sm) 0 ∗ owing d L O W)
            -∗ wp frame (wpE (defs₀ (F := F)) 𝒱₀ (VT d L) none) Set.univ (k ⟨⟩) Φ)
        -∗ wp frame (wpE (defs₀ (F := F)) 𝒱₀ (VT d L) none) Set.univ (SparseCore.waitIndirectGather sm src M h1 h2 >>= k) Φ) := by
  unfold Fl Dl owing
  iintro ⟨Hf, ⟨%W', %hW', HO⟩, Hmw⟩ HK
  iapply (Transfers.wp_waitLocalO countersEmb 𝒱₀ (VT d L) none (default : HIx 1) (rfl : M.view.dmaCredit = _)) $$ [Hf HO Hmw]
  · isplitl [Hf]; · iexact Hf
    isplitl [HO]; · iexact HO
    iapply (Transfers.MayWaits.elim (SemLoc.dma sm)) $$ Hmw
  iintro ⟨⟨HB, HT, HP⟩, Hv, HO⟩
  iapply HK
  iframe HB HT HP Hv
  iexists _; isplitr
  swap; · iexact HO
  ipureintro; intro p hp
  rcases Finset.mem_insert.mp hp with hp | hp; · exact .inr (hp ▸ rfl)
  exact hW' p hp

end Cert.Proof.KI

end
-- ==== Proof.Outer.lean ====
/-
  The vector subcores' outer loop: two chunks a trip, each waited for, added up, and its buffer refilled with the chunk
  two further on.
-/
module

public import proofs.«01_k».proof.Proof.Gather

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

-- the memrefs the body table passes the kernel
local notation "pV" => (Memref.whole Cert.KernelIdeal.main_v5_scv : Memref Cert.KernelIdeal.sig Kind.scVector Space.hbm Cert.KernelIdeal.S2048x128 EltTy.i32)
local notation "fV" => (Memref.whole Cert.KernelIdeal.main_v8_scv : Memref Cert.KernelIdeal.sig Kind.scVector Space.hbm Cert.KernelIdeal.S2048x128 EltTy.i32)
local notation "tV" => (Memref.whole Cert.KernelIdeal.main_v10_scv : Memref Cert.KernelIdeal.sig Kind.scVector Space.hbm Cert.KernelIdeal.S507904x128 EltTy.f32)
local notation "rV" => (Memref.whole Cert.KernelIdeal.main_v11_scv : Memref Cert.KernelIdeal.sig Kind.scVector Space.hbm Cert.KernelIdeal.S2x16x64 EltTy.f32)
local notation "s0V" => (Memref.whole Cert.KernelIdeal.cc1_scratch0 : Memref Cert.KernelIdeal.sig Kind.scVector Space.vmem Cert.KernelIdeal.S64x128 EltTy.i32)
local notation "s1V" => (Memref.whole Cert.KernelIdeal.cc1_scratch1 : Memref Cert.KernelIdeal.sig Kind.scVector Space.vmem Cert.KernelIdeal.S64x128 EltTy.i32)
local notation "s2V" => (Memref.whole Cert.KernelIdeal.cc1_scratch2 : Memref Cert.KernelIdeal.sig Kind.scVector Space.vmem Cert.KernelIdeal.S128x128 EltTy.f32)
local notation "s3V" => (Memref.whole Cert.KernelIdeal.cc1_scratch3 : Memref Cert.KernelIdeal.sig Kind.scVector Space.vmem Cert.KernelIdeal.S128x128 EltTy.f32)
local notation "s4V" => (Memref.whole Cert.KernelIdeal.cc1_scratch4 : Memref Cert.KernelIdeal.sig Kind.scVector Space.vmem Cert.KernelIdeal.S64 EltTy.f32)
local notation "wh" => Memref.isWhole_whole

variable [FloatOps F]

variable (d : Dev nD) (L : grid1.Coords)

/-- The eight running vectors after `n` trips, that is `2 n` chunks. -/
def accs (Tb : S507904x128.Idx → F .f32) (P6 O7 : S64x128.Idx → BitVec 32) : ℕ → A8 F
  | 0 => (k1_pay157, k1_pay157, k1_pay157, k1_pay157, k1_pay157, k1_pay157, k1_pay157, k1_pay157)
  | n + 1 => acc8 (chunk Tb P6 (2 * n + 1)) (offs O7 (2 * n + 1)) (acc8 (chunk Tb P6 (2 * n)) (offs O7 (2 * n)) (accs Tb P6 O7 n) 64) 64

theorem cond1_eq : ∀ t : Fin 32, (k1_cond1 t == 1#1) = decide (t.val < 31) := by decide +kernel
theorem cond2_eq : ∀ t : Fin 32, (k1_cond2 t == 1#1) = decide (t.val < 31) := by decide +kernel

section Trip

variable (O : CellTallies nD τ sig (HIx 1)) (W : Waits sig (HIx 1)) (q0 q1 l0 l1 : PosShare TreeShare)
  (Tb : S507904x128.Idx → F .f32) (P6 O7 : S64x128.Idx → BitVec 32)

/-- The two buffers before trip `n`: chunk `2 n` (and `2 n + 1`) in flight, or, after the last trip, free. -/
def slot0 (n : ℕ) : sProp 𝕄 :=
  if n < 32 then Fl d L s2V cc1_scratch5.sem (chunk Tb P6 (2 * n)) q0 l0 Tb P6 else Fr d L s2V cc1_scratch5.sem q0 l0 Tb P6
def slot1 (n : ℕ) : sProp 𝕄 :=
  if n < 32 then Fl d L s3V cc1_scratch6.sem (chunk Tb P6 (2 * n + 1)) q1 l1 Tb P6 else Fr d L s3V cc1_scratch6.sem q1 l1 Tb P6

theorem slot0_lt {n : ℕ} (h : n < 32) : slot0 d L q0 l0 Tb P6 n = Fl d L s2V cc1_scratch5.sem (chunk Tb P6 (2 * n)) q0 l0 Tb P6 := if_pos h
theorem slot1_lt {n : ℕ} (h : n < 32) : slot1 d L q1 l1 Tb P6 n = Fl d L s3V cc1_scratch6.sem (chunk Tb P6 (2 * n + 1)) q1 l1 Tb P6 := if_pos h
theorem slot0_ge {n : ℕ} (h : ¬ n < 32) : slot0 d L q0 l0 Tb P6 n = Fr d L s2V cc1_scratch5.sem q0 l0 Tb P6 := if_neg h
theorem slot1_ge {n : ℕ} (h : ¬ n < 32) : slot1 d L q1 l1 Tb P6 n = Fr d L s3V cc1_scratch6.sem q1 l1 Tb P6 := if_neg h

/-- The outer loop's invariant. -/
def IO (n : ℕ) (acc : A8 F) : sProp 𝕄 :=
  iprop(⌜acc = accs Tb P6 O7 n⌝ ∗ Transfers.MayWaits (VT d L) (none : HIx 1) O ∗ owing d L O W ∗ offPts d L O7
    ∗ slot0 d L q0 l0 Tb P6 n ∗ slot1 d L q1 l1 Tb P6 n)

/-- The inner loops' invariants. -/
def I2 (t1 : ℕ) (a0 : A8 F) (B : S128x128.Idx → F .f32) (n : ℕ) (acc : A8 F) : sProp 𝕄 :=
  iprop(⌜acc = acc8 B (offs O7 (2 * t1)) a0 (8 * n)⌝ ∗ bufPts d L s2V B ∗ offPts d L O7)
def I3 (t1 : ℕ) (a0 : A8 F) (B : S128x128.Idx → F .f32) (n : ℕ) (acc : A8 F) : sProp 𝕄 :=
  iprop(⌜acc = acc8 B (offs O7 (2 * t1 + 1)) a0 (8 * n)⌝ ∗ bufPts d L s3V B ∗ offPts d L O7)

/-- The first inner loop, whole. -/
theorem loop2 (ho : Two O7) (t1 : Fin k1_t1_loop.trips) (v60 : BitVec 32) (a0 : A8 F) (B : S128x128.Idx → F .f32) {β : Type}
    {kk : A8 F → Prog (TpuEff nD τ sig (Elt F) Λ₀ (VT d L).2) β} {Φ : β → sProp 𝕄} :
    iprop(bufPts d L s2V B ∗ offPts d L O7)
      ⊢ iprop((iprop(bufPts d L s2V B ∗ offPts d L O7)
            -∗ wp frame (wpE (defs₀ (F := F)) 𝒱₀ (VT d L) none) Set.univ (kk (acc8 B (offs O7 (2 * t1.val)) a0 64)) Φ)
        -∗ wp frame (wpE (defs₀ (F := F)) 𝒱₀ (VT d L) none) Set.univ
          (Scf.Loop.for k1_t2_loop k1_t2_ok a0
            (k1_t2_body L pV (wh _) fV (wh _) tV (wh _) rV (wh _) s0V (wh _) s1V (wh _) s2V (wh _) s3V (wh _) s4V (wh _)
            cc1_scratch5 cc1_scratch6 cc1_scoped0 cc1_scoped1 cc1_scoped2 t1 v60) >>= kk) Φ) := by
  iintro ⟨HB, HO⟩ HK
  iapply (Scf.wp_for_bind frame (wpE (defs₀ (F := F)) 𝒱₀ (VT d L) none) Set.univ _ _ _ k1_t2_ok a0
    (k1_t2_body L pV (wh _) fV (wh _) tV (wh _) rV (wh _) s0V (wh _) s1V (wh _) s2V (wh _) s3V (wh _) s4V (wh _)
            cc1_scratch5 cc1_scratch6 cc1_scoped0 cc1_scoped1 cc1_scoped2 t1 v60)
    (I2 d L O7 t1.val a0 B) (by
      intro k acc
      unfold I2
      iintro ⟨%hacc, HB, HO⟩
      iapply (t2_step d L t1 v60 k acc a0 O7 B ho hacc)
      iframe)) $$ [HB HO]
  · unfold I2
    iframe
    ipureintro
    obtain ⟨a1, a2, a3, a4, a5, a6, a7, a8⟩ := a0
    rfl
  iintro %acc HI
  unfold I2
  icases HI with ⟨%hacc, HB, HO⟩
  subst hacc
  iapply HK
  iframe

/-- The second inner loop, whole. -/
theorem loop3 (ho : Two O7) (t1 : Fin k1_t1_loop.trips) (v60 : BitVec 32) (a0 : A8 F) (B : S128x128.Idx → F .f32) {β : Type}
    {kk : A8 F → Prog (TpuEff nD τ sig (Elt F) Λ₀ (VT d L).2) β} {Φ : β → sProp 𝕄} :
    iprop(bufPts d L s3V B ∗ offPts d L O7)
      ⊢ iprop((iprop(bufPts d L s3V B ∗ offPts d L O7)
            -∗ wp frame (wpE (defs₀ (F := F)) 𝒱₀ (VT d L) none) Set.univ (kk (acc8 B (offs O7 (2 * t1.val + 1)) a0 64)) Φ)
        -∗ wp frame (wpE (defs₀ (F := F)) 𝒱₀ (VT d L) none) Set.univ
          (Scf.Loop.for k1_t3_loop k1_t3_ok a0
            (k1_t3_body L pV (wh _) fV (wh _) tV (wh _) rV (wh _) s0V (wh _) s1V (wh _) s2V (wh _) s3V (wh _) s4V (wh _)
            cc1_scratch5 cc1_scratch6 cc1_scoped0 cc1_scoped1 cc1_scoped2 t1 v60) >>= kk) Φ) := by
  iintro ⟨HB, HO⟩ HK
  iapply (Scf.wp_for_bind frame (wpE (defs₀ (F := F)) 𝒱₀ (VT d L) none) Set.univ _ _ _ k1_t3_ok a0
    (k1_t3_body L pV (wh _) fV (wh _) tV (wh _) rV (wh _) s0V (wh _) s1V (wh _) s2V (wh _) s3V (wh _) s4V (wh _)
            cc1_scratch5 cc1_scratch6 cc1_scoped0 cc1_scoped1 cc1_scoped2 t1 v60)
    (I3 d L O7 t1.val a0 B) (by
      intro k acc
      unfold I3
      iintro ⟨%hacc, HB, HO⟩
      iapply (t3_step d L t1 v60 k acc a0 O7 B ho hacc)
      iframe)) $$ [HB HO]
  · unfold I3
    iframe
    ipureintro
    obtain ⟨a1, a2, a3, a4, a5, a6, a7, a8⟩ := a0
    rfl
  iintro %acc HI
  unfold I3
  icases HI with ⟨%hacc, HB, HO⟩
  subst hacc
  iapply HK
  iframe

/-- A trip of the outer loop. -/
theorem t1_step (ho : Two O7) (hP : InT P6) (t1 : Fin k1_t1_loop.trips) (acc : A8 F) :
    (IO d L O W q0 q1 l0 l1 Tb P6 O7 t1.val acc : sProp 𝕄)
      ⊢ wp frame (wpE (defs₀ (F := F)) 𝒱₀ (VT d L) none) Set.univ
          (k1_t1_body L pV (wh _) fV (wh _) tV (wh _) rV (wh _) s0V (wh _) s1V (wh _) s2V (wh _) s3V (wh _) s4V (wh _)
            cc1_scratch5 cc1_scratch6 cc1_scoped0 cc1_scoped1 cc1_scoped2 t1 acc)
          (IO d L O W q0 q1 l0 l1 Tb P6 O7 (t1.val + 1)) := by
  have hk : t1.val < 32 := t1.isLt
  obtain ⟨a1, a2, a3, a4, a5, a6, a7, a8⟩ := acc
  unfold k1_t1_body IO
  rw [slot0_lt d L q0 l0 Tb P6 hk, slot1_lt d L q1 l1 Tb P6 hk]
  iintro ⟨%hacc, #Hmw, HO, Hoff, HF0, HF1⟩
  dsimp only
  iapply (await d L O W s2V cc1_scratch5.sem (chunk Tb P6 (2 * t1.val)) q0 l0 Tb P6) $$ [HF0 HO]
  · iframe HF0 HO Hmw
  iintro ⟨HB0, HT0, HL0, HV0, HO⟩
  iapply (loop2 d L O7 ho t1 _ (a1, a2, a3, a4, a5, a6, a7, a8) (chunk Tb P6 (2 * t1.val))) $$ [HB0 Hoff]
  · iframe
  iintro ⟨HB0, Hoff⟩
  have e1 := cond1_eq t1
  have e2 := cond2_eq t1
  by_cases h31 : t1.val < 31
  · have h1 : k1_cond1 t1 = 1#1 := by simpa [h31] using e1
    have h2 : k1_cond2 t1 = 1#1 := by simpa [h31] using e2
    rw [dif_pos h1]
    iapply (issue0 d L (k1_off19 t1) (k1_off19_inb t1 h1) (2 * (t1.val + 1)) (k1_off19_eq t1) (by omega) q0 l0 Tb P6 hP) $$ [HB0 HT0 HL0 HV0]
    · unfold Fr
      iframe
      iexists _; iexact HB0
    iintro HF0
    iapply (await d L O W s3V cc1_scratch6.sem (chunk Tb P6 (2 * t1.val + 1)) q1 l1 Tb P6) $$ [HF1 HO]
    · iframe HF1 HO Hmw
    iintro ⟨HB1, HT1, HL1, HV1, HO⟩
    iapply (loop3 d L O7 ho t1 _ _ (chunk Tb P6 (2 * t1.val + 1))) $$ [HB1 Hoff]
    · iframe
    iintro ⟨HB1, Hoff⟩
    rw [dif_pos h2]
    iapply (issue1 d L (k1_off37 t1) (k1_off37_inb t1 h2) (2 * (t1.val + 1) + 1) (k1_off37_eq t1) (by omega) q1 l1 Tb P6 hP) $$ [HB1 HT1 HL1 HV1]
    · unfold Fr
      iframe
      iexists _; iexact HB1
    iintro HF1
    rw [slot0_lt d L q0 l0 Tb P6 (by omega), slot1_lt d L q1 l1 Tb P6 (by omega)]
    simp only [Prog.pure_eq_ret, Prog.bind_ret]
    rw [wp_ret]
    imodintro
    iframe
    isplitr
    · ipureintro
      show _ = acc8 _ _ (acc8 _ _ (accs Tb P6 O7 t1.val) 64) 64
      rw [← hacc]
    iexact Hmw
  · have h1 : ¬ k1_cond1 t1 = 1#1 := by simpa [h31] using e1
    have h2 : ¬ k1_cond2 t1 = 1#1 := by simpa [h31] using e2
    rw [dif_neg h1]
    iapply (await d L O W s3V cc1_scratch6.sem (chunk Tb P6 (2 * t1.val + 1)) q1 l1 Tb P6) $$ [HF1 HO]
    · iframe HF1 HO Hmw
    iintro ⟨HB1, HT1, HL1, HV1, HO⟩
    iapply (loop3 d L O7 ho t1 _ _ (chunk Tb P6 (2 * t1.val + 1))) $$ [HB1 Hoff]
    · iframe
    iintro ⟨HB1, Hoff⟩
    rw [dif_neg h2]
    rw [slot0_ge d L q0 l0 Tb P6 (by omega), slot1_ge d L q1 l1 Tb P6 (by omega)]
    simp only [Prog.pure_eq_ret, Prog.bind_ret]
    rw [wp_ret]
    imodintro
    unfold Fr
    iframe
    isplitr
    · ipureintro
      show _ = acc8 _ _ (acc8 _ _ (accs Tb P6 O7 t1.val) 64) 64
      rw [← hacc]
    isplitr
    · iexact Hmw
    isplitl [HB0]
    · iexists _; iexact HB0
    iexists _; iexact HB1

end Trip

end Cert.Proof.KI

end
-- ==== Proof.Tile.lean ====
/-
  The vector subcores' kernel, whole: its two copies in, its outer loop, the four stores of the running vectors' sums, and
  its copy out.
-/
module

public import proofs.«01_k».proof.Proof.Outer

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

-- the memrefs the body table passes the kernel
local notation "pV" => (Memref.whole Cert.KernelIdeal.main_v5_scv : Memref Cert.KernelIdeal.sig Kind.scVector Space.hbm Cert.KernelIdeal.S2048x128 EltTy.i32)
local notation "fV" => (Memref.whole Cert.KernelIdeal.main_v8_scv : Memref Cert.KernelIdeal.sig Kind.scVector Space.hbm Cert.KernelIdeal.S2048x128 EltTy.i32)
local notation "tV" => (Memref.whole Cert.KernelIdeal.main_v10_scv : Memref Cert.KernelIdeal.sig Kind.scVector Space.hbm Cert.KernelIdeal.S507904x128 EltTy.f32)
local notation "rV" => (Memref.whole Cert.KernelIdeal.main_v11_scv : Memref Cert.KernelIdeal.sig Kind.scVector Space.hbm Cert.KernelIdeal.S2x16x64 EltTy.f32)
local notation "s0V" => (Memref.whole Cert.KernelIdeal.cc1_scratch0 : Memref Cert.KernelIdeal.sig Kind.scVector Space.vmem Cert.KernelIdeal.S64x128 EltTy.i32)
local notation "s1V" => (Memref.whole Cert.KernelIdeal.cc1_scratch1 : Memref Cert.KernelIdeal.sig Kind.scVector Space.vmem Cert.KernelIdeal.S64x128 EltTy.i32)
local notation "s2V" => (Memref.whole Cert.KernelIdeal.cc1_scratch2 : Memref Cert.KernelIdeal.sig Kind.scVector Space.vmem Cert.KernelIdeal.S128x128 EltTy.f32)
local notation "s3V" => (Memref.whole Cert.KernelIdeal.cc1_scratch3 : Memref Cert.KernelIdeal.sig Kind.scVector Space.vmem Cert.KernelIdeal.S128x128 EltTy.f32)
local notation "s4V" => (Memref.whole Cert.KernelIdeal.cc1_scratch4 : Memref Cert.KernelIdeal.sig Kind.scVector Space.vmem Cert.KernelIdeal.S64 EltTy.f32)
local notation "wh" => Memref.isWhole_whole

variable [FloatOps F]

variable (d : Dev nD) (L : grid1.Coords)

/-! ## Where a subcore reads and writes -/

/-- The half and the batch of the subcore at `L`. -/
def hL (L : grid1.Coords) : ℕ := (L 1).val % 2
def bL (L : grid1.Coords) : ℕ := 8 * (L 0).val + (L 1).val / 2

theorem off1_eq : ∀ L : grid1.Coords, k1_off1 L = ![bL L * 128 + hL L * 64, 0] := by decide +kernel
theorem off38_eq : ∀ L : grid1.Coords, k1_off38 L = ![hL L, bL L, 0] := by decide +kernel
theorem hL_lt (L : grid1.Coords) : hL L < 2 := Nat.mod_lt _ (by decide)
theorem bL_lt (L : grid1.Coords) : bL L < 16 := by
  have h0 : (L 0).val < 2 := (L 0).isLt
  have h1 : (L 1).val < 16 := (L 1).isLt
  unfold bL; omega

/-- The index `(r, c)` of the host's word arrays (taken modulo the extents, so total). -/
def ixR (r c : ℕ) : S2048x128.Idx := fun
  | 0 => ⟨r % 2048, Nat.mod_lt _ (by decide)⟩
  | 1 => ⟨c % 128, Nat.mod_lt _ (by decide)⟩
  | ⟨_ + 2, h⟩ => absurd h (Nat.not_lt.2 (Nat.le_add_left _ _))
/-- The index `(h, b, x)` of the partial sums (taken modulo the extents, so total). -/
def ixP (h b x : ℕ) : S2x16x64.Idx := fun
  | 0 => ⟨h % 2, Nat.mod_lt _ (by decide)⟩
  | 1 => ⟨b % 16, Nat.mod_lt _ (by decide)⟩
  | 2 => ⟨x % 64, Nat.mod_lt _ (by decide)⟩
  | ⟨_ + 3, h⟩ => absurd h (Nat.not_lt.2 (Nat.le_add_left _ _))
/-- Lane `x` of a running vector (taken modulo sixteen, so total). -/
def ixL (x : ℕ) : S16.Idx := fun
  | 0 => ⟨x % 16, Nat.mod_lt _ (by decide)⟩
  | ⟨_ + 1, h⟩ => absurd h (Nat.not_lt.2 (Nat.le_add_left _ _))

/-- The rows of a word array that half `h` of batch `b` reads. -/
def rowsAt (h b : ℕ) (X : S2048x128.Idx → BitVec 32) : S64x128.Idx → BitVec 32 :=
  fun y => X (ixR (b * 128 + h * 64 + (y 0).val) (y 1).val)

abbrev rectIn (L : grid1.Coords) : Rect S2048x128 := Rect.unit (s := S2048x128) (k1_off1 L) S64x128.size (k1_off1_inb L)

theorem rect_rows (L : grid1.Coords) (y : S64x128.Idx) : (rectIn L).emb y = ixR (bL L * 128 + hL L * 64 + (y 0).val) (y 1).val := by
  have h0 := hL_lt L
  have h1 := bL_lt L
  have hy0 : (y 0).val < 64 := (y 0).isLt
  have hy1 : (y 1).val < 128 := (y 1).isLt
  have e := off1_eq L
  have e0 : k1_off1 L 0 = bL L * 128 + hL L * 64 := congrFun e 0
  have e1 : k1_off1 L 1 = 0 := congrFun e 1
  funext a
  match a with
  | 0 => exact Fin.ext (show k1_off1 L 0 + 1 * (y 0).val = (bL L * 128 + hL L * 64 + (y 0).val) % 2048 by rw [e0]; omega)
  | 1 => exact Fin.ext (show k1_off1 L 1 + 1 * (y 1).val = (y 1).val % 128 by rw [e1]; omega)

theorem read_p (X : S2048x128.Idx → BitVec 32) : ((pV).slice (rectIn L) (fun _ => rfl)).view.read (Elt F) X = rowsAt (hL L) (bL L) X := by
  funext y
  rw [show ((pV).slice (rectIn L) (fun _ => rfl)).view.read (Elt F) X y = X ((rectIn L).emb y) from (View.read_apply _ _).trans (cast_eq _ _)]
  rw [rect_rows]; rfl
theorem read_f (X : S2048x128.Idx → BitVec 32) : ((fV).slice (rectIn L) (fun _ => rfl)).view.read (Elt F) X = rowsAt (hL L) (bL L) X := by
  funext y
  rw [show ((fV).slice (rectIn L) (fun _ => rfl)).view.read (Elt F) X y = X ((rectIn L).emb y) from (View.read_apply _ _).trans (cast_eq _ _)]
  rw [rect_rows]; rfl

/-- The block of the partial sums the subcore writes, as its copy names it. -/
abbrev outK (L : grid1.Coords) : Memref sig .scVector .hbm S64 .f32 :=
  ((rV).slice (Rect.unit (s := S2x16x64) (k1_off38 L) S1x1x64.size (k1_off38_inb L)) (fun _ => rfl)).squeeze S64 squeezes_S1x1x64_S64
abbrev outSet (L : grid1.Coords) : Finset S2x16x64.Idx := (outK L).view.set

theorem emb_out (x : S64.Idx) : (outK L).view.emb x = ixP (hL L) (bL L) (x 0).val := by
  have h0 := hL_lt L
  have h1 := bL_lt L
  have e := off38_eq L
  have e0 : k1_off38 L 0 = hL L := congrFun e 0
  have e1 : k1_off38 L 1 = bL L := congrFun e 1
  have e2 : k1_off38 L 2 = 0 := congrFun e 2
  have er : Shape.reshapeEquiv (s := S1x1x64) (s' := S64) squeezes_S1x1x64_S64.numel_eq x = (fun
      | 0 => ⟨0, by decide⟩
      | 1 => ⟨0, by decide⟩
      | 2 => ⟨(x 0).val, (x 0).isLt⟩
      | ⟨_ + 3, h⟩ => absurd h (Nat.not_lt.2 (Nat.le_add_left _ _)) : S1x1x64.Idx) :=
    Shape.reshapeEquiv_eq_of_rowMajor _ (by
      rw [Shape.rowMajor_val_three, Shape.rowMajor_val_one]
      show (0 * 1 + 0) * 64 + (x 0).val = (x 0).val
      omega)
  show (Rect.unit (s := S2x16x64) (k1_off38 L) S1x1x64.size (k1_off38_inb L)).emb (Shape.reshapeEquiv _ x) = _
  rw [er]
  have hx : (x 0).val < 64 := (x 0).isLt
  funext a
  match a with
  | 0 => exact Fin.ext (show k1_off38 L 0 + 1 * 0 = hL L % 2 by rw [e0]; omega)
  | 1 => exact Fin.ext (show k1_off38 L 1 + 1 * 0 = bL L % 16 by rw [e1]; omega)
  | 2 => exact Fin.ext (show k1_off38 L 2 + 1 * (x 0).val = (x 0).val % 64 by rw [e2]; omega)

/-! ## What it writes -/

/-- The four sums of running vectors; -/
def outN (a : A8 F) : ℕ → FVec F S16 .f32
  | 0 => addf a.1 a.2.2.2.2.1
  | 1 => addf a.2.1 a.2.2.2.2.2.1
  | 2 => addf a.2.2.1 a.2.2.2.2.2.2.1
  | _ => addf a.2.2.2.1 a.2.2.2.2.2.2.2
/-- end to end. -/
def outV (a : A8 F) (x : ℕ) : F .f32 := outN a (x / 16) (ixL x)

/-- The partial sums of half `h` of batch `b`, from the table, the list and the offsets. -/
def partV (Tb : S507904x128.Idx → F .f32) (P5 O8 : S2048x128.Idx → BitVec 32) (h b x : ℕ) : F .f32 :=
  outV (accs Tb (rowsAt h b P5) (rowsAt h b O8) 32) x

/-- What a subcore leaves in its block: the partial sums over some table of the allowed ones. -/
def PartOk (TOk : (S507904x128.Idx → F .f32) → Prop) (P5 O8 : S2048x128.Idx → BitVec 32) (h b : ℕ) (f : S2x16x64.Idx → F .f32) : Prop :=
  ∃ Tb, TOk Tb ∧ ∀ x < 64, f (ixP h b x) = partV Tb P5 O8 h b x

/-- A store of sixteen lanes at a constant offset, read back. -/
theorem store_at (f : S64.Idx → F .f32) (o : ℕ) (inb : ∀ a, (![o] : Fin 1 → ℕ) a + S16.size a ≤ S64.size a) (w : FVec F S16 .f32) (y : S64.Idx) :
    ((s4V).access (Rect.unit (s := S64) ![o] S16.size inb)).write (Elt F) f w Finset.univ y
      = if o ≤ (y 0).val ∧ (y 0).val < o + 16 then w (ixL ((y 0).val - o)) else f y := by
  split_ifs with h
  · have e : ((s4V).access (Rect.unit (s := S64) ![o] S16.size inb)).emb (ixL ((y 0).val - o)) = y := by
      funext a
      match a with
      | 0 => exact Fin.ext (show o + 1 * (((y 0).val - o) % 16) = (y 0).val by omega)
    have e1 := View.write_emb (Val := Elt F) (v := ((s4V).access (Rect.unit (s := S64) ![o] S16.size inb))) f w Finset.univ (ixL ((y 0).val - o))
    rw [e] at e1
    rw [e1]
    simp
  · refine View.write_of_not_mem (Val := Elt F) (v := ((s4V).access (Rect.unit (s := S64) ![o] S16.size inb))) f w Finset.univ ?_
    intro hm
    obtain ⟨x, -, e⟩ := Finset.mem_map.mp hm
    apply h
    have hx : (x 0).val < 16 := (x 0).isLt
    have : o + 1 * (x 0).val = (y 0).val := congrArg (fun z : S64.Idx => (z 0).val) e
    omega

/-- The four stores. -/
theorem stores_at (f : S64.Idx → F .f32) (a : A8 F) (y : S64.Idx) :
    ((s4V).access (Rect.unit (s := S64) ![48] S16.size inb_S64_S16_48)).write (Elt F)
      (((s4V).access (Rect.unit (s := S64) ![32] S16.size inb_S64_S16_32)).write (Elt F)
        (((s4V).access (Rect.unit (s := S64) ![16] S16.size inb_S64_S16_16)).write (Elt F)
          (((s4V).access (Rect.unit (s := S64) ![0] S16.size inb_S64_S16_0)).write (Elt F) f (outN a 0) Finset.univ)
          (outN a 1) Finset.univ) (outN a 2) Finset.univ) (outN a 3) Finset.univ y = outV a (y 0).val := by
  have hy : (y 0).val < 64 := (y 0).isLt
  rw [store_at, store_at, store_at, store_at]
  have key : ∀ o q, (y 0).val / 16 = q → o = 16 * q → outN a q (ixL ((y 0).val - o)) = outV a (y 0).val := fun o q h1 h2 => by
    have e : ixL ((y 0).val - o) = ixL (y 0).val := by
      funext b
      match b with
      | 0 => exact Fin.ext (show ((y 0).val - o) % 16 = (y 0).val % 16 by omega)
    unfold outV
    rw [h1, e]
  split_ifs with h1 h2 h3 h4
  · exact key _ _ (by omega) rfl
  · exact key _ _ (by omega) rfl
  · exact key _ _ (by omega) rfl
  · exact key _ _ (by omega) rfl
  · omega

/-! ## Its storage -/

abbrev smc (s : DmaSems sig S_) (d : Dev nD) (L : grid1.Coords) : GSem nD τ sig := (VT d L, .dma s.sem)

omit [FloatOps F] in
theorem ownSems0_V :
    (ownSems0 (VT d L) : sProp 𝕄)
      = iprop(semVal (smc cc1_scoped0 d L) 0 ∗ semVal (smc cc1_scoped1 d L) 0 ∗ semVal (smc cc1_scoped2 d L) 0
          ∗ semVal (smc cc1_scratch5 d L) 0 ∗ semVal (smc cc1_scratch6 d L) 0
          ∗ bigSep ((((((ownCells (VT d L)).erase (smc cc1_scoped0 d L)).erase (smc cc1_scoped1 d L)).erase (smc cc1_scoped2 d L)).erase
              (smc cc1_scratch5 d L)).erase (smc cc1_scratch6 d L)) fun g => semVal g 0) := by
  have hm : ∀ s : DmaSems sig S_, (SemLoc.dma s.sem : SemLoc sig).isScoped .scVector = true → smc s d L ∈ ownCells (VT d L) :=
    fun s hs => (mem_ownCells (g := smc s d L)).mpr ⟨rfl, hs⟩
  have hne : ∀ s s' : DmaSems sig S_, s.sem ≠ s'.sem → smc s d L ≠ smc s' d L := fun s s' h e =>
    h (by have := congrArg Prod.snd e; exact SemLoc.dma.inj this)
  unfold SparseCore.Cfg.ownSems0
  rw [SparseCore.bigSep_erase' (hm cc1_scoped0 (by decide)),
    SparseCore.bigSep_erase' (Finset.mem_erase.mpr ⟨hne cc1_scoped1 cc1_scoped0 (by decide), hm cc1_scoped1 (by decide)⟩),
    SparseCore.bigSep_erase' (Finset.mem_erase.mpr ⟨hne cc1_scoped2 cc1_scoped1 (by decide), Finset.mem_erase.mpr ⟨hne cc1_scoped2 cc1_scoped0 (by decide), hm cc1_scoped2 (by decide)⟩⟩),
    SparseCore.bigSep_erase' (Finset.mem_erase.mpr ⟨hne cc1_scratch5 cc1_scoped2 (by decide), Finset.mem_erase.mpr ⟨hne cc1_scratch5 cc1_scoped1 (by decide),
      Finset.mem_erase.mpr ⟨hne cc1_scratch5 cc1_scoped0 (by decide), hm cc1_scratch5 (by decide)⟩⟩⟩),
    SparseCore.bigSep_erase' (Finset.mem_erase.mpr ⟨hne cc1_scratch6 cc1_scratch5 (by decide), Finset.mem_erase.mpr ⟨hne cc1_scratch6 cc1_scoped2 (by decide),
      Finset.mem_erase.mpr ⟨hne cc1_scratch6 cc1_scoped1 (by decide), Finset.mem_erase.mpr ⟨hne cc1_scratch6 cc1_scoped0 (by decide), hm cc1_scratch6 (by decide)⟩⟩⟩⟩)]

abbrev sref (b : Ref sig .scVector) (L : grid1.Coords) : DevRef τ sig := (Proc.scVector (cV L) (jV L)).devRef b

omit [FloatOps F] in
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ (∃ f, (VT d L).loc cc1_scratch4 ↦{fullShare} f)
          ∗ bigSep ((((((ownRefs (τ := τ) (.scVector (cV L) (jV L))).erase (sref cc1_scratch0 L)).erase (sref cc1_scratch1 L)).erase
              (sref cc1_scratch2 L)).erase (sref cc1_scratch3 L)).erase (sref cc1_scratch4 L))
              fun b => iprop(∃ f, ((d, b) : Loc nD τ sig) ↦{fullShare} f)) := by
  have hne : ∀ b b' : Ref sig .scVector, b ≠ b' → sref b L ≠ sref b' L := fun b b' h e => h (Proc.devRef_injective _ e)
  unfold SparseCore.Cfg.ownBufs
  refine (SparseCore.bigSep_erase' (SparseCore.Cfg.mem_ownRefs_of_owner (p := Proc.scVector (cV L) (jV L)) (b := sref cc1_scratch0 L) rfl)).trans ?_
  rw [SparseCore.bigSep_erase' (Finset.mem_erase.mpr ⟨hne cc1_scratch1 cc1_scratch0 (by decide),
      SparseCore.Cfg.mem_ownRefs_of_owner (p := Proc.scVector (cV L) (jV L)) (b := sref cc1_scratch1 L) rfl⟩),
    SparseCore.bigSep_erase' (Finset.mem_erase.mpr ⟨hne cc1_scratch2 cc1_scratch1 (by decide), Finset.mem_erase.mpr ⟨hne cc1_scratch2 cc1_scratch0 (by decide),
      SparseCore.Cfg.mem_ownRefs_of_owner (p := Proc.scVector (cV L) (jV L)) (b := sref cc1_scratch2 L) rfl⟩⟩),
    SparseCore.bigSep_erase' (Finset.mem_erase.mpr ⟨hne cc1_scratch3 cc1_scratch2 (by decide), Finset.mem_erase.mpr ⟨hne cc1_scratch3 cc1_scratch1 (by decide),
      Finset.mem_erase.mpr ⟨hne cc1_scratch3 cc1_scratch0 (by decide),
      SparseCore.Cfg.mem_ownRefs_of_owner (p := Proc.scVector (cV L) (jV L)) (b := sref cc1_scratch3 L) rfl⟩⟩⟩),
    SparseCore.bigSep_erase' (Finset.mem_erase.mpr ⟨hne cc1_scratch4 cc1_scratch3 (by decide), Finset.mem_erase.mpr ⟨hne cc1_scratch4 cc1_scratch2 (by decide),
      Finset.mem_erase.mpr ⟨hne cc1_scratch4 cc1_scratch1 (by decide), Finset.mem_erase.mpr ⟨hne cc1_scratch4 cc1_scratch0 (by decide),
      SparseCore.Cfg.mem_ownRefs_of_owner (p := Proc.scVector (cV L) (jV L)) (b := sref cc1_scratch4 L) rfl⟩⟩⟩⟩)]

end Cert.Proof.KI

end
-- ==== Proof.Head.lean ====
/-
  The head kernel on the TensorCore: what a run of its body leaves in the result's window, as a function of what its three
  windows on the operands hold.
-/
module

public import proofs.«01_k».proof.Proof.Pack
public import proofs.«01_k».proof.Proof.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-- Half `h` of the partial sums, as the head loads it. -/
def halfP (h : ℕ) (P : S2x16x64.Idx → F .f32) : S1x16x64.Idx → F .f32 := fun y => P (ixP h (y 1).val (y 2).val)

/-- The head's result, from the partial sums, the weights and the bias. -/
def headV (P : S2x16x64.Idx → F .f32) (A : S16x64.Idx → F .f32) (B : S1x16.Idx → F .f32) : S16x16.Idx → F .f32 :=
  k2_pay1 (halfP 0 P) (halfP 1 P) A B

theorem readAt_half0 (M : Memref sig .tc .vmem S2x16x64 .f32) (f : BufTy.Contents (Elt F) M.view.ty) (P : S2x16x64.Idx → F .f32)
    (e : M.view.read (Elt F) f = P) :
    M.view.readAt (Elt F) (Rect.unit (s := S2x16x64) ![0, 0, 0] S1x16x64.size inb_S2x16x64_S1x16x64_0_0_0).toLoadRect f = halfP 0 P := by
  subst e; funext y
  show M.view.read (Elt F) f _ = M.view.read (Elt F) f _
  congr 1; funext a
  have h0 : (y 0).val < 1 := (y 0).isLt
  have h1 : (y 1).val < 16 := (y 1).isLt
  have h2 : (y 2).val < 64 := (y 2).isLt
  match a with
  | 0 => exact Fin.ext (show 0 + 1 * (y 0).val = 0 % 2 by omega)
  | 1 => exact Fin.ext (show 0 + 1 * (y 1).val = (y 1).val % 16 by omega)
  | 2 => exact Fin.ext (show 0 + 1 * (y 2).val = (y 2).val % 64 by omega)

theorem readAt_half1 (M : Memref sig .tc .vmem S2x16x64 .f32) (f : BufTy.Contents (Elt F) M.view.ty) (P : S2x16x64.Idx → F .f32)
    (e : M.view.read (Elt F) f = P) :
    M.view.readAt (Elt F) (Rect.unit (s := S2x16x64) ![1, 0, 0] S1x16x64.size inb_S2x16x64_S1x16x64_1_0_0).toLoadRect f = halfP 1 P := by
  subst e; funext y
  show M.view.read (Elt F) f _ = M.view.read (Elt F) f _
  congr 1; funext a
  have h0 : (y 0).val < 1 := (y 0).isLt
  have h1 : (y 1).val < 16 := (y 1).isLt
  have h2 : (y 2).val < 64 := (y 2).isLt
  match a with
  | 0 => exact Fin.ext (show 1 + 1 * (y 0).val = 1 % 2 by omega)
  | 1 => exact Fin.ext (show 0 + 1 * (y 1).val = (y 1).val % 16 by omega)
  | 2 => exact Fin.ext (show 0 + 1 * (y 2).val = (y 2).val % 64 by omega)

set_option maxHeartbeats 1000000 in
theorem head_body (c : Dev nD) (M0 : Memref sig .tc .vmem S2x16x64 .f32) (h0 : M0.IsWhole)
    (M1 : Memref sig .tc .vmem S16x64 .f32) (h1 : M1.IsWhole) (M2 : Memref sig .tc .vmem S1x16 .f32) (h2 : M2.IsWhole)
    (M3 : Memref sig .tc .vmem S16x16 .f32) (h3 : M3.IsWhole)
    (P : S2x16x64.Idx → F .f32) (A : S16x64.Idx → F .f32) (B : S1x16.Idx → F .f32) (X : S16x16.Idx → F .f32) :
    iprop(owns (Val := Elt F) (c.tc : Thread nD τ) M0 fullShare P ∗ owns (Val := Elt F) (c.tc : Thread nD τ) M1 fullShare A
        ∗ owns (Val := Elt F) (c.tc : Thread nD τ) M2 fullShare B ∗ owns (Val := Elt F) (c.tc : Thread nD τ) M3 fullShare X)
      ⊢ (wp frame (wpE (defs₀ (F := F)) 𝒱₀ (c.tc : Thread nD τ) none) Set.univ (cc2__tc_head M0 h0 M1 h1 M2 h2 M3 h3) fun _ =>
          iprop(owns (Val := Elt F) (c.tc : Thread nD τ) M0 fullShare P ∗ owns (Val := Elt F) (c.tc : Thread nD τ) M1 fullShare A
            ∗ owns (Val := Elt F) (c.tc : Thread nD τ) M2 fullShare B ∗ owns (Val := Elt F) (c.tc : Thread nD τ) M3 fullShare (headV P A B)) : sProp 𝕄) := by
  rw [cc2__tc_head_eq_skeleton]; unfold cc2__tc_head_skel owns
  iintro ⟨⟨%f0, %e0, H0⟩, ⟨%f1, %e1, H1⟩, ⟨%f2, %e2, H2⟩, ⟨%f3, -, H3⟩⟩
  sl_exec
  rw [readAt_half0 M0 f0 P e0, readAt_half1 M0 f0 P e0, View.readAt_full, View.readAt_full, e1, e2, wp_ret]
  imodintro
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  iexists _; isplitr; swap; (· iexact H3)
  ipureintro
  funext y
  rw [View.read_writes_cons_unit M3.view f3 _ _ _ y rfl, dif_pos (fun a => by
      match a with
      | 0 => exact ⟨Nat.zero_le _, by show _ < 0 + 16; exact (Nat.zero_add 16).symm ▸ (y 0).isLt⟩
      | 1 => exact ⟨Nat.zero_le _, by show _ < 0 + 16; exact (Nat.zero_add 16).symm ▸ (y 1).isLt⟩)]
  unfold headV
  congr 1; funext a
  match a with
  | 0 => rfl
  | 1 => rfl

end Cert.Proof.KI

end
-- ==== Proof.Regions.lean ====
/-
  The two TensorCore regions of @main as records for the region rule: the packing pipeline over its grid, whose clipped
  windows leave part of the packed table arbitrary, and the head's one point.
-/
module

public import proofs.«01_k».proof.Proof.Head
public import Idealize.ShloMosaic.Lib.Pipeline.ArrRel
public import Idealize.ShloMosaic.Lib.Pipeline.ValueKit
public import Idealize.ShloMosaic.Lib.Pipeline.RegionArraysF

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-! ## The regions' data -/

/-- The contents the two regions are entered with: the transposed table, the packed table's array, the partial sums, the
    weights, the bias and the result's array. -/
structure Cont (F : FTy → Type) where
  e : S64x1000000.Idx → F .f32
  t : S507904x128.Idx → F .f32
  p : S2x16x64.Idx → F .f32
  a : S16x64.Idx → F .f32
  b : S1x16.Idx → F .f32
  r : S16x16.Idx → F .f32

/-- The pairs a wait of a thread may have recorded when its level is bounded by `B`. -/
def recB (c : Dev nD) (B : ℕ) : Set (SemLoc sig × HIx 1) := {p | (K (F := F)).lev ((c.tc : Thread nD τ), p.1) p.2 ≤ B}

/-- What a fetch of the first (`w = 0`) or the second window at `t` leaves in a staging buffer that held `d`. -/
def fet0 (E : S64x1000000.Idx → F .f32) (t : Fin grid0.N) (d : S64x16384.Idx → F .f32) : S64x16384.Idx → F .f32 :=
  win0_0.fill (grid0.coords t) d ((win0_0.blk t).view.read (Elt F) E)
def fet1 (E : S64x1000000.Idx → F .f32) (t : Fin grid0.N) (d : S64x16384.Idx → F .f32) : S64x16384.Idx → F .f32 :=
  win0_1.fill (grid0.coords t) d ((win0_1.blk t).view.read (Elt F) E)

/-- The packing region's data: its input windows are left as found; the block written is the packing of what two fetches
    leave over some earlier contents. -/
def rd0 (C : Cont F) (O : CellTallies nD τ sig (HIx 1)) (B : ℕ) (c : Dev nD) : Pipeline.RDat τ (Elt F) (HIx 1) ℕ UU ℕ cfg0 c where
  A := fun w => match w with
    | 0 => C.e
    | 1 => C.e
    | 2 => C.t
    | ⟨_ + 3, h⟩ => absurd h (Nat.not_lt.2 (Nat.le_add_left _ _))
  after := fun w => match w with
    | 0 => fun _ Y X => X = Y
    | 1 => fun _ Y X => X = Y
    | 2 => fun t _ X => ∃ d0 d1, X = pack (fet0 C.e t d0) (fet1 C.e t d1)
    | ⟨_ + 3, h⟩ => absurd h (Nat.not_lt.2 (Nat.le_add_left _ _))
  Φ := fun _ => Pipeline.scopedRest (Val := Elt F) spec0 c
  q := fun w => match w with
    | 0 => fullShare.left
    | 1 => fullShare.right
    | 2 => fullShare
    | ⟨_ + 3, h⟩ => absurd h (Nat.not_lt.2 (Nat.le_add_left _ _))
  owed := fun _ => O
  recorded := fun _ => recB (F := F) c B

/-- The head's data: its input windows are left as found, the result's is the head of what they hold. -/
def rd2 (C : Cont F) (O : CellTallies nD τ sig (HIx 1)) (B : ℕ) (c : Dev nD) : Pipeline.RDat τ (Elt F) (HIx 1) ℕ UU ℕ cfg2 c where
  A := fun w => match w with
    | 0 => C.p
    | 1 => C.a
    | 2 => C.b
    | 3 => C.r
    | ⟨_ + 4, h⟩ => absurd h (Nat.not_lt.2 (Nat.le_add_left _ _))
  after := fun w => match w with
    | 0 => fun _ Y X => X = Y
    | 1 => fun _ Y X => X = Y
    | 2 => fun _ Y X => X = Y
    | 3 => fun _ _ X => X = headV C.p C.a C.b
    | ⟨_ + 4, h⟩ => absurd h (Nat.not_lt.2 (Nat.le_add_left _ _))
  Φ := fun _ => Pipeline.scopedRest (Val := Elt F) spec2 c
  q := fun _ => fullShare
  owed := fun _ => O
  recorded := fun _ => recB (F := F) c B

/-- The one reading of the two pipelines' tables: they prefetch none. -/
abbrev adm : (p : Fin 2) → (pcfgs (F := F) p).Adm := fun p => ⟨fun k => k.elim0, trivial⟩

def rdats (C : Cont F) (O : CellTallies nD τ sig (HIx 1)) (B : ℕ) :
    (p : Fin 2) → (c : Dev nD) → Pipeline.RDat τ (Elt F) (HIx 1) ℕ UU ℕ (Pipeline.pin (pcfgs (F := F)) adm p) c
  | 0 => rd0 C O B
  | 1 => rd2 C O B
  | ⟨_ + 2, h⟩ => absurd h (Nat.not_lt.2 (Nat.le_add_left _ _))

/-! ## The body obligations -/

theorem body0 (C : Cont F) (O : CellTallies nD τ sig (HIx 1)) (B : ℕ) (c : Dev nD) :
    (rd0 C O B c).BodyObligation (defs₀ (F := F)) 𝒱₀ none Set.univ := by
  intro t Y hY
  rw [bigSep_W0, bigSep_W0]
  obtain ⟨d0, e0⟩ := ((rd0 C O B c).finds_of_fetch (fetch0_0 t) (Y 0)).mp (hY 0)
  obtain ⟨d1, e1⟩ := ((rd0 C O B c).finds_of_fetch (fetch0_1 t) (Y 1)).mp (hY 1)
  change _ ⊢ wp frame (wpE (defs₀ (F := F)) 𝒱₀ (c.tc : Thread nD τ) none) Set.univ (bodyAt0 t) _
  iintro ⟨HΦ, HO, H⟩
  ihave Hw := (tr_body c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (Y 0) (Y 1) (Y 2)) $$ H
  iapply (wp_wand_r frame _ _)
  isplitl [Hw]; · iexact Hw
  iintro %_ ⟨H0, H1, H2⟩
  isplitl [HΦ]; · iapply (show (rd0 C O B c).Φ t.castSucc ⊢ (rd0 C O B c).Φ t.succ from .rfl); iexact HΦ
  isplitl [HO]; · iapply (show (rd0 C O B c).owesAt none t.castSucc ⊢ (rd0 C O B c).owesAt none t.succ from .rfl); iexact HO
  isplitl [H0]
  · iexists (Y 0); isplitr; · ipureintro; exact rfl
    iexact H0
  isplitl [H1]
  · iexists (Y 1); isplitr; · ipureintro; exact rfl
    iexact H1
  iexists (pack (Y 0) (Y 1)); isplitr
  · ipureintro; exact ⟨d0, d1, congrArg₂ pack e0 e1⟩
  iexact H2

theorem fetched2_0 (C : Cont F) (O : CellTallies nD τ sig (HIx 1)) (B : ℕ) (c : Dev nD) (t : Fin cfg2.N) (d) : (rd2 C O B c).fetched 0 t d = C.p := by
  funext j
  refine (win2_0.fill_xinj (grid2.coords t) d ((rd2 C O B c).blockOf 0 t) j).trans (congrArg C.p (funext fun a => Fin.ext ?_))
  show 0 * _ + 1 * (j a).val = (j a).val
  omega
theorem fetched2_1 (C : Cont F) (O : CellTallies nD τ sig (HIx 1)) (B : ℕ) (c : Dev nD) (t : Fin cfg2.N) (d) : (rd2 C O B c).fetched 1 t d = C.a := by
  funext j
  refine (win2_1.fill_xinj (grid2.coords t) d ((rd2 C O B c).blockOf 1 t) j).trans (congrArg C.a (funext fun a => Fin.ext ?_))
  show 0 * _ + 1 * (j a).val = (j a).val
  omega
theorem fetched2_2 (C : Cont F) (O : CellTallies nD τ sig (HIx 1)) (B : ℕ) (c : Dev nD) (t : Fin cfg2.N) (d) : (rd2 C O B c).fetched 2 t d = C.b := by
  funext j
  refine (win2_2.fill_xinj (grid2.coords t) d ((rd2 C O B c).blockOf 2 t) j).trans (congrArg C.b (funext fun a => Fin.ext ?_))
  show 0 * _ + 1 * (j a).val = (j a).val
  omega

theorem body2 (C : Cont F) (O : CellTallies nD τ sig (HIx 1)) (B : ℕ) (c : Dev nD) :
    (rd2 C O B c).BodyObligation (defs₀ (F := F)) 𝒱₀ none Set.univ := by
  intro t Y hY
  rw [bigSep_W2, bigSep_W2]
  obtain ⟨d0, e0⟩ := ((rd2 C O B c).finds_of_fetch (fetch2_0 t) (Y 0)).mp (hY 0)
  obtain ⟨d1, e1⟩ := ((rd2 C O B c).finds_of_fetch (fetch2_1 t) (Y 1)).mp (hY 1)
  obtain ⟨d2, e2⟩ := ((rd2 C O B c).finds_of_fetch (fetch2_2 t) (Y 2)).mp (hY 2)
  rw [fetched2_0] at e0; rw [fetched2_1] at e1; rw [fetched2_2] at e2
  change _ ⊢ wp frame (wpE (defs₀ (F := F)) 𝒱₀ (c.tc : Thread nD τ) none) Set.univ (bodyAt2 t) _
  iintro ⟨HΦ, HO, H⟩
  ihave Hw := (head_body c (win2_0.stage (cfg2.slots t 0)) (hstage2_0 0) (win2_1.stage (cfg2.slots t 1)) (hstage2_1 0)
    (win2_2.stage (cfg2.slots t 2)) (hstage2_2 0) (win2_3.stage (cfg2.slots t 3)) (hstage2_3 0) (Y 0) (Y 1) (Y 2) (Y 3)) $$ H
  iapply (wp_wand_r frame _ _)
  isplitl [Hw]; · iexact Hw
  iintro %_ ⟨H0, H1, H2, H3⟩
  isplitl [HΦ]; · iapply (show (rd2 C O B c).Φ t.castSucc ⊢ (rd2 C O B c).Φ t.succ from .rfl); iexact HΦ
  isplitl [HO]; · iapply (show (rd2 C O B c).owesAt none t.castSucc ⊢ (rd2 C O B c).owesAt none t.succ from .rfl); iexact HO
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  iexists (headV (Y 0) (Y 1) (Y 2)); isplitr
  · ipureintro; show headV (Y 0) (Y 1) (Y 2) = headV C.p C.a C.b; rw [← e0, ← e1, ← e2]
  iexact H3

/-! ## What the arrays hold after the regions -/

/-- The point whose block holds row `r` of the packed table, and the row's place in the block. -/
def ptOf (r : ℕ) : Fin grid0.N := ⟨r / 16384 % 31, by rw [N_0]; exact Nat.mod_lt _ (by decide)⟩
def ixK (r x : ℕ) : S16384x128.Idx := fun
  | 0 => ⟨r % 16384, Nat.mod_lt _ (by decide)⟩
  | 1 => ⟨x % 128, Nat.mod_lt _ (by decide)⟩
  | ⟨_ + 2, h⟩ => absurd h (Nat.not_lt.2 (Nat.le_add_left _ _))

/-- The packed table, given what each point's two staging buffers held before its fetches. -/
def tabV (E : S64x1000000.Idx → F .f32) (d0 d1 : Fin grid0.N → S64x16384.Idx → F .f32) : S507904x128.Idx → F .f32 := fun i =>
  pack (fet0 E (ptOf (i 0).val) (d0 (ptOf (i 0).val))) (fet1 E (ptOf (i 0).val) (d1 (ptOf (i 0).val))) (ixK (i 0).val (i 1).val)

/-- The contents the packed table's array may hold. -/
def TableOk (E : S64x1000000.Idx → F .f32) (T : S507904x128.Idx → F .f32) : Prop := ∃ d0 d1, T = tabV E d0 d1

theorem tr2_0 : ∀ t : Fin grid0.N, cc0_transform_2 (grid0.coords t) 0 = t.val := by decide +kernel

theorem arr0 [∀ e, Nonempty (Elt F e)] (C : Cont F) (O : CellTallies nD τ sig (HIx 1)) (B : ℕ) (c : Dev nD) (G : S507904x128.Idx → F .f32)
    (h : (rd0 C O B c).ArrAt 2 cfg0.N G) : TableOk C.e G := by
  obtain ⟨X, hX, hA⟩ := h.exists_exact
  have hX' : ∀ u : Fin grid0.N, ∃ d0 d1, X u = pack (fet0 C.e u d0) (fet1 C.e u d1) := fun u => by
    obtain ⟨Y, -, h⟩ := hX u u.isLt (flush0_2 u); exact h
  choose d0 d1 hd using hX'
  refine ⟨d0, d1, ?_⟩
  rw [hA (Function.update (fun _ _ _ => Classical.arbitrary _) 2 X) fun u _ _ => by rw [Function.update_self]]
  refine Pipeline.Dat.arrAt_eq_of_covers ((rd0 C O B c).withAfter _) 2 (tabV C.e d0 d1)
    (show win0_2.Covers by decide +kernel) fun t hf y => ?_
  have hy0 : (y 0).val < 16384 := (y 0).isLt
  have hy1 : (y 1).val < 128 := (y 1).isLt
  have ht : t.val < 31 := lt_of_lt_of_eq t.isLt N_0
  have h0 : (((win0_2.blk t).view.emb y (0 : Fin 2) : Fin _) : ℕ) = 16384 * t.val + (y 0).val := by
    show cc0_transform_2 (grid0.coords t) 0 * 16384 + 1 * (y 0).val = _
    rw [tr2_0 t]; omega
  have h1 : (((win0_2.blk t).view.emb y (1 : Fin 2) : Fin _) : ℕ) = (y 1).val := by
    show 0 * 128 + 1 * (y 1).val = _
    omega
  have hp : ptOf (16384 * t.val + (y 0).val) = t := Fin.ext (by show (16384 * t.val + (y 0).val) / 16384 % 31 = t.val; omega)
  show (Function.update (fun _ _ _ => Classical.arbitrary _) 2 X : (w' : Fin cfg0.W) → Fin cfg0.N → (cfg0.win w').block.Idx → Elt F (cfg0.win w').elt) 2 t y
    = tabV C.e d0 d1 ((win0_2.blk t).view.emb y)
  rw [Function.update_self]
  unfold tabV
  rw [h0, h1, hp]
  refine (congrFun (hd t) y).trans (congrArg _ (funext fun a => ?_))
  match a with
  | 0 => exact Fin.ext (show (y 0).val = (16384 * t.val + (y 0).val) % 16384 by omega)
  | 1 => exact Fin.ext (show (y 1).val = (y 1).val % 128 by omega)

theorem arr2 [∀ e, Nonempty (Elt F e)] (C : Cont F) (O : CellTallies nD τ sig (HIx 1)) (B : ℕ) (c : Dev nD) (G : S16x16.Idx → F .f32)
    (h : (rd2 C O B c).ArrAt 3 cfg2.N G) : G = headV C.p C.a C.b := by
  obtain ⟨X, ⟨Y, -, hX⟩, hG⟩ := h.emb_eq_of_wholeAt (t₀ := t2_0) (by decide +kernel)
  funext j
  exact (hG j).trans (congrFun hX j)

/-! ## The arrays, one by one -/

section Arrays

variable (C : Cont F) (O : CellTallies nD τ sig (HIx 1)) (B : ℕ) (c : Dev nD)

theorem arrays0 : ((rd0 C O B c).arrays (rd0 C O B c).A : sProp 𝕄)
    = iprop((((c.tc : Thread nD τ).loc main_v9) ↦{fullShare.left} C.e) ∗ (((c.tc : Thread nD τ).loc main_v9) ↦{fullShare.right} C.e)
        ∗ ((c.tc : Thread nD τ).loc main_v10) ↦{fullShare} C.t) := by
  unfold Pipeline.RDat.arrays
  refine (bigSep_congr fun w _ => by rw [(arr_whole0 w).set_eq_univ]).trans (bigSep_W0 _)

theorem arrays2 : ((rd2 C O B c).arrays (rd2 C O B c).A : sProp 𝕄)
    = iprop((((c.tc : Thread nD τ).loc main_v11) ↦{fullShare} C.p) ∗ (((c.tc : Thread nD τ).loc main_arg2) ↦{fullShare} C.a)
        ∗ (((c.tc : Thread nD τ).loc main_v12) ↦{fullShare} C.b) ∗ ((c.tc : Thread nD τ).loc main_v13) ↦{fullShare} C.r) := by
  unfold Pipeline.RDat.arrays
  refine (bigSep_congr fun w _ => by rw [(arr_whole2 w).set_eq_univ]).trans (bigSep_W2 _)

variable [∀ e, Nonempty (Elt F e)]

theorem arraysAt0 : (rd0 C O B c).arraysAt cfg0.N
    ⊢ (iprop((((c.tc : Thread nD τ).loc main_v9) ↦{fullShare.left} C.e) ∗ (((c.tc : Thread nD τ).loc main_v9) ↦{fullShare.right} C.e)
        ∗ ∃ T : S507904x128.Idx → F .f32, ⌜TableOk C.e T⌝ ∗ ((c.tc : Thread nD τ).loc main_v10) ↦{fullShare} T) : sProp 𝕄) := by
  unfold Pipeline.RDat.arraysAt
  refine (Entails.of_eq ((bigSep_congr fun w _ => by rw [(arr_whole0 w).set_eq_univ]).trans (bigSep_W0 _))).trans ?_
  iintro ⟨⟨%f0, %h0, H0⟩, ⟨%f1, %h1, H1⟩, ⟨%G, %hG, HG⟩⟩
  rw [Pipeline.RDat.ArrAt_in _ 0 rfl] at h0
  rw [Pipeline.RDat.ArrAt_in _ 1 rfl] at h1
  subst h0; subst h1
  isplitl [H0]; · iexact H0
  isplitl [H1]; · iexact H1
  iexists G; isplitr; · ipureintro; exact arr0 C O B c G hG
  iexact HG

theorem arraysAt2 : (rd2 C O B c).arraysAt cfg2.N
    ⊢ (iprop((((c.tc : Thread nD τ).loc main_v11) ↦{fullShare} C.p) ∗ (((c.tc : Thread nD τ).loc main_arg2) ↦{fullShare} C.a)
        ∗ (((c.tc : Thread nD τ).loc main_v12) ↦{fullShare} C.b) ∗ ((c.tc : Thread nD τ).loc main_v13) ↦{fullShare} headV C.p C.a C.b) : sProp 𝕄) := by
  unfold Pipeline.RDat.arraysAt
  refine (Entails.of_eq ((bigSep_congr fun w _ => by rw [(arr_whole2 w).set_eq_univ]).trans (bigSep_W2 _))).trans ?_
  iintro ⟨⟨%f0, %h0, H0⟩, ⟨%f1, %h1, H1⟩, ⟨%f2, %h2, H2⟩, ⟨%G, %hG, HG⟩⟩
  rw [Pipeline.RDat.ArrAt_in _ 0 rfl] at h0
  rw [Pipeline.RDat.ArrAt_in _ 1 rfl] at h1
  rw [Pipeline.RDat.ArrAt_in _ 2 rfl] at h2
  have hG' := arr2 C O B c G hG
  subst h0; subst h1; subst h2; subst hG'
  isplitl [H0]; · iexact H0
  isplitl [H1]; · iexact H1
  isplitl [H2]; · iexact H2
  iexact HG

end Arrays

/-! ## The records -/

section Seg

variable [∀ e, Nonempty (Elt F e)] (C : Cont F) (O : CellTallies nD τ sig (HIx 1)) (B : ℕ)

/-- What the core owes, its recorded pairs bounded. -/
abbrev owed (c : Dev nD) : sProp 𝕄 :=
  iprop(∃ W, ⌜(K (F := F)).WBelow (c.tc : Thread nD τ) W B⌝ ∗ owes (c.tc : Thread nD τ) O W)

theorem owesAt_in0 (c : Dev nD) (p : Fin 2) (t) : (owed (F := F) O B c : sProp 𝕄) ⊢ (rdats C O B p c).owesAt none t := by
  match p with
  | 0 =>
    iintro ⟨%W, %hW, HO⟩; iexists W; isplitr
    · ipureintro; exact fun p hp => Or.inl (hW p hp)
    iexact HO
  | 1 =>
    iintro ⟨%W, %hW, HO⟩; iexists W; isplitr
    · ipureintro; exact fun p hp => Or.inl (hW p hp)
    iexact HO

theorem owesAt_out0 (c : Dev nD) (p : Fin 2) (t) : (rdats C O B p c).owesAt none t ⊢ (owed (F := F) O B c : sProp 𝕄) := by
  match p with
  | 0 =>
    iintro ⟨%W, %hW, HO⟩; iexists W; isplitr
    · ipureintro; intro p hp
      rcases hW hp with h | ⟨w, s, rfl⟩
      · exact h
      · exact Nat.zero_le _
    iexact HO
  | 1 =>
    iintro ⟨%W, %hW, HO⟩; iexists W; isplitr
    · ipureintro; intro p hp
      rcases hW hp with h | ⟨w, s, rfl⟩
      · exact h
      · exact Nat.zero_le _
    iexact HO

theorem waits0 (hO : ∀ g, O g none = 0) (p : Fin 2) (c : Dev nD) :
    (levAts (K (F := F)).L (K (F := F)).lev : sProp 𝕄) ⊢ Pipeline.RDat.cellsWaits (Pipeline.pin (pcfgs (F := F)) adm) (rdats C O B) none p c :=
  Pipeline.RDat.cellsWaits_intro _ _ _ _ _ fun w s t => by
    match p with
    | 0 => exact (K (F := F)).mayWait_none _ hO
    | 1 => exact (K (F := F)).mayWait_none _ hO

set_option backward.isDefEq.respectTransparency.types false in
def seg0 (hO : ∀ g, O g none = 0) :
    Pipeline.RDat.RegionSeg (pcfgs (F := F)) adm (rdats C O B) none (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := body0 C O B c
  hwaits c := waits0 C O B hO 0 c
  pre c := iprop((((c.tc : Thread nD τ).loc main_v9) ↦{fullShare} C.e) ∗ (((c.tc : Thread nD τ).loc main_v10) ↦{fullShare} C.t) ∗ owed (F := F) O B c)
  post c := iprop((((c.tc : Thread nD τ).loc main_v9) ↦{fullShare} C.e)
    ∗ (∃ T : S507904x128.Idx → F .f32, ⌜TableOk C.e T⌝ ∗ ((c.tc : Thread nD τ).loc main_v10) ↦{fullShare} T) ∗ owed (F := F) O B c)
  X c := iprop(emp)
  Y c := iprop(emp)
  Z c := iprop(emp)
  hentry c := by
    rw [Pipeline.prefHeld_of_none _ rfl]
    change _ ⊢ |={Set.univ}=> iprop((rd0 C O B c).arrays (rd0 C O B c).A ∗ _)
    rw [arrays0]
    iintro ⟨⟨He, Ht, HO⟩, -, -⟩
    ihave He := (pointsTo_share (PosShare.mem_left_op_right fullShare)).1 $$ He
    icases He with ⟨He0, He1⟩
    imodintro
    isplitl [He0 He1 Ht]
    · isplitl [He0]; · iexact He0
      isplitl [He1]; · iexact He1
      iexact Ht
    isplitr; · iempintro
    isplitl [HO]; · iapply (owesAt_in0 C O B c 0 0); iexact HO
    isplitr <;> iempintro
  hin c := by
    rw [Pipeline.prefHeld_of_none _ rfl]
    change _ ⊢ Pipeline.scopedRest (Val := Elt F) spec0 c
    iintro ⟨-, -, H⟩; iexact H
  hout c := by
    change Pipeline.scopedRest (Val := Elt F) spec0 c ⊢ iprop(_ ∗ _ ∗ Pipeline.scopedRest (Val := Elt F) spec0 c)
    iintro H
    isplitr; · iempintro
    isplitr; · rw [Pipeline.ownSems0_none]; iempintro
    iexact H
  hexit c := by
    change iprop((rd0 C O B c).arraysAt cfg0.N ∗ _) ⊢ _
    iintro ⟨H, HO, -, -⟩
    ihave H := (arraysAt0 C O B c) $$ H
    icases H with ⟨H0, H1, HG⟩
    imodintro
    isplitl [H0 H1]
    · iapply (pointsTo_share (PosShare.mem_left_op_right fullShare)).2
      isplitl [H0]; · iexact H0
      iexact H1
    isplitl [HG]; · iexact HG
    iapply (owesAt_out0 C O B c 0 _); iexact HO

set_option backward.isDefEq.respectTransparency.types false in
def seg2 (hO : ∀ g, O g none = 0) :
    Pipeline.RDat.RegionSeg (pcfgs (F := F)) adm (rdats C O B) none (defs₀ (F := F)) 𝒱₀ (K (F := F)).L (K (F := F)).lev 1 where
  win := launch2.win.to₀
  block_pos := block_pos2
  stage_whole := stage_whole2
  K := PEmpty
  osem k := k.elim
  ho := Pipeline.OwnSemFacts.none _
  hbody c := body2 C O B c
  hwaits c := waits0 C O B hO 1 c
  pre c := iprop((((c.tc : Thread nD τ).loc main_v11) ↦{fullShare} C.p) ∗ (((c.tc : Thread nD τ).loc main_arg2) ↦{fullShare} C.a)
    ∗ (((c.tc : Thread nD τ).loc main_v12) ↦{fullShare} C.b) ∗ (((c.tc : Thread nD τ).loc main_v13) ↦{fullShare} C.r) ∗ owed (F := F) O B c)
  post c := iprop((((c.tc : Thread nD τ).loc main_v11) ↦{fullShare} C.p) ∗ (((c.tc : Thread nD τ).loc main_arg2) ↦{fullShare} C.a)
    ∗ (((c.tc : Thread nD τ).loc main_v12) ↦{fullShare} C.b) ∗ (((c.tc : Thread nD τ).loc main_v13) ↦{fullShare} headV C.p C.a C.b) ∗ owed (F := F) O B c)
  X c := iprop(emp)
  Y c := iprop(emp)
  Z c := iprop(emp)
  hentry c := by
    rw [Pipeline.prefHeld_of_none _ rfl]
    change _ ⊢ |={Set.univ}=> iprop((rd2 C O B c).arrays (rd2 C O B c).A ∗ _)
    rw [arrays2]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · iempintro
    isplitl [HO]; · iapply (owesAt_in0 C O B c 1 0); iexact HO
    isplitr <;> iempintro
  hin c := by
    rw [Pipeline.prefHeld_of_none _ rfl]
    change _ ⊢ Pipeline.scopedRest (Val := Elt F) spec2 c
    iintro ⟨-, -, H⟩; iexact H
  hout c := by
    change Pipeline.scopedRest (Val := Elt F) spec2 c ⊢ iprop(_ ∗ _ ∗ Pipeline.scopedRest (Val := Elt F) spec2 c)
    iintro H
    isplitr; · iempintro
    isplitr; · rw [Pipeline.ownSems0_none]; iempintro
    iexact H
  hexit c := by
    change iprop((rd2 C O B c).arraysAt cfg2.N ∗ _) ⊢ _
    iintro ⟨H, HO, -, -⟩
    ihave H := (arraysAt2 C O B c) $$ H
    icases H with ⟨H0, H1, H2, H3⟩
    imodintro
    isplitl [H0]; · iexact H0
    isplitl [H1]; · iexact H1
    isplitl [H2]; · iexact H2
    isplitl [H3]; · iexact H3
    iapply (owesAt_out0 C O B c 1 _); iexact HO

end Seg

end Cert.Proof.KI

end
-- ==== Proof.Body.lean ====
/-
  The vector subcores' kernel run at a symbolic subcore, from its shares of the words and of the table to its block of the
  partial sums.
-/
module

public import proofs.«01_k».proof.Proof.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

-- the memrefs the body table passes the kernel
local notation "pV" => (Memref.whole Cert.KernelIdeal.main_v5_scv : Memref Cert.KernelIdeal.sig Kind.scVector Space.hbm Cert.KernelIdeal.S2048x128 EltTy.i32)
local notation "fV" => (Memref.whole Cert.KernelIdeal.main_v8_scv : Memref Cert.KernelIdeal.sig Kind.scVector Space.hbm Cert.KernelIdeal.S2048x128 EltTy.i32)
local notation "tV" => (Memref.whole Cert.KernelIdeal.main_v10_scv : Memref Cert.KernelIdeal.sig Kind.scVector Space.hbm Cert.KernelIdeal.S507904x128 EltTy.f32)
local notation "rV" => (Memref.whole Cert.KernelIdeal.main_v11_scv : Memref Cert.KernelIdeal.sig Kind.scVector Space.hbm Cert.KernelIdeal.S2x16x64 EltTy.f32)
local notation "s0V" => (Memref.whole Cert.KernelIdeal.cc1_scratch0 : Memref Cert.KernelIdeal.sig Kind.scVector Space.vmem Cert.KernelIdeal.S64x128 EltTy.i32)
local notation "s1V" => (Memref.whole Cert.KernelIdeal.cc1_scratch1 : Memref Cert.KernelIdeal.sig Kind.scVector Space.vmem Cert.KernelIdeal.S64x128 EltTy.i32)
local notation "s2V" => (Memref.whole Cert.KernelIdeal.cc1_scratch2 : Memref Cert.KernelIdeal.sig Kind.scVector Space.vmem Cert.KernelIdeal.S128x128 EltTy.f32)
local notation "s3V" => (Memref.whole Cert.KernelIdeal.cc1_scratch3 : Memref Cert.KernelIdeal.sig Kind.scVector Space.vmem Cert.KernelIdeal.S128x128 EltTy.f32)
local notation "s4V" => (Memref.whole Cert.KernelIdeal.cc1_scratch4 : Memref Cert.KernelIdeal.sig Kind.scVector Space.vmem Cert.KernelIdeal.S64 EltTy.f32)
local notation "wh" => Memref.isWhole_whole

variable [FloatOps F]

variable (d : Dev nD) (L : grid1.Coords)

omit [FloatOps F] in
/-- A points-to split into two shares to lend and a rest. -/
theorem two_toks {ℓ : Loc nD τ sig} (q : PosShare TreeShare) (f : Buf (Elt F) ℓ) :
    (ℓ ↦{q} f : sProp 𝕄) = iprop((ℓ ↦{Transfers.shareDrop q 2} f) ∗ (ℓ ↦{Transfers.shareTokN q 1} f) ∗ (ℓ ↦{Transfers.shareTokN q 0} f)) := by
  rw [BI.Entails.antisymm (Transfers.pointsTo_toks_range q 2).1 (Transfers.pointsTo_toks_range q 2).2]
  congr 1
  rw [Finset.range_add_one, SparseCore.bigSep_insert' Finset.notMem_range_self, Finset.range_add_one, SparseCore.bigSep_insert' Finset.notMem_range_self,
    Finset.range_zero, bigSep_empty]
  congr 1
  exact BI.Entails.antisymm sep_emp.1 sep_emp.2

theorem rows_inT {P5 : S2048x128.Idx → BitVec 32} (h : ∀ y, (P5 y).toNat < 507904) (a b : ℕ) : InT (rowsAt a b P5) := fun _ => h _
theorem rows_two {O8 : S2048x128.Idx → BitVec 32} (h : ∀ y, O8 y = 0#32 ∨ O8 y = 64#32) (a b : ℕ) : Two (rowsAt a b O8) := fun _ => h _

/-- What a subcore is given: shares of the words, of the offsets and of some allowed table, and its block; -/
def goV (TOk : (S507904x128.Idx → F .f32) → Prop) (P5 O8 : S2048x128.Idx → BitVec 32) (q : PosShare TreeShare) : sProp 𝕄 :=
  iprop(((pV).view.loc (VT d L) ↦{q} P5) ∗ ((fV).view.loc (VT d L) ↦{q} O8)
    ∗ (∃ Tb : S507904x128.Idx → F .f32, ⌜TOk Tb⌝ ∗ (tV).view.loc (VT d L) ↦{q} Tb)
    ∗ ∃ f, (outK L).view.loc (VT d L) ↦[(outK L).view.set]{fullShare} f)
/-- what it hands back: its block, at the partial sums. -/
def tdV (TOk : (S507904x128.Idx → F .f32) → Prop) (P5 O8 : S2048x128.Idx → BitVec 32) : sProp 𝕄 :=
  iprop(∃ f : S2x16x64.Idx → F .f32, ⌜PartOk TOk P5 O8 (hL L) (bL L) f⌝ ∗ (outK L).view.loc (VT d L) ↦[(outK L).view.set]{fullShare} f)

set_option maxHeartbeats 4000000 in
set_option pp.maxSteps 200 in
theorem tile_body (hF : (K (F := F)).Facts) (TOk : (S507904x128.Idx → F .f32) → Prop) (P5 O8 : S2048x128.Idx → BitVec 32)
    (hP : ∀ y, (P5 y).toNat < 507904) (hO8 : ∀ y, O8 y = 0#32 ∨ O8 y = 64#32) (q : PosShare TreeShare)
    (O : CellTallies nD τ sig (HIx 1)) (W : Waits sig (HIx 1)) (hO : ∀ g, O g none = 0) :
    iprop(levAts (K (F := F)).L (K (F := F)).lev ∗ emp
        ∗ goV d L TOk P5 O8 q
        ∗ scopedBufs (VT d L) ∗ scopedSems0 (VT d L) ∗ owes (VT d L) O W)
      ⊢ wp frame (wpE (defs₀ (F := F)) 𝒱₀ (VT d L) none) Set.univ
          (cc1__sc_body L pV (wh _) fV (wh _) tV (wh _) rV (wh _) s0V (wh _) s1V (wh _) s2V (wh _) s3V (wh _) s4V (wh _)
            cc1_scratch5 cc1_scratch6 cc1_scoped0 cc1_scoped1 cc1_scoped2)
          fun _ => iprop(tdV d L TOk P5 O8
            ∗ scopedBufs (VT d L) ∗ scopedSems0 (VT d L)
            ∗ ∃ W', ⌜∀ p ∈ W', p ∈ W ∨ p.2 = none⌝ ∗ owes (VT d L) O W') := by
  simp only [cc1__sc_body_eq_skeleton]; unfold cc1__sc_body_skel
  simp only [k1_part21_eq_skeleton, k1_part22_eq_skeleton]; unfold k1_part21_skel k1_part22_skel
  rw [(K (F := F)).scopedBufs_V hF d (cV L) (jV L), SparseCore.Cfg.scopedSems0_V (Val := Elt F) d (cV L) (jV L), ownSems0_V, ownBufs_V]
  unfold goV
  iintro ⟨#Hlv, -, ⟨Hp, Hf, ⟨%Tb, %hTb, Ht⟩, ⟨%fo, Ho⟩⟩, ⟨⟨%f0, H0⟩, ⟨%f1, H1⟩, ⟨%f2, H2⟩, ⟨%f3, H3⟩, ⟨%f4, H4⟩, Hbufs⟩, ⟨Hm0, Hm1, Hm2, Hm5, Hm6, Hsems⟩, HO⟩
  ihave Hmw := (show levAts (K (F := F)).L (K (F := F)).lev ⊢ Transfers.MayWaits (VT d L) (default : HIx 1) O from
    (K (F := F)).mayWaits_none (thr := VT d L) hO) $$ Hlv
  ihave H0 := (show (((VT d L).loc cc1_scratch0 ↦{fullShare} f0 : sProp 𝕄)) ⊢ (s0V).view.loc (VT d L) ↦{fullShare} f0 from Entails.of_eq rfl) $$ H0
  ihave H1 := (show (((VT d L).loc cc1_scratch1 ↦{fullShare} f1 : sProp 𝕄)) ⊢ (s1V).view.loc (VT d L) ↦{fullShare} f1 from Entails.of_eq rfl) $$ H1
  ihave H4 := (show (((VT d L).loc cc1_scratch4 ↦{fullShare} f4 : sProp 𝕄)) ⊢ (s4V).view.loc (VT d L) ↦{fullShare} f4 from Entails.of_eq rfl) $$ H4
  sl_exec
  have e0 : View.write (Elt F) (s0V).view f0 (tile_body.sl.dma0 L P5) Finset.univ = rowsAt (hL L) (bL L) P5 :=
    (View.write_whole_univ _ _ _).trans (read_p L P5)
  have e1 : View.write (Elt F) (s1V).view f1 (tile_body.sl.dma0_1 L O8) Finset.univ = rowsAt (hL L) (bL L) O8 :=
    (View.write_whole_univ _ _ _).trans (read_f L O8)
  rw [e0]
  rw [e1]
  ihave H0 := (Entails.of_eq (two_toks fullShare (rowsAt (hL L) (bL L) P5))) $$ H0
  ihave Ht := (Entails.of_eq (two_toks q Tb)) $$ Ht
  icases H0 with ⟨H0d, H01, H00⟩
  icases Ht with ⟨-, Ht1, Ht0⟩
  have hPi := rows_inT hP (hL L) (bL L)
  have hTw := rows_two hO8 (hL L) (bL L)
  simp only [Prog.bind_assoc]
  iapply (issue0 d L ![0, 0] inb_S64x128_S1x128_0_0 0 rfl (by decide) (Transfers.shareTokN q 0) (Transfers.shareTokN fullShare 0) Tb (rowsAt (hL L) (bL L) P5) hPi) $$ [H2 Ht0 H00 Hm5]
  · unfold Fr bufPts tabTok listTok
    isplitl [H2]; · iexists _; iexact H2
    isplitl [Ht0]; · iexact Ht0
    isplitl [H00]; · iexact H00
    iexact Hm5
  iintro HF0
  iapply (issue1 d L ![1, 0] inb_S64x128_S1x128_1_0 1 rfl (by decide) (Transfers.shareTokN q 1) (Transfers.shareTokN fullShare 1) Tb (rowsAt (hL L) (bL L) P5) hPi) $$ [H3 Ht1 H01 Hm6]
  · unfold Fr bufPts tabTok listTok
    isplitl [H3]; · iexists _; iexact H3
    isplitl [Ht1]; · iexact Ht1
    isplitl [H01]; · iexact H01
    iexact Hm6
  iintro HF1
  iapply (Scf.wp_for_bind frame (wpE (defs₀ (F := F)) 𝒱₀ (VT d L) none) Set.univ _ _ _ k1_t1_ok _
    (k1_t1_body L pV (wh _) fV (wh _) tV (wh _) rV (wh _) s0V (wh _) s1V (wh _) s2V (wh _) s3V (wh _) s4V (wh _)
            cc1_scratch5 cc1_scratch6 cc1_scoped0 cc1_scoped1 cc1_scoped2)
    (IO d L O W (Transfers.shareTokN q 0) (Transfers.shareTokN q 1) (Transfers.shareTokN fullShare 0) (Transfers.shareTokN fullShare 1)
      Tb (rowsAt (hL L) (bL L) P5) (rowsAt (hL L) (bL L) O8))
    (fun k acc => t1_step d L O W _ _ _ _ Tb _ _ hTw hPi k acc)) $$ [HO H1 HF0 HF1]
  · unfold IO owing offPts
    rw [slot0_lt _ _ _ _ _ _ (by decide), slot1_lt _ _ _ _ _ _ (by decide)]
    isplitr; · ipureintro; rfl
    isplitr; · iexact Hmw
    isplitl [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
    isplitl [H1]; · iexact H1
    isplitl [HF0]; · iexact HF0
    iexact HF1
  iintro %acc HI
  unfold IO
  rw [slot0_ge _ _ _ _ _ _ (by decide), slot1_ge _ _ _ _ _ _ (by decide)]
  unfold owing offPts Fr bufPts tabTok listTok
  icases HI with ⟨%hacc, -, ⟨%W₁, %hW₁, HO⟩, H1, ⟨⟨%g2, H2⟩, -, H00, Hm5⟩, ⟨⟨%g3, H3⟩, -, H01, Hm6⟩⟩
  obtain ⟨a1, a2, a3, a4, a5, a6, a7, a8⟩ := acc
  dsimp only
  ihave H4 := (show ((_ : sProp 𝕄)) ⊢ (s4V).view.loc (VT d L) ↦{fullShare} f4 from Entails.of_eq rfl) $$ H4
  ihave Ho := (show ((_ : sProp 𝕄)) ⊢ (outK L).view.loc (VT d L) ↦[(outK L).view.set]{fullShare} fo from Entails.of_eq rfl) $$ Ho
  sl_exec
  have hk : ∀ x, tile_body.sl.dma8 d L f4 a1 a2 a3 a4 a5 a6 a7 a8 x = outV (a1, a2, a3, a4, a5, a6, a7, a8) (x 0).val := by
    intro x
    refine Eq.trans ?_ (stores_at f4 (a1, a2, a3, a4, a5, a6, a7, a8) x)
    unfold tile_body.sl.dma8 tile_body.sl.H4_4
    have p0 : k1_pay166 a1 a5 = outN (a1, a2, a3, a4, a5, a6, a7, a8) 0 := shapeCast_self _ _
    have p1 : k1_pay167 a2 a6 = outN (a1, a2, a3, a4, a5, a6, a7, a8) 1 := shapeCast_self _ _
    have p2 : k1_pay168 a3 a7 = outN (a1, a2, a3, a4, a5, a6, a7, a8) 2 := shapeCast_self _ _
    have p3 : k1_pay169 a4 a8 = outN (a1, a2, a3, a4, a5, a6, a7, a8) 3 := shapeCast_self _ _
    rw [p0, p1, p2, p3]
    rfl
  have hv : PartOk TOk P5 O8 (hL L) (bL L) ((outK L).view.writes (Elt F) fo [⟨Rect.whole S64, tile_body.sl.dma8 d L f4 a1 a2 a3 a4 a5 a6 a7 a8⟩]) := by
    refine ⟨Tb, hTb, fun x hx => ?_⟩
    rw [← View.write_univ_eq_writes_whole]
    have e := View.write_emb (Val := Elt F) (v := (outK L).view) fo (tile_body.sl.dma8 d L f4 a1 a2 a3 a4 a5 a6 a7 a8) Finset.univ (fun | 0 => ⟨x, hx⟩)
    rw [emb_out] at e
    refine e.trans ?_
    rw [hk]
    simp only [Finset.mem_univ, if_true]
    have ht : Scf.trips k1_t1_loop.lb k1_t1_loop.ub k1_t1_loop.st = 32 := by decide
    unfold partV
    rw [ht] at hacc
    rw [← hacc]
    rfl
  rw [wp_ret]
  imodintro
  isplitl [Ho]
  · unfold tdV
    iexists _; isplitr; swap
    · iexact Ho
    ipureintro; exact hv
  isplitl [H0d H00 H01 H1 H2 H3 H4 Hbufs]
  · isplitl [H0d H00 H01]
    · iexists _
      iapply (Entails.of_eq (two_toks (ℓ := (VT d L).loc cc1_scratch0) fullShare (rowsAt (hL L) (bL L) P5)).symm)
      isplitl [H0d]; · iexact H0d
      isplitl [H01]; · iexact H01
      iexact H00
    isplitl [H1]; · iexists _; iexact H1
    isplitl [H2]; · iexists _; iexact H2
    isplitl [H3]; · iexists _; iexact H3
    isplitl [H4]; · iexists _; iexact H4
    iexact Hbufs
  isplitl [Hm0 Hm1 Hm2 Hm5 Hm6 Hsems]
  · isplitl [Hm0]; · iexact Hm0
    isplitl [Hm1]; · iexact Hm1
    isplitl [Hm2]; · iexact Hm2
    isplitl [Hm5]; · iexact Hm5
    isplitl [Hm6]; · iexact Hm6
    iexact Hsems
  iexists _; isplitr; swap
  · iexact HO
  ipureintro; intro p hp
  rcases Finset.mem_insert.mp hp with hp | hp; · exact .inr (hp ▸ rfl)
  exact hW₁ p hp

end Cert.Proof.KI

end
-- ==== Proof.Split.lean ====
/-
  The call on the SparseCores: its inputs dealt to the thirty-two subcores in shares, its output in disjoint blocks, and the
  blocks joined again.
-/
module

public import proofs.«01_k».proof.Proof.Regions
public import proofs.«01_k».proof.Proof.Body
public import Idealize.ShloMosaic.Lib.ShareLeaves

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-! ## The subcores -/

def coordsV (c : Fin (grid1.bound 0)) (s : Fin (grid1.bound 1)) : grid1.Coords :=
  fun | 0 => c | 1 => s | ⟨_ + 2, h⟩ => absurd h (Nat.not_lt.2 (Nat.le_add_left _ _))

/-- The subcores, numbered. -/
def num : Fin 2 × Fin 16 ≃ Fin (2 ^ 5) := finProdFinEquiv

/-- The share of the call's inputs that a subcore reads under. -/
def qL (c : Fin 2) (i : Fin 16) : PosShare TreeShare := ShareLeaves.leaf 5 fullShare (num (c, i))

omit [FloatOps F] in
theorem mem_outSet (L : grid1.Coords) (i : S2x16x64.Idx) : i ∈ outSet L ↔ (i 0).val = hL L ∧ (i 1).val = bL L := by
  have h1 := hL_lt L
  have h2 := bL_lt L
  constructor
  · intro h
    obtain ⟨x, -, e⟩ := Finset.mem_map.mp h
    rw [emb_out] at e
    subst e
    exact ⟨show hL L % 2 = hL L by omega, show bL L % 16 = bL L by omega⟩
  · rintro ⟨h0, h1'⟩
    refine Finset.mem_map.mpr ⟨(fun | 0 => ⟨(i 2).val, (i 2).isLt⟩ | ⟨_ + 1, h⟩ => absurd h (Nat.not_lt.2 (Nat.le_add_left _ _)) : S64.Idx), Finset.mem_univ _, ?_⟩
    rw [emb_out]
    have hi : (i 2).val < 64 := (i 2).isLt
    funext a
    match a with
    | 0 => exact Fin.ext (show hL L % 2 = (i 0).val by omega)
    | 1 => exact Fin.ext (show bL L % 16 = (i 1).val by omega)
    | 2 => exact Fin.ext (show (i 2).val % 64 = (i 2).val by omega)

abbrev outs (p : Fin 2 × Fin 16) : Finset S2x16x64.Idx := outSet (coordsV p.1 p.2)

theorem outs_disjoint : ∀ p ∈ (Finset.univ : Finset (Fin 2 × Fin 16)), ∀ q ∈ (Finset.univ : Finset (Fin 2 × Fin 16)), p ≠ q → Disjoint (outs p) (outs q) := by
  rintro ⟨c, s⟩ - ⟨c', s'⟩ - hne
  refine Finset.disjoint_left.mpr fun i h h' => hne ?_
  obtain ⟨a, b⟩ := (mem_outSet _ i).mp h
  obtain ⟨a', b'⟩ := (mem_outSet _ i).mp h'
  rw [a] at a'
  rw [b] at b'
  have ha : s.val % 2 = s'.val % 2 := a'
  have hb : 8 * c.val + s.val / 2 = 8 * c'.val + s'.val / 2 := b'
  have h1 := s.isLt
  have h2 := s'.isLt
  exact Prod.ext (Fin.ext (by show c.val = c'.val; omega)) (Fin.ext (by show s.val = s'.val; omega))

theorem outs_cover : (Finset.univ : Finset (Fin 2 × Fin 16)).biUnion outs = Finset.univ := by
  refine Finset.eq_univ_iff_forall.mpr fun i => Finset.mem_biUnion.mpr ?_
  have h0 : (i 0).val < 2 := (i 0).isLt
  have h1 : (i 1).val < 16 := (i 1).isLt
  refine ⟨(⟨(i 1).val / 8, by omega⟩, ⟨2 * ((i 1).val % 8) + (i 0).val, by omega⟩), Finset.mem_univ _, (mem_outSet _ i).mpr ⟨?_, ?_⟩⟩
  · show (i 0).val = (2 * ((i 1).val % 8) + (i 0).val) % 2
    omega
  · show (i 1).val = 8 * ((i 1).val / 8) + (2 * ((i 1).val % 8) + (i 0).val) / 2
    omega

/-! ## What the call is given, dealt to the subcores; what it hands back, joined -/

abbrev ℓ5 (d : Dev nD) : Loc nD τ sig := (d.tc : Thread nD τ).loc main_v5
abbrev ℓ8 (d : Dev nD) : Loc nD τ sig := (d.tc : Thread nD τ).loc main_v8
abbrev ℓ10 (d : Dev nD) : Loc nD τ sig := (d.tc : Thread nD τ).loc main_v10
abbrev ℓ11 (d : Dev nD) : Loc nD τ sig := (d.tc : Thread nD τ).loc main_v11

omit [FloatOps F] in
/-- An array held whole, in a share for each subcore. -/
theorem deal {ℓ : Loc nD τ sig} (f : Buf (Elt F) ℓ) :
    (ℓ ↦{fullShare} f : sProp 𝕄) = bigSep Finset.univ fun p : Fin 2 × Fin 16 => ℓ ↦{qL p.1 p.2} f :=
  (ShareLeaves.pointsTo_leaves Finset.univ f 5 fullShare).trans (bigSep_univ_equiv num _)

theorem split_in (d : Dev nD) (TOk : (S507904x128.Idx → F .f32) → Prop) (P5 O8 : S2048x128.Idx → BitVec 32) (T : S507904x128.Idx → F .f32) (hT : TOk T)
    (f : S2x16x64.Idx → F .f32) :
    iprop((ℓ5 d ↦{fullShare} P5) ∗ (ℓ8 d ↦{fullShare} O8) ∗ (ℓ10 d ↦{fullShare} T) ∗ ℓ11 d ↦{fullShare} f)
      ⊢ (bigSep Finset.univ fun c : Fin 2 => bigSep Finset.univ fun i : Fin 16 => goV d (coordsV c i) TOk P5 O8 (qL c i) : sProp 𝕄) := by
  rw [← bigSep_univ_prod (fun p : Fin 2 × Fin 16 => (goV d (coordsV p.1 p.2) TOk P5 O8 (qL p.1 p.2) : sProp 𝕄))]
  rw [deal (F := F) (ℓ := ℓ5 d) P5, deal (F := F) (ℓ := ℓ8 d) O8, deal (F := F) (ℓ := ℓ10 d) T,
    show (ℓ11 d ↦{fullShare} f : sProp 𝕄) = bigSep Finset.univ fun p : Fin 2 × Fin 16 => ℓ11 d ↦[outs p]{fullShare} f by
      rw [← pointsTo_biUnion Finset.univ (ℓ := ℓ11 d) outs outs_disjoint, outs_cover],
    ← bigSep_sep', ← bigSep_sep', ← bigSep_sep']
  refine bigSep_mono fun p _ => ?_
  show (iprop((ℓ5 d ↦{qL p.1 p.2} P5) ∗ (ℓ8 d ↦{qL p.1 p.2} O8) ∗ (ℓ10 d ↦{qL p.1 p.2} T) ∗ ℓ11 d ↦[outs p]{fullShare} f) : sProp 𝕄)
    ⊢ goV d (coordsV p.1 p.2) TOk P5 O8 (qL p.1 p.2)
  unfold goV
  iintro ⟨H5, H8, H10, H11⟩
  isplitl [H5]; · iexact H5
  isplitl [H8]; · iexact H8
  isplitl [H10]; · iexists T; isplitr; · ipureintro; exact hT
                   iexact H10
  iexists f; iexact H11

theorem join_out [∀ e, Nonempty (Elt F e)] (d : Dev nD) (TOk : (S507904x128.Idx → F .f32) → Prop) (P5 O8 : S2048x128.Idx → BitVec 32) :
    (bigSep Finset.univ fun c : Fin 2 => bigSep Finset.univ fun i : Fin 16 => tdV d (coordsV c i) TOk P5 O8)
      ⊢ (iprop(∃ f : S2x16x64.Idx → F .f32, ⌜∀ h < 2, ∀ b < 16, PartOk TOk P5 O8 h b f⌝ ∗ ℓ11 d ↦{fullShare} f) : sProp 𝕄) := by
  rw [← bigSep_univ_prod (fun p : Fin 2 × Fin 16 => (tdV d (coordsV p.1 p.2) TOk P5 O8 : sProp 𝕄))]
  have : Nonempty (F .f32) := inferInstanceAs (Nonempty (Elt F .f32))
  refine (bigSep_exists_pi Finset.univ (fun (p : Fin 2 × Fin 16) (f : S2x16x64.Idx → F .f32) =>
    (iprop(⌜PartOk TOk P5 O8 (hL (coordsV p.1 p.2)) (bL (coordsV p.1 p.2)) f⌝ ∗ ℓ11 d ↦[outs p]{fullShare} f) : sProp 𝕄))).trans ?_
  iintro ⟨%fs, H⟩
  ihave H := (BI.bigSep_pure_sep Finset.univ (fun p : Fin 2 × Fin 16 => PartOk TOk P5 O8 (hL (coordsV p.1 p.2)) (bL (coordsV p.1 p.2)) (fs p))
    (fun p => (ℓ11 d ↦[outs p]{fullShare} fs p : sProp 𝕄))) $$ H
  icases H with ⟨%hok, H⟩
  ihave H := (pointsTo_biUnion_join (ℓ := ℓ11 d) (q := fullShare) (Val := Elt F) Finset.univ outs fs (fs (0, 0)) outs_disjoint) $$ H
  icases H with ⟨%g, %hg, Hg⟩
  rw [outs_cover]
  iexists g
  isplitr
  · ipureintro
    intro h hh b hb
    have e0 : hL (coordsV (⟨b / 8, by show b / 8 < 2; omega⟩ : Fin 2) (⟨2 * (b % 8) + h, by show _ < 16; omega⟩ : Fin 16)) = h := by
      show (2 * (b % 8) + h) % 2 = h; omega
    have e1 : bL (coordsV (⟨b / 8, by show b / 8 < 2; omega⟩ : Fin 2) (⟨2 * (b % 8) + h, by show _ < 16; omega⟩ : Fin 16)) = b := by
      show 8 * (b / 8) + (2 * (b % 8) + h) / 2 = b; omega
    obtain ⟨Tb, hTb, hv⟩ := hok (⟨b / 8, by omega⟩, ⟨2 * (b % 8) + h, by omega⟩) (Finset.mem_univ _)
    rw [e0, e1] at hv
    refine ⟨Tb, hTb, fun x hx => (hg _ (Finset.mem_univ _) _ ((mem_outSet _ _).mpr ⟨?_, ?_⟩)).trans (hv x hx)⟩
    · rw [e0]; show h % 2 = h; omega
    · rw [e1]; show b % 16 = b; omega
  iexact Hg

end Cert.Proof.KI

end
-- ==== Proof.Host.lean ====
/-
  The host's operations of @main: what the words, the offsets and the transposed table hold at the first region.
-/
module

public import proofs.«01_k».proof.Proof.Split

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-! ## The host's operations before the first region -/

def ops1 : List (HloOp τ sig (Elt F)) :=
  [StableHlo.nullary main_c (constantI S_ 32 507904#32),
   StableHlo.unary main_c main_v0 (broadcastInDim S262144 ![] bcast_S_S262144 : (⟨S_, .i32⟩ : BufTy).Contents (Elt F) → (⟨S262144, .i32⟩ : BufTy).Contents (Elt F)),
   StableHlo.binary main_arg0 main_v0 main_v1 (cmpi .sge : (⟨S262144, .i32⟩ : BufTy).Contents (Elt F) → (⟨S262144, .i32⟩ : BufTy).Contents (Elt F) → (⟨S262144, .i1⟩ : BufTy).Contents (Elt F)),
   StableHlo.nullary main_c_0 (constantI S_ 32 507904#32),
   StableHlo.unary main_c_0 main_v2 (broadcastInDim S262144 ![] bcast_S_S262144 : (⟨S_, .i32⟩ : BufTy).Contents (Elt F) → (⟨S262144, .i32⟩ : BufTy).Contents (Elt F)),
   StableHlo.binary main_arg0 main_v2 main_v3 (subi : (⟨S262144, .i32⟩ : BufTy).Contents (Elt F) → (⟨S262144, .i32⟩ : BufTy).Contents (Elt F) → (⟨S262144, .i32⟩ : BufTy).Contents (Elt F)),
   StableHlo.TRef.ternary (.of main_v1 : StableHlo.TRef sig ⟨S262144, .i1⟩) (.of main_v3) (.of main_arg0) (main_call0).v0 select,
   StableHlo.reshape main_v4 main_v5 (rfl : (.i32 : EltTy) = .i32) shapeCasts_S262144_S2048x128,
   StableHlo.nullary main_c_1 (constantI S_ 32 64#32),
   StableHlo.nullary main_c_2 (constantI S_ 32 0#32),
   StableHlo.TRef.unary (.of main_c_1 : StableHlo.TRef sig ⟨S_, .i32⟩) (main_call1).v0 (broadcastInDim S262144 ![] bcast_S_S262144),
   StableHlo.TRef.unary (.of main_c_2 : StableHlo.TRef sig ⟨S_, .i32⟩) (main_call1).v1 (broadcastInDim S262144 ![] bcast_S_S262144),
   StableHlo.TRef.ternary (.of main_v1 : StableHlo.TRef sig ⟨S262144, .i1⟩) (main_call1).v0 (main_call1).v1 (main_call1).v2 select,
   StableHlo.unary main_v6 main_v7 (id : (⟨S262144, .i32⟩ : BufTy).Contents (Elt F) → (⟨S262144, .i32⟩ : BufTy).Contents (Elt F)),
   StableHlo.reshape main_v7 main_v8 (rfl : (.i32 : EltTy) = .i32) shapeCasts_S262144_S2048x128,
   StableHlo.unary main_arg1 main_v9 ((transpose S64x1000000 [1, 0] · transposes_S1000000x64_S64x1000000_1_0) : (⟨S1000000x64, .f32⟩ : BufTy).Contents (Elt F) → (⟨S64x1000000, .f32⟩ : BufTy).Contents (Elt F))]

def opB : HloOp τ sig (Elt F) := StableHlo.reshape main_arg3 main_v12 (rfl : (.f32 : EltTy) = .f32) shapeCasts_S16_S1x16

theorem main_eq (d : Dev nD) : main (F := F) d = StableHlo.seq ops1 >>= fun _ =>
    (Prog.lift (.customCall (SparseCore.inner (Pipeline.entry 0)) ()) >>= fun _ => sc.run d 0 >>= fun _ =>
      (hlo rfl opB fun _ => .ret PUnit.unit) >>= fun _ => Prog.lift (.customCall (SparseCore.inner (Pipeline.entry 1)) ()) >>= fun _ => pure ⟨⟩) := by
  simp only [main, fn_where.body, fn_where_0.body, StableHlo.seq, ops1, opB, bind_assoc, pure_bind]

abbrev dv (r : Ref sig .tc) : DevRef τ sig := Proc.devRef .tc r

/-- The row of the packed table that the word `v` reads, and the column its half starts at. -/
def physW (v : BitVec 32) : BitVec 32 := if 507904 ≤ v.toInt then v - 507904#32 else v
def offW (v : BitVec 32) : BitVec 32 := if 507904 ≤ v.toInt then 64#32 else 0#32

def P5v (t : S262144.Idx → BitVec 32) : S2048x128.Idx → BitVec 32 := shapeCast S2048x128 (fun i => physW (t i)) shapeCasts_S262144_S2048x128
def O8v (t : S262144.Idx → BitVec 32) : S2048x128.Idx → BitVec 32 := shapeCast S2048x128 (fun i => offW (t i)) shapeCasts_S262144_S2048x128
/-- The transposed table, and the bias as a row. -/
def embV (e : S1000000x64.Idx → F .f32) : S64x1000000.Idx → F .f32 := transpose S64x1000000 [1, 0] e transposes_S1000000x64_S64x1000000_1_0
def biasV (b : S16.Idx → F .f32) : S1x16.Idx → F .f32 := shapeCast S1x16 b shapeCasts_S16_S1x16

theorem ofBool_eq_one (p : Bool) : (BitVec.ofBool p = 1) ↔ p = true := by cases p <;> decide
theorem sge_iff (v : BitVec 32) : IntOp.cmpi .sge v 507904#32 = 1 ↔ 507904 ≤ v.toInt := by
  simp only [IntOp.cmpi, ofBool_eq_one, BitVec.sle_eq_decide, decide_eq_true_eq]; rfl

theorem v5_at (V : Valuation τ sig (Elt F)) : StableHlo.after ops1 V (dv main_v5) = P5v (V (dv main_arg0)) := by
  unfold ops1 dv
  after_results
  refine congrArg (fun x => shapeCast S2048x128 x shapeCasts_S262144_S2048x128) (funext fun i => ?_)
  show (if IntOp.cmpi .sge (V (dv main_arg0) i) 507904#32 = 1 then _ else _) = _
  simp only [sge_iff]; rfl
theorem v8_at (V : Valuation τ sig (Elt F)) : StableHlo.after ops1 V (dv main_v8) = O8v (V (dv main_arg0)) := by
  unfold ops1 dv
  after_results
  refine congrArg (fun x => shapeCast S2048x128 x shapeCasts_S262144_S2048x128) (funext fun i => ?_)
  show (if IntOp.cmpi .sge (V (dv main_arg0) i) 507904#32 = 1 then _ else _) = _
  simp only [sge_iff]; rfl
theorem v9_at (V : Valuation τ sig (Elt F)) : StableHlo.after ops1 V (dv main_v9) = embV (V (dv main_arg1)) := by
  unfold ops1 dv
  after_results
  rfl
theorem arg0_at (V : Valuation τ sig (Elt F)) : StableHlo.after ops1 V (dv main_arg0) = V (dv main_arg0) := by
  unfold ops1 dv
  after_results
theorem arg1_at (V : Valuation τ sig (Elt F)) : StableHlo.after ops1 V (dv main_arg1) = V (dv main_arg1) := by
  unfold ops1 dv
  after_results

theorem arg2_at (V : Valuation τ sig (Elt F)) : StableHlo.after ops1 V (dv main_arg2) = V (dv main_arg2) := by
  unfold ops1 dv
  after_results
theorem arg3_at (V : Valuation τ sig (Elt F)) : StableHlo.after ops1 V (dv main_arg3) = V (dv main_arg3) := by
  unfold ops1 dv
  after_results
theorem v12_at (V : Valuation τ sig (Elt F)) : opB.result V (dv main_v12) = biasV (V (dv main_arg3)) := by
  have h : StableHlo.after [opB] V (dv main_v12) = biasV (V (dv main_arg3)) := by
    unfold opB dv
    after_results
    rfl
  exact h

theorem ops1_bufs : ∀ op ∈ ops1 (F := F), op.bufs ⊆ Pipeline.ucRefs τ sig := by
  suffices h : ∀ op ∈ ops1 (F := F), op.bufs ⊆ StableHlo.tcRefs τ sig from fun op ho => Pipeline.sub_ucRefs op (h op ho)
  unfold ops1
  simp only [List.forall_mem_cons]
  exact ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., fun _ h => nomatch h⟩
theorem ops1_fresh : ∀ op ∈ ops1 (F := F), op.fresh = ∅ := by
  unfold ops1
  simp only [List.forall_mem_cons]
  exact ⟨rfl, rfl, rfl, rfl, rfl, rfl, rfl, rfl, rfl, rfl, rfl, rfl, rfl, rfl, rfl, rfl, fun _ h => nomatch h⟩

/-! ## What the words' range gives -/

theorem physW_lt (v : BitVec 32) (h0 : 0 ≤ v.toInt) (h1 : v.toInt < 1000000) : (physW v).toNat < 507904 := by
  unfold physW
  have := v.isLt
  split_ifs with h
  · rw [BitVec.toNat_sub, BitVec.toNat_ofNat]
    rw [BitVec.toInt_eq_toNat_cond] at h h0 h1
    split_ifs at h h0 h1 <;> omega
  · rw [BitVec.toInt_eq_toNat_cond] at h h0 h1
    split_ifs at h h0 h1 <;> omega
theorem P5v_lt (t : S262144.Idx → BitVec 32) (h : ∀ i, 0 ≤ (t i).toInt ∧ (t i).toInt < 1000000) (y : S2048x128.Idx) : (P5v t y).toNat < 507904 :=
  physW_lt _ (h _).1 (h _).2
theorem O8v_or (t : S262144.Idx → BitVec 32) (y : S2048x128.Idx) : O8v t y = 0#32 ∨ O8v t y = 64#32 := by
  show offW _ = _ ∨ offW _ = _
  unfold offW; split_ifs
  · exact .inr rfl
  · exact .inl rfl

end Cert.Proof.KI

end
-- ==== Proof.Launch.lean ====
/-
  The launch: what the calls' payloads are, the subcores' obligation, the ghost state the launch leaves, and the two
  TensorCore regions under the launch's body table.
-/
module

public import proofs.«01_k».proof.Proof.Host
public import Idealize.ShloMosaic.Lib.SparseCore.Quiescent

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

open Idealize.ShloMosaic.Rounds

-- the memrefs the body table passes the kernel
local notation "pV" => (Memref.whole Cert.KernelIdeal.main_v5_scv : Memref Cert.KernelIdeal.sig Kind.scVector Space.hbm Cert.KernelIdeal.S2048x128 EltTy.i32)
local notation "fV" => (Memref.whole Cert.KernelIdeal.main_v8_scv : Memref Cert.KernelIdeal.sig Kind.scVector Space.hbm Cert.KernelIdeal.S2048x128 EltTy.i32)
local notation "tV" => (Memref.whole Cert.KernelIdeal.main_v10_scv : Memref Cert.KernelIdeal.sig Kind.scVector Space.hbm Cert.KernelIdeal.S507904x128 EltTy.f32)
local notation "rV" => (Memref.whole Cert.KernelIdeal.main_v11_scv : Memref Cert.KernelIdeal.sig Kind.scVector Space.hbm Cert.KernelIdeal.S2x16x64 EltTy.f32)
local notation "s0V" => (Memref.whole Cert.KernelIdeal.cc1_scratch0 : Memref Cert.KernelIdeal.sig Kind.scVector Space.vmem Cert.KernelIdeal.S64x128 EltTy.i32)
local notation "s1V" => (Memref.whole Cert.KernelIdeal.cc1_scratch1 : Memref Cert.KernelIdeal.sig Kind.scVector Space.vmem Cert.KernelIdeal.S64x128 EltTy.i32)
local notation "s2V" => (Memref.whole Cert.KernelIdeal.cc1_scratch2 : Memref Cert.KernelIdeal.sig Kind.scVector Space.vmem Cert.KernelIdeal.S128x128 EltTy.f32)
local notation "s3V" => (Memref.whole Cert.KernelIdeal.cc1_scratch3 : Memref Cert.KernelIdeal.sig Kind.scVector Space.vmem Cert.KernelIdeal.S128x128 EltTy.f32)
local notation "s4V" => (Memref.whole Cert.KernelIdeal.cc1_scratch4 : Memref Cert.KernelIdeal.sig Kind.scVector Space.vmem Cert.KernelIdeal.S64 EltTy.f32)
local notation "wh" => Memref.isWhole_whole

variable [FloatOps F]

abbrev EP : Emb UP (MT nD τ sig (HIx 1) (Elt F) ℕ UU ℕ) := (Emb.inl : Emb UP (UP × Counters)).trans embR
instance EP_lands : (EP : Emb UP 𝕄).LandsIn (upEmb : UEmb _ 𝕄) := by unfold EP; infer_instance

variable (m : (ℓ : Loc nD τ sig) → Buf (Elt F) ℓ)

/-! ## The words, the offsets, the transposed table and the rest as the launch memory gives them -/

abbrev a0 (d : Dev nD) : S262144.Idx → BitVec 32 := m ((d.tc : Thread nD τ).loc main_arg0)
abbrev a1 (d : Dev nD) : S1000000x64.Idx → F .f32 := m ((d.tc : Thread nD τ).loc main_arg1)
abbrev a2 (d : Dev nD) : S16x64.Idx → F .f32 := m ((d.tc : Thread nD τ).loc main_arg2)
abbrev a3 (d : Dev nD) : S16.Idx → F .f32 := m ((d.tc : Thread nD τ).loc main_arg3)
abbrev TOk (d : Dev nD) : (S507904x128.Idx → F .f32) → Prop := TableOk (embV (a1 m d))

/-- What the proof asks of the launch memory: every word in the table. -/
def PreOK : Prop := ∀ d i, 0 ≤ (a0 m d i).toInt ∧ (a0 m d i).toInt < 1000000

abbrev goD (d : Dev nD) (c : Fin 2) (i : Fin 16) : sProp 𝕄 := goV d (coordsV c i) (TOk m d) (P5v (a0 m d)) (O8v (a0 m d)) (qL c i)
abbrev tdD (d : Dev nD) (c : Fin 2) (i : Fin 16) : sProp 𝕄 := tdV d (coordsV c i) (TOk m d) (P5v (a0 m d)) (O8v (a0 m d))

set_option synthInstance.maxHeartbeats 400000 in
instance goD_storable (d c i) : BI.Storable (upEmb : UEmb _ 𝕄) (goD m d c i) := by unfold goD goV; infer_instance
instance tdD_storable (d c i) : BI.Storable (upEmb : UEmb _ 𝕄) (tdD m d c i) := by unfold tdD tdV; infer_instance

def P : Pay (K (F := F)) (nD := nD) (Val := Elt F) (Name := ℕ) (U := UU) where
  st q d c := match q with | 0 => bigSep Finset.univ fun i : Fin 16 => goD m d c i
  dn q d c := match q with | 0 => bigSep Finset.univ fun i : Fin 16 => tdD m d c i
  go q d c i := match q with | 0 => goD m d c i
  td q d c i := match q with | 0 => tdD m d c i
  x _ _ := iprop(emp)

instance P_storable : (P (F := F) m).IsStorable where
  st q d c := match q with | 0 => (inferInstance : BI.Storable (upEmb : UEmb _ 𝕄) (bigSep Finset.univ fun i : Fin 16 => goD m d c i))
  dn q d c := match q with | 0 => (inferInstance : BI.Storable (upEmb : UEmb _ 𝕄) (bigSep Finset.univ fun i : Fin 16 => tdD m d c i))
  go q d c i := match q with | 0 => goD_storable m d c i
  td q d c i := match q with | 0 => tdD_storable m d c i

theorem vecSplit : (K (F := F)).VecSplit' (P m) 0 := by
  intro d c
  show (bigSep Finset.univ fun i : Fin 16 => goD m d c i) ⊢ |={Set.univ}=> iprop((bigSep Finset.univ fun i : Fin 16 => goD m d c i)
    ∗ ((bigSep Finset.univ fun i : Fin 16 => tdD m d c i) -∗ (bigSep Finset.univ fun i : Fin 16 => tdD m d c i)))
  iintro H; imodintro
  isplitl [H]; · iexact H
  iintro H; iexact H

/-! ## The subcores' obligation -/

theorem defs₀_vector (c : Fin τ.nSC) (s : Fin τ.nSub) :
    defs₀ (F := F) (.scVector c s) 1 ()
      = SparseCore.onTile hcore1 hsub1 (fun c s => cc1__sc_body (coordsV c s) pV (wh _) fV (wh _) tV (wh _) rV (wh _) s0V (wh _) s1V (wh _) s2V (wh _) s3V (wh _) s4V (wh _)
            cc1_scratch5 cc1_scratch6 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (TOk m d) (P5v (a0 m d)) (O8v (a0 m d)) (P5v_lt _ (hpre d)) (O8v_or _)
    (qL ⟨_, hci.1⟩ ⟨_, hci.2⟩) O W hO).trans (wp_mono frame _ _ fun _ => obl_post)

/-! ## The launch element of the ghost state -/

abbrev cellsG (p : Fin 2) (d : Dev nD) : sProp 𝕄 := Pipeline.cellsGhost (Pipeline.pin (pcfgs (F := F)) adm) EP p d
abbrev toksG (p : Fin 2) (d : Dev nD) : sProp 𝕄 := Pipeline.toksInit (Pipeline.pin (pcfgs (F := F)) adm) EP p d
abbrev G (d : Dev nD) : sProp 𝕄 := iprop((bigSep Finset.univ fun p : Fin 2 => cellsG (F := F) p d) ∗ bigSep Finset.univ fun p : Fin 2 => toksG (F := F) p d)

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ (1 : Counters)) $$ HR
  icases H with ⟨HP, -⟩
  imod (Pipeline.fund_ghost (nD := nD) (τ := τ) (Pipeline.pin (pcfgs (F := F)) adm) (EP : Emb UP 𝕄) cellOf_inj) $$ HP with ⟨Hc, Ht⟩
  imodintro
  isplitl [HH]; · iexact HH
  isplitl [Hc Ht]
  · rw [bigSep_sep']
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The regions under the launch's body table -/

theorem Otc_none (d : Dev nD) (n : ℕ) (g : GSem nD τ sig) : (K (F := F)).Otc (N := 1) d n g (none : HIx 1) = 0 := by
  by_contra h
  have := SparseCore.Cfg.lev_of_Otc_pos (K := K (F := F)) (Nat.pos_of_ne_zero h); rw [SparseCore.Cfg.lev_none] at this; omega

theorem region_run [∀ e, Nonempty (Elt F e)] {p : Fin 2} {rd} (R : Pipeline.RDat.RegionSeg (pcfgs (F := F)) adm rd none (defs₀ (F := F)) 𝒱₀ (K (F := F)).L (K (F := F)).lev p)
    (d : Dev nD) (Φ : PUnit → sProp 𝕄) :
    iprop((iprop(boundary (d.tc : Thread nD τ) ∗ R.post d) -∗ Φ ⟨⟩) ∗ boundary (d.tc : Thread nD τ) ∗ R.pre d
        ∗ levAts (K (F := F)).L (K (F := F)).lev ∗ cellsG (F := F) p d ∗ toksG (F := F) p d)
      ⊢ wp frame (wpE ((K (F := F)).defs (D (F := F))) 𝒱 (T d) none) Set.univ
          (Prog.lift (.customCall (SparseCore.inner (Pipeline.entry p)) ())) Φ := by
  refine BI.Entails.trans ?_ ((K (F := F)).wp_liftProg (D (F := F)) 𝒱 (T d) Set.univ none (.op (.customCall (Pipeline.entry p) ()) .ret) Φ)
  refine BI.Entails.trans ?_ (Pipeline.RDat.RegionSeg.wp (pcfgs (F := F)) adm rd none cellOf_inj EP (defs₀ (F := F)) 𝒱₀ (K (F := F)).L (K (F := F)).lev R d none
    (fun _ h => nomatch h) .ret Φ)
  show (iprop((iprop(boundary (d.tc : Thread nD τ) ∗ R.post d) -∗ Φ ⟨⟩) ∗ boundary (d.tc : Thread nD τ) ∗ R.pre d
        ∗ levAts (K (F := F)).L (K (F := F)).lev ∗ cellsG (F := F) p d ∗ toksG (F := F) p d) : sProp 𝕄)
    ⊢ iprop((iprop(boundary (d.tc : Thread nD τ) ∗ R.post d) -∗ wp frame (wpE (D (F := F)) 𝒱 (d.tc : Thread nD τ) none) Set.univ (.ret PUnit.unit) Φ)
        ∗ boundary (d.tc : Thread nD τ) ∗ R.pre d ∗ levAts (K (F := F)).L (K (F := F)).lev ∗ cellsG (F := F) p d ∗ toksG (F := F) p d)
  iintro ⟨Hk, H⟩
  isplitl [Hk]
  · iintro H
    rw [wp_ret]; imodintro
    iapply Hk; iexact H
  iexact H

/-! ## @main on the TensorCore -/

/-- What the arrays hold after the host's first operations. -/
abbrev W0 (d : Dev nD) : Valuation τ sig (Elt F) := StableHlo.after ops1 (StableHlo.launchContents m d)

/-- The buffers the rest of @main touches. -/
def T11 : Finset (DevRef τ sig) :=
  {dv main_arg0, dv main_arg1, dv main_arg2, dv main_arg3, dv main_v5, dv main_v8, dv main_v9, dv main_v10, dv main_v11, dv main_v12, dv main_v13}

theorem host_res (d : Dev nD) : (StableHlo.held (d.tc : Thread nD τ) (Pipeline.ucRefs τ sig) (W0 m d) : sProp 𝕄)
    ⊢ iprop((((d.tc : Thread nD τ).loc main_arg0) ↦{fullShare} a0 m d) ∗ (((d.tc : Thread nD τ).loc main_arg1) ↦{fullShare} a1 m d)
      ∗ (((d.tc : Thread nD τ).loc main_arg2) ↦{fullShare} a2 m d) ∗ (((d.tc : Thread nD τ).loc main_arg3) ↦{fullShare} a3 m d)
      ∗ (ℓ5 d ↦{fullShare} P5v (a0 m d)) ∗ (ℓ8 d ↦{fullShare} O8v (a0 m d)) ∗ (((d.tc : Thread nD τ).loc main_v9) ↦{fullShare} embV (a1 m d))
      ∗ (ℓ10 d ↦{fullShare} W0 m d (dv main_v10)) ∗ (ℓ11 d ↦{fullShare} W0 m d (dv main_v11))
      ∗ (((d.tc : Thread nD τ).loc main_v12) ↦{fullShare} W0 m d (dv main_v12)) ∗ (((d.tc : Thread nD τ).loc main_v13) ↦{fullShare} W0 m d (dv main_v13))) := by
  rw [StableHlo.held_sub_split (d.tc : Thread nD τ) (show T11 ⊆ Pipeline.ucRefs τ sig by decide +kernel)]
  refine sep_elim_left.trans ?_
  have e0 : W0 m d (dv main_arg0) = a0 m d := arg0_at _
  have e1 : W0 m d (dv main_arg1) = a1 m d := arg1_at _
  have e2 : W0 m d (dv main_arg2) = a2 m d := arg2_at _
  have e3 : W0 m d (dv main_arg3) = a3 m d := arg3_at _
  have e5 : W0 m d (dv main_v5) = P5v (a0 m d) := v5_at _
  have e8 : W0 m d (dv main_v8) = O8v (a0 m d) := v8_at _
  have e9 : W0 m d (dv main_v9) = embV (a1 m d) := v9_at _
  have hh : (StableHlo.held (d.tc : Thread nD τ) T11 (W0 m d) : sProp 𝕄)
      = iprop((((d.tc : Thread nD τ).loc main_arg0) ↦{fullShare} W0 m d (dv main_arg0)) ∗ (((d.tc : Thread nD τ).loc main_arg1) ↦{fullShare} W0 m d (dv main_arg1))
      ∗ (((d.tc : Thread nD τ).loc main_arg2) ↦{fullShare} W0 m d (dv main_arg2)) ∗ (((d.tc : Thread nD τ).loc main_arg3) ↦{fullShare} W0 m d (dv main_arg3))
      ∗ (ℓ5 d ↦{fullShare} W0 m d (dv main_v5)) ∗ (ℓ8 d ↦{fullShare} W0 m d (dv main_v8)) ∗ (((d.tc : Thread nD τ).loc main_v9) ↦{fullShare} W0 m d (dv main_v9))
      ∗ (ℓ10 d ↦{fullShare} W0 m d (dv main_v10)) ∗ (ℓ11 d ↦{fullShare} W0 m d (dv main_v11))
      ∗ (((d.tc : Thread nD τ).loc main_v12) ↦{fullShare} W0 m d (dv main_v12)) ∗ (((d.tc : Thread nD τ).loc main_v13) ↦{fullShare} W0 m d (dv main_v13))) := by
    unfold StableHlo.held T11
    repeat rw [SparseCore.bigSep_insert' (by decide)]
    rw [bigSep_singleton]
  rw [hh, e0, e1, e2, e3, e5, e8, e9]

/-- The reshape of the bias. -/
theorem bias_step (d : Dev nD) (V : Valuation τ sig (Elt F)) (Φ : PUnit → sProp 𝕄) :
    iprop(boundary (d.tc : Thread nD τ) ∗ (((d.tc : Thread nD τ).loc main_arg3) ↦{fullShare} V (dv main_arg3)) ∗ (((d.tc : Thread nD τ).loc main_v12) ↦{fullShare} V (dv main_v12)))
      ⊢ iprop((iprop(boundary (d.tc : Thread nD τ) ∗ (((d.tc : Thread nD τ).loc main_arg3) ↦{fullShare} V (dv main_arg3))
            ∗ (((d.tc : Thread nD τ).loc main_v12) ↦{fullShare} biasV (V (dv main_arg3)))) -∗ Φ ⟨⟩)
        -∗ wp frame (wpE ((K (F := F)).defs (D (F := F))) 𝒱 (T d) none) Set.univ (hlo rfl opB (fun _ => .ret PUnit.unit)) Φ) := by
  have hV : ∀ V : Valuation τ sig (Elt F), (StableHlo.held (d.tc : Thread nD τ) {dv main_arg3, dv main_v12} V : sProp 𝕄)
      = iprop((((d.tc : Thread nD τ).loc main_arg3) ↦{fullShare} V (dv main_arg3)) ∗ (((d.tc : Thread nD τ).loc main_v12) ↦{fullShare} V (dv main_v12))) := fun V => by
    unfold StableHlo.held
    rw [SparseCore.bigSep_insert' (by decide), bigSep_singleton]
  have h3 : opB.result V (dv main_arg3) = V (dv main_arg3) := by
    have h : StableHlo.after [opB] V (dv main_arg3) = V (dv main_arg3) := by
      unfold opB dv
      after_results
    exact h
  have h12 := v12_at V
  iintro ⟨Hb, H3, H12⟩ Hk
  iapply (StableHlo.wp_hlo_within 𝒱 (d.tc : Thread nD τ) none Set.univ (op := opB) (S := {dv main_arg3, dv main_v12})
    (show ({dv main_arg3, dv main_v12} : Finset (DevRef τ sig)) ⊆ {dv main_arg3, dv main_v12} from Finset.Subset.refl _) (V := V)) $$ [Hb H3 H12]
  · isplitl [Hb]; · iexact Hb
    rw [hV]
    isplitl [H3]; · iexact H3
    iexact H12
  iintro ⟨Hb, H⟩
  rw [wp_ret]; imodintro
  ihave H := (Entails.of_eq ((hV (opB.result V)).trans (by rw [h3, h12]))) $$ H
  icases H with ⟨H3, H12⟩
  iapply Hk
  isplitl [Hb]; · iexact Hb
  isplitl [H3]; · iexact H3
  iexact H12

/-- What the first TensorCore state `n` holds: the core's debt and the handshakes' rest. -/
theorem tcSt_split (d : Dev nD) (n : ℕ) : ∃ (B : ℕ) (R : sProp 𝕄),
    (K (F := F)).tcSt EH d n = iprop(owed (F := F) ((K (F := F)).Otc d n) B d ∗ R) := ⟨_, _, rfl⟩

theorem region0 [∀ e, Nonempty (Elt F e)] (d : Dev nD) (e : S64x1000000.Idx → F .f32) (t : S507904x128.Idx → F .f32) (n : ℕ) (B : ℕ) (Φ : PUnit → sProp 𝕄) :
    iprop((iprop(boundary (d.tc : Thread nD τ) ∗ (((d.tc : Thread nD τ).loc main_v9) ↦{fullShare} e)
              ∗ (∃ T : S507904x128.Idx → F .f32, ⌜TableOk e T⌝ ∗ ℓ10 d ↦{fullShare} T) ∗ owed (F := F) ((K (F := F)).Otc d n) B d) -∗ Φ ⟨⟩)
        ∗ boundary (d.tc : Thread nD τ)
        ∗ iprop((((d.tc : Thread nD τ).loc main_v9) ↦{fullShare} e) ∗ (ℓ10 d ↦{fullShare} t) ∗ owed (F := F) ((K (F := F)).Otc d n) B d)
        ∗ levAts (K (F := F)).L (K (F := F)).lev ∗ cellsG (F := F) 0 d ∗ toksG (F := F) 0 d)
      ⊢ wp frame (wpE ((K (F := F)).defs (D (F := F))) 𝒱 (T d) none) Set.univ
          (Prog.lift (.customCall (SparseCore.inner (Pipeline.entry 0)) ())) Φ := by
  have : Nonempty (F .f32) := inferInstanceAs (Nonempty (Elt F .f32))
  have x : F .f32 := Classical.arbitrary _
  exact region_run (seg0 ⟨e, t, fun _ => x, fun _ => x, fun _ => x, fun _ => x⟩ ((K (F := F)).Otc d n) B (Otc_none d n)) d Φ

theorem region1 [∀ e, Nonempty (Elt F e)] (d : Dev nD) (p : S2x16x64.Idx → F .f32) (a : S16x64.Idx → F .f32) (b : S1x16.Idx → F .f32)
    (r : S16x16.Idx → F .f32) (n : ℕ) (B : ℕ) (Φ : PUnit → sProp 𝕄) :
    iprop((iprop(boundary (d.tc : Thread nD τ) ∗ (ℓ11 d ↦{fullShare} p) ∗ (((d.tc : Thread nD τ).loc main_arg2) ↦{fullShare} a)
              ∗ (((d.tc : Thread nD τ).loc main_v12) ↦{fullShare} b) ∗ (((d.tc : Thread nD τ).loc main_v13) ↦{fullShare} headV p a b)
              ∗ owed (F := F) ((K (F := F)).Otc d n) B d) -∗ Φ ⟨⟩)
        ∗ boundary (d.tc : Thread nD τ)
        ∗ iprop((ℓ11 d ↦{fullShare} p) ∗ (((d.tc : Thread nD τ).loc main_arg2) ↦{fullShare} a)
              ∗ (((d.tc : Thread nD τ).loc main_v12) ↦{fullShare} b) ∗ (((d.tc : Thread nD τ).loc main_v13) ↦{fullShare} r)
              ∗ owed (F := F) ((K (F := F)).Otc d n) B d)
        ∗ levAts (K (F := F)).L (K (F := F)).lev ∗ cellsG (F := F) 1 d ∗ toksG (F := F) 1 d)
      ⊢ wp frame (wpE ((K (F := F)).defs (D (F := F))) 𝒱 (T d) none) Set.univ
          (Prog.lift (.customCall (SparseCore.inner (Pipeline.entry 1)) ())) Φ := by
  have : Nonempty (F .f32) := inferInstanceAs (Nonempty (Elt F .f32))
  have x : F .f32 := Classical.arbitrary _
  exact region_run (seg2 ⟨fun _ => x, fun _ => x, p, a, b, r⟩ ((K (F := F)).Otc d n) B (Otc_none d n)) d Φ

/-- What the result may be. -/
def Res (d : Dev nD) (r : S16x16.Idx → F .f32) : Prop :=
  ∃ f : S2x16x64.Idx → F .f32, (∀ h < 2, ∀ b < 16, PartOk (TOk m d) (P5v (a0 m d)) (O8v (a0 m d)) h b f) ∧ r = headV f (a2 m d) (biasV (a3 m d))

abbrev FIN (d : Dev nD) : sProp 𝕄 :=
  iprop((((d.tc : Thread nD τ).loc main_arg0) ↦{fullShare} a0 m d) ∗ (((d.tc : Thread nD τ).loc main_arg1) ↦{fullShare} a1 m d)
      ∗ (((d.tc : Thread nD τ).loc main_arg2) ↦{fullShare} a2 m d) ∗ (((d.tc : Thread nD τ).loc main_arg3) ↦{fullShare} a3 m d)
      ∗ ∃ r : S16x16.Idx → F .f32, ⌜Res m d r⌝ ∗ ((d.tc : Thread nD τ).loc main_v13) ↦{fullShare} r)

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

variable (ρ : Dev nD → PrngReg)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((T d : Thread nD τ).loc b)) : sProp 𝕄) = _ from Pipeline.unscopedBufs_held d (StableHlo.launchContents m d)]
  have e3 : W0 m d (dv main_arg3) = a3 m d := arg3_at _
  obtain ⟨B0, R0, hs0⟩ := tcSt_split (F := F) d 0
  obtain ⟨B1, R1, hs1⟩ := tcSt_split (F := F) d 1
  iintro ⟨#Hctx, Hst, ⟨Hb, Hu, Hts, -⟩, ⟨HC, HT⟩⟩
  ihave HC := (Entails.of_eq (bigSep_two _)) $$ HC
  ihave HT := (Entails.of_eq (bigSep_two _)) $$ HT
  icases HC with ⟨HC0, HC1⟩
  icases HT with ⟨HT0, HT1⟩
  iapply (StableHlo.wp_seq 𝒱 none Set.univ d (Pipeline.ucRefs τ sig) _ ops1 ops1_bufs ops1_fresh (StableHlo.launchContents m d)) $$ [Hb Hu]
  · isplitl [Hb]; · iexact Hb
    iexact Hu
  iintro ⟨Hb, Hu⟩
  ihave Hu := (host_res m d) $$ Hu
  icases Hu with ⟨Ha0, Ha1, Ha2, Ha3, H5, H8, H9, H10, H11, H12, H13⟩
  -- the first region
  rw [wp_bind]
  ihave Hst := (Entails.of_eq hs0) $$ Hst
  icases Hst with ⟨HO, HR0⟩
  ihave #Hlv := ((K (F := F)).ctx_levAts (EH := EH) (P := P m) κ) $$ Hctx
  iapply (region0 (F := F) d (embV (a1 m d)) (W0 m d (dv main_v10)) 0 B0 _)
  isplitr [Hb H9 H10 HO HC0 HT0]
  swap
  · isplitl [Hb]; · iexact Hb
    isplitl [H9 H10 HO]
    · isplitl [H9]; · iexact H9
      isplitl [H10]; · iexact H10
      iexact HO
    isplitr; · iexact Hlv
    isplitl [HC0]; · iexact HC0
    iexact HT0
  iintro ⟨Hb, -, ⟨%Tb, %hT, H10⟩, HO⟩
  ihave Hst := (Entails.of_eq hs0.symm) $$ [HO HR0]
  · isplitl [HO]; · iexact HO
    iexact HR0
  -- the subcores' call
  rw [wp_bind]
  iapply ((K (F := F)).wp_run (D (F := F)) 𝒱 (EH := EH) (P := P m) κ d 0) $$ [Hst Hb Hts HC1 HT1 Ha0 Ha1 Ha2 Ha3 H5 H8 H10 H11 H12 H13]
  isplitr; · iexact Hctx
  isplitl [Hst]; · iexact Hst
  isplitl [H5 H8 H10 H11]
  · iapply (split_in d (TOk m d) (P5v (a0 m d)) (O8v (a0 m d)) Tb hT _)
    isplitl [H5]; · iexact H5
    isplitl [H8]; · iexact H8
    isplitl [H10]; · iexact H10
    iexact H11
  iintro ⟨Hst, Hdn⟩
  ihave Hdn := (show (bigSep Finset.univ fun c : Fin ((K (F := F)).nCore 0) => (P m).dn 0 d c) ⊢ _ from
    join_out d (TOk m d) (P5v (a0 m d)) (O8v (a0 m d))) $$ Hdn
  icases Hdn with ⟨%f, %hf, H11⟩
  -- the bias
  rw [wp_bind]
  iapply (bias_step d (W0 m d) _) $$ [Hb Ha3 H12]
  · isplitl [Hb]; · iexact Hb
    isplitl [Ha3]; · rw [e3]; iexact Ha3
    iexact H12
  iintro ⟨Hb, Ha3, H12⟩
  rw [e3]
  -- the second region
  rw [wp_bind]
  ihave Hst := (show (K (F := F)).tcSt EH d ((0 : Fin 1).val + 1) ⊢ _ from Entails.of_eq hs1) $$ Hst
  icases Hst with ⟨HO, HR1⟩
  iapply (region1 (F := F) d f (a2 m d) (biasV (a3 m d)) (W0 m d (dv main_v13)) 1 B1 _)
  isplitr [Hb H11 Ha2 H12 H13 HO HC1 HT1]
  swap
  · isplitl [Hb]; · iexact Hb
    isplitl [H11 Ha2 H12 H13 HO]
    · isplitl [H11]; · iexact H11
      isplitl [Ha2]; · iexact Ha2
      isplitl [H12]; · iexact H12
      isplitl [H13]; · iexact H13
      iexact HO
    isplitr; · iexact Hlv
    isplitl [HC1]; · iexact HC1
    iexact HT1
  iintro ⟨Hb, -, Ha2, -, H13, HO⟩
  ihave Hst := (Entails.of_eq hs1.symm) $$ [HO HR1]
  · isplitl [HO]; · iexact HO
    iexact HR1
  rw [wp_pure]
  imodintro
  isplitl [Hst]; · iexact Hst
  isplitl [Ha0 Ha1 Ha2 Ha3 H13]
  · isplitl [Ha0]; · iexact Ha0
    isplitl [Ha1]; · iexact Ha1
    isplitl [Ha2]; · iexact Ha2
    isplitl [Ha3]; · iexact Ha3
    iexists _; isplitr; swap; · iexact H13
    ipureintro; exact ⟨f, hf, rfl⟩
  isplitl [Hb] <;> iassumption

/-! ## The final state, and the run -/

def fq (d : Dev nD) (s' : Phys nD τ sig (Elt F)) : Prop :=
  s'.mem.mem ((d.tc : Thread nD τ).loc main_arg0) = a0 m d ∧ s'.mem.mem ((d.tc : Thread nD τ).loc main_arg1) = a1 m d
    ∧ s'.mem.mem ((d.tc : Thread nD τ).loc main_arg2) = a2 m d ∧ s'.mem.mem ((d.tc : Thread nD τ).loc main_arg3) = a3 m d
    ∧ Res m d (s'.mem.mem ((d.tc : Thread nD τ).loc main_v13))

theorem read_at (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, %r, %hr, H13⟩, HSI⟩
  ihave H := (read_at s' _ _) $$ [H0 HSI]; · isplitl [H0] <;> iassumption
  icases H with ⟨%h0, HSI⟩
  ihave H := (read_at s' _ _) $$ [H1 HSI]; · isplitl [H1] <;> iassumption
  icases H with ⟨%h1, HSI⟩
  ihave H := (read_at s' _ _) $$ [H2 HSI]; · isplitl [H2] <;> iassumption
  icases H with ⟨%h2, HSI⟩
  ihave H := (read_at s' _ _) $$ [H3 HSI]; · isplitl [H3] <;> iassumption
  icases H with ⟨%h3, HSI⟩
  ihave H := (read_at s' _ _) $$ [H13 HSI]; · isplitl [H13] <;> iassumption
  icases H with ⟨%h4, HSI⟩
  ipureintro; exact ⟨h0, h1, h2, h3, h4 ▸ hr⟩

def QC : PUnit × MemSt nD τ sig (Elt F) → Prop := fun r =>
  (∀ d : Dev nD, r.2.mem ((d.tc : Thread nD τ).loc main_arg0) = a0 m d ∧ r.2.mem ((d.tc : Thread nD τ).loc main_arg1) = a1 m d
    ∧ r.2.mem ((d.tc : Thread nD τ).loc main_arg2) = a2 m d ∧ r.2.mem ((d.tc : Thread nD τ).loc main_arg3) = a3 m d
    ∧ Res m d (r.2.mem ((d.tc : Thread nD τ).loc main_v13))) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.KI

end
-- ==== Proof.RefValue.lean ====
/-
  The reference read at an index, over the extended reals: element `(i, j)` of its result is the inner product of row `i`
  of the means with row `j` of the weights, plus the bias, where mean `(i, k)` is the sum of the 16384 rows' entries `k` that
  batch `i`'s words name, divided by 16384.
-/
module

public import proofs.«01_k».proof.Proof.Gen.ReferenceIdeal
public import proofs.«01_k».proof.Proof.Gen.ReferenceIdeal.Run
public import Idealize.ShloMosaic.Lib.Pointwise
public import Idealize.ShloMosaic.Lib.Routing.Ops
public import Idealize.ShloMosaic.Lib.ReduceAll

@[expose] public section

noncomputable section

namespace Cert.Proof.Ref

open Cert.ReferenceIdeal Cert.ReferenceIdeal.Gen
open Idealize.ShloMosaic Idealize.ShloMosaic.TcCoe Idealize.SL.Sem

variable (t : S262144.Idx → BitVec 32) (e : S1000000x64.Idx → Ideal .f32) (w : S16x64.Idx → Ideal .f32) (b : S16.Idx → Ideal .f32)

/-- Every word names a row of the embedding matrix. -/
abbrev InRange : Prop := ∀ i, 0 ≤ (t i).toInt ∧ (t i).toInt < 1000000

/-- The row that word `n` names (taken modulo the extents, so total). -/
def rowOf (n : ℕ) : Fin 1000000 := ⟨(t (ix1 ⟨n % 262144, Nat.mod_lt _ (by decide)⟩)).toNat % 1000000, Nat.mod_lt _ (by decide)⟩

/-- The sum, over the words of batch `i`, of entry `k` of the rows they name. -/
def sumV (i : ℕ) (k : Fin 64) : EReal := ∑ s : Fin 16384, e (ix2 (rowOf t (i * 16384 + s.val)) k)

/-- The function both programs compute. -/
def outV (j : S16x16.Idx) : EReal :=
  (∑ k : Fin 64, Ideal.div (sumV t e (j 0).val k) (Ideal.ofBits .f32 0x46800000#32) * w (ix2 (j 1) k)) + b (ix1 (j 1))

/-! ## The reference's lookup -/

/-- The words, a negative one raised by the matrix's height, as a column; -/
def idxR : IVec S262144x1 32 := broadcastInDim S262144x1 ![0] bcast_S262144_S262144x1_0
  (select (cmpi .slt t (broadcastInDim S262144 ![] bcast_S_S262144 (constantI S_ 32 0#32))) (addi t (broadcastInDim S262144 ![] bcast_S_S262144 (constantI S_ 32 1000000#32))) t)
/-- which of them are in range; -/
def maskR : IVec S262144 1 := Host.reduce IntOp.andi (andi (cmpi .sge (idxR t) (broadcastInDim S262144x1 ![] bcast_S_S262144x1 (constantI S_ 32 0#32)))
  (cmpi .sle (idxR t) (broadcastInDim S262144x1 ![0, 1] bcast_S1x1_S262144x1_0_1 (broadcastInDim S1x1 ![1] bcast_S1_S1x1_1 (constantI S1 32 999999#32)))))
  (constantI S_ 1 1#1) reducesTo_S262144x1_S262144_d1 h_S_
/-- the rows they name, and a fill where none. -/
def takeR : FVec Ideal S262144x64 .f32 := select (broadcastInDim S262144x64 ![0] bcast_S262144_S262144x64_0 (maskR t))
  (Host.gather gather_S1000000x64_S262144x1_S262144x64_1_0_n_n_0_1_164 e (idxR t)) (broadcastInDim S262144x64 ![] bcast_S_S262144x64 (constant S_ .f32 0x7FC00000#32))

theorem word_facts (v : BitVec 32) (h : 0 ≤ v.toInt ∧ v.toInt < 1000000) : v.toNat < 1000000 ∧ v.toInt = v.toNat := by
  obtain ⟨h0, h1⟩ := h
  have e := BitVec.toInt_eq_toNat_cond v
  have hl := v.isLt
  split at e <;> omega

theorem not_neg (v : BitVec 32) (h : 0 ≤ v.toInt) : IntOp.cmpi .slt v 0#32 = 0#1 := by
  show BitVec.ofBool (v.slt 0#32) = 0#1
  rw [BitVec.slt_eq_decide]; exact (congrArg BitVec.ofBool (decide_eq_false (show ¬ v.toInt < (0#32).toInt from not_lt.2 h))).trans rfl
theorem ge_zero (v : BitVec 32) (h : 0 ≤ v.toInt) : IntOp.cmpi .sge v 0#32 = 1#1 := by
  show BitVec.ofBool ((0#32).sle v) = 1#1
  rw [BitVec.sle_eq_decide]; exact (congrArg BitVec.ofBool (decide_eq_true (show (0#32).toInt ≤ v.toInt from h))).trans rfl
theorem le_last (v : BitVec 32) (h : v.toInt < 1000000) : IntOp.cmpi .sle v 999999#32 = 1#1 := by
  show BitVec.ofBool (v.sle 999999#32) = 1#1
  rw [BitVec.sle_eq_decide]; exact (congrArg BitVec.ofBool (decide_eq_true (show v.toInt ≤ (999999#32).toInt from Int.lt_add_one_iff.1 h))).trans rfl

theorem idxR_at (ht : InRange t) (i : S262144x1.Idx) : idxR t i = t (ix1 (i 0)) := by
  unfold idxR
  have e := not_neg _ (ht (ix1 (i 0))).1
  pointwise []
  exact (congrArg (fun c => Scalar.select c _ _) e).trans (ValueIdx.select_zero _ _)

theorem maskR_at (ht : InRange t) (p : S262144.Idx) : maskR t p = 1#1 := by
  unfold maskR
  refine Host.reduce_andi_one _ _ _ _ _ rfl fun i => ?_
  pointwise []
  rw [idxR_at t ht i, ge_zero _ (ht _).1, le_last _ (ht _).2]; rfl

theorem takeR_at (ht : InRange t) (n : Fin 262144) (k : Fin 64) : takeR t e (ix2 n k) = e (ix2 (rowOf t n.val) k) := by
  unfold takeR
  have hm := maskR_at t ht (ix1 n)
  obtain ⟨h1, -⟩ := word_facts _ (ht (ix1 n))
  have hr : (rowOf t n.val).val = (t (ix1 n)).toNat := by
    show (t (ix1 ⟨n.val % 262144, _⟩)).toNat % 1000000 = _
    have : (⟨n.val % 262144, Nat.mod_lt _ (by decide)⟩ : Fin 262144) = n := Fin.ext (Nat.mod_eq_of_lt n.isLt)
    rw [this, Nat.mod_eq_of_lt h1]
  have hg := Routing.gather_row gather_S1000000x64_S262144x1_S262144x64_1_0_n_n_0_1_164 rfl rfl rfl rfl rfl e (idxR t) n k (rowOf t n.val)
    ((idxR_at t ht _).trans (by rw [hr]; exact (by simp))) (by decide)
  pointwise []
  rw [hm, ValueIdx.select_one]; exact hg

/-- The reference's result. -/
theorem outR_at (ht : InRange t) :
    addf (Host.dotGeneral dot_S16x64_S64x16_S16x16_1_0_0_1_n_n none (Host.divf (Host.reduceAdd (shapeCast S16x16384x64 (takeR t e) shapeCasts_S262144x64_S16x16384x64)
      (constant S_ .f32 0x00000000#32) reducesTo_S16x16384x64_S16x64_d1 h_S_) (broadcastInDim S16x64 ![] bcast_S_S16x64 (constant S_ .f32 0x46800000#32)))
      (transpose S64x16 [1, 0] w transposes_S16x64_S64x16_1_0)) (broadcastInDim S16x16 ![0, 1] bcast_S1x16_S16x16_0_1 (broadcastInDim S1x16 ![1] bcast_S16_S1x16_1 b))
      = outV t e w b := by
  funext j
  pointwise []
  simp only [takeR_at t e ht]
  rfl

theorem run (m : (ℓ : Loc nD τ sig) → Buf (Elt Ideal) ℓ) (ρ : Dev nD → PrngReg)
    (ht : ∀ c : Dev nD, InRange (m ((c.tc : Thread nD τ).loc main_arg0))) :
    θ_run defs (onTc (τ := τ) (main (F := Ideal))) ⟨m, fun _ => 0, ρ⟩ fun r => ∀ c : Dev nD,
      r.2.mem ((c.tc : Thread nD τ).loc main_v9)
        = outV (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (outR_at _ _ _ _ (ht c)), (h c).2⟩) (Cert.ReferenceIdeal.Value.run (F := Ideal) m ρ)

end Cert.Proof.Ref

end
-- ==== Proof.TableValue.lean ====
/-
  The packed table over the extended reals: at the row and the column that the host code makes of a word, it holds the
  embedding matrix's row of that word. A product with the identity picks one entry of a window's column, and the window's
  entry is the array's, because the column lies inside the array.
-/
module

public import proofs.«01_k».proof.Proof.Regions
public import proofs.«01_k».proof.Proof.Host
public import proofs.«01_k».proof.Proof.Gather
public import proofs.«01_k».proof.Proof.RefValue
public import Idealize.ShloMosaic.Lib.Pointwise

@[expose] public section

noncomputable section

namespace Cert.Proof.KI

open Cert.KernelIdeal Cert.KernelIdeal.Gen
open Idealize.ShloMosaic

/-! ## A product with the identity -/

theorem eye_word (a b : Fin 64) : BitVec.setWidth 32 (IntOp.cmpi .eq (IntOp.addi (BitVec.ofNat 32 a.val) 0#32) (BitVec.ofNat 32 b.val))
    = if a = b then 1#32 else 0#32 := by
  revert a b; decide +kernel

theorem sitofp_one : FloatOps.sitofp (F := Ideal) .f32 1#32 = (1 : EReal) := by
  show (((1#32).toInt : ℝ) : EReal) = 1
  norm_num
theorem sitofp_zero : FloatOps.sitofp (F := Ideal) .f32 0#32 = (0 : EReal) := by
  show (((0#32).toInt : ℝ) : EReal) = 0
  norm_num

/-- The identity the packing kernel makes. -/
theorem eye_at (a b : Fin 64) : k0_pay1 (F := Ideal) (ix2 a b) = if a = b then (1 : EReal) else 0 := by
  pointwise [k0_pay1]
  rw [eye_word]
  split
  · exact sitofp_one
  · exact sitofp_zero

theorem sum_eye (f : Fin 64 → EReal) (c : Fin 64) : (∑ x, f x * if x = c then (1 : EReal) else 0) = f c := by
  simp

/-- Either half of a packed block is the window turned over. -/
theorem pay2_at (W : S64x16384.Idx → Ideal .f32) (r : Fin 16384) (c : Fin 64) : k0_pay2 (F := Ideal) W (ix2 r c) = W (ix2 c r) := by
  pointwise [k0_pay2]
  simp only [eye_at]
  exact sum_eye (fun x => W (ix2 x r)) c
theorem pay3_at (W : S64x16384.Idx → Ideal .f32) (r : Fin 16384) (c : Fin 64) : k0_pay3 (F := Ideal) W (ix2 r c) = W (ix2 c r) := by
  pointwise [k0_pay3]
  simp only [eye_at]
  exact sum_eye (fun x => W (ix2 x r)) c

/-! ## What a fetch leaves of the array -/

theorem tr0_1 : ∀ t : Fin grid0.N, cc0_transform_0 (grid0.coords t) 1 = t.val := by decide +kernel
theorem tr1_1 : ∀ t : Fin grid0.N, cc0_transform_1 (grid0.coords t) 1 = 31 + t.val := by decide +kernel
theorem tr0_0 : ∀ t : Fin grid0.N, cc0_transform_0 (grid0.coords t) 0 = 0 := by decide +kernel
theorem tr1_0 : ∀ t : Fin grid0.N, cc0_transform_1 (grid0.coords t) 0 = 0 := by decide +kernel

theorem lt_extent (ix k d j : ℕ) (hj : j < k) (h : ix * k + j < d) : j < (Pipeline.Clip.of ix k d).extent k := by
  unfold Pipeline.Clip.of
  split
  · exact hj
  · show j < d - ix * k
    omega

theorem fet0_at (E : S64x1000000.Idx → Ideal .f32) (t : Fin grid0.N) (d : S64x16384.Idx → Ideal .f32) (c : Fin 64) (p : Fin 16384) (n : Fin 1000000)
    (hn : n.val = t.val * 16384 + p.val) : fet0 E t d (ix2 c p) = E (ix2 c n) := by
  unfold fet0 Pipeline.Window.fill
  have hm : win0_0.moved (grid0.coords t) (ix2 c p) = true := (win0_0.moved_iff _ _).2 fun a => by
    match a with
    | 0 => exact lt_extent (cc0_transform_0 (grid0.coords t) 0) 64 64 c.val c.isLt (by rw [tr0_0]; omega)
    | 1 => exact lt_extent (cc0_transform_0 (grid0.coords t) 1) 16384 1000000 p.val p.isLt (by rw [tr0_1]; omega)
  rw [dif_pos hm]
  refine (View.read_apply _ _).trans ((cast_eq _ _).trans (congrArg E (funext fun a => Fin.ext ?_)))
  match a with
  | 0 => show cc0_transform_0 (grid0.coords t) 0 * 64 + 1 * c.val = c.val; rw [tr0_0]; omega
  | 1 => show cc0_transform_0 (grid0.coords t) 1 * 16384 + 1 * p.val = n.val; rw [tr0_1]; omega

theorem fet1_at (E : S64x1000000.Idx → Ideal .f32) (t : Fin grid0.N) (d : S64x16384.Idx → Ideal .f32) (c : Fin 64) (p : Fin 16384) (n : Fin 1000000)
    (hn : n.val = (31 + t.val) * 16384 + p.val) : fet1 E t d (ix2 c p) = E (ix2 c n) := by
  unfold fet1 Pipeline.Window.fill
  have hm : win0_1.moved (grid0.coords t) (ix2 c p) = true := (win0_1.moved_iff _ _).2 fun a => by
    match a with
    | 0 => exact lt_extent (cc0_transform_1 (grid0.coords t) 0) 64 64 c.val c.isLt (by rw [tr1_0]; omega)
    | 1 => exact lt_extent (cc0_transform_1 (grid0.coords t) 1) 16384 1000000 p.val p.isLt (by rw [tr1_1]; omega)
  rw [dif_pos hm]
  refine (View.read_apply _ _).trans ((cast_eq _ _).trans (congrArg E (funext fun a => Fin.ext ?_)))
  match a with
  | 0 => show cc0_transform_1 (grid0.coords t) 0 * 64 + 1 * c.val = c.val; rw [tr1_0]; omega
  | 1 => show cc0_transform_1 (grid0.coords t) 1 * 16384 + 1 * p.val = n.val; rw [tr1_1]; omega

/-! ## The table at a word -/

theorem ixH_eq (r c : ℕ) : ixH r c = ix2 ⟨r % 16384, Nat.mod_lt _ (by decide)⟩ ⟨c % 64, Nat.mod_lt _ (by decide)⟩ := by
  funext a
  match a with
  | 0 => rfl
  | 1 => rfl

theorem tab_lo (E : S64x1000000.Idx → Ideal .f32) (d0 d1 : Fin grid0.N → S64x16384.Idx → Ideal .f32) (n x : ℕ) (hn : n < 507904) (hx : x < 64) :
    tabV E d0 d1 (ixT n x) = E (ix2 ⟨x, hx⟩ ⟨n, by omega⟩) := by
  unfold tabV pack
  have e0 : (ixT n x 0).val = n := Nat.mod_eq_of_lt hn
  have e1 : (ixT n x 1).val = x := Nat.mod_eq_of_lt (by omega)
  rw [e0, e1, if_pos (show (ixK n x 1).val < 64 by show x % 128 < 64; omega), ixH_eq, pay2_at]
  refine (fet0_at E (ptOf n) _ _ _ ⟨n, by omega⟩ ?_).trans (congrArg (fun c => E (ix2 c _)) (Fin.ext ?_))
  · show n = n / 16384 % 31 * 16384 + n % 16384 % 16384
    omega
  · show x % 128 % 64 = x
    omega

theorem tab_hi (E : S64x1000000.Idx → Ideal .f32) (d0 d1 : Fin grid0.N → S64x16384.Idx → Ideal .f32) (n x : ℕ) (hn : n + 507904 < 1000000) (hx : x < 64) :
    tabV E d0 d1 (ixT n (64 + x)) = E (ix2 ⟨x, hx⟩ ⟨n + 507904, hn⟩) := by
  unfold tabV pack
  have e0 : (ixT n (64 + x) 0).val = n := Nat.mod_eq_of_lt (by omega)
  have e1 : (ixT n (64 + x) 1).val = 64 + x := Nat.mod_eq_of_lt (by omega)
  rw [e0, e1, if_neg (show ¬ (ixK n (64 + x) 1).val < 64 by show ¬ (64 + x) % 128 < 64; omega), ixH_eq, pay3_at]
  refine (fet1_at E (ptOf n) _ _ _ ⟨n + 507904, hn⟩ ?_).trans (congrArg (fun c => E (ix2 c _)) (Fin.ext ?_))
  · show n + 507904 = (31 + n / 16384 % 31) * 16384 + n % 16384 % 16384
    omega
  · show ((64 + x) % 128 - 64) % 64 = x
    omega

theorem embV_at (e : S1000000x64.Idx → Ideal .f32) (c : Fin 64) (n : Fin 1000000) : embV e (ix2 c n) = e (ix2 n c) := by
  unfold embV
  pointwise []

/-- The table, where the host code looks up the word `v`, holds the embedding matrix's row `v`. -/
theorem table_at (e : S1000000x64.Idx → Ideal .f32) (T : S507904x128.Idx → Ideal .f32) (hT : TableOk (embV e) T) (v : BitVec 32)
    (hv : 0 ≤ v.toInt ∧ v.toInt < 1000000) (x : Fin 64) :
    T (ixT (physW v).toNat ((offW v).toNat + x.val)) = e (ix2 ⟨v.toNat % 1000000, Nat.mod_lt _ (by decide)⟩ x) := by
  obtain ⟨d0, d1, rfl⟩ := hT
  obtain ⟨h1, h2⟩ := Ref.word_facts v hv
  have hm : (⟨v.toNat % 1000000, Nat.mod_lt _ (by decide)⟩ : Fin 1000000) = ⟨v.toNat, h1⟩ := Fin.ext (Nat.mod_eq_of_lt h1)
  rw [hm, ← embV_at e]
  unfold physW offW
  by_cases h : 507904 ≤ v.toInt
  · rw [if_pos h, if_pos h]
    have hn : (v - 507904#32).toNat = v.toNat - 507904 := by
      rw [BitVec.toNat_sub]
      show (2 ^ 32 - 507904 + v.toNat) % 2 ^ 32 = _
      omega
    rw [hn]
    refine (tab_hi _ d0 d1 (v.toNat - 507904) x.val (by omega) x.isLt).trans (congrArg (fun k => embV e (ix2 x k)) (Fin.ext ?_))
    show v.toNat - 507904 + 507904 = v.toNat
    omega
  · rw [if_neg h, if_neg h]
    have e0 : (0#32).toNat + x.val = x.val := by simp
    rw [e0]
    exact tab_lo _ d0 d1 v.toNat x.val (by omega) x.isLt

end Cert.Proof.KI

end
-- ==== Proof.SumValue.lean ====
/-
  The partial sums over the extended reals: what a subcore leaves for half `h` of batch `b` is the sum, over that half's 8192
  words, of the entries of the rows they name; and the head's result from both halves is the reference's.
-/
module

public import proofs.«01_k».proof.Proof.TableValue
public import proofs.«01_k».proof.Proof.Tile
public import proofs.«01_k».proof.Proof.Head

@[expose] public section

noncomputable section

namespace Cert.Proof.KI

open Cert.KernelIdeal Cert.KernelIdeal.Gen
open Idealize.ShloMosaic

/-! ## Sums over ranges -/

/-- The even and the odd terms together. -/
theorem sum_two (f : ℕ → EReal) (n : ℕ) : (∑ i ∈ Finset.range n, f (2 * i)) + (∑ i ∈ Finset.range n, f (2 * i + 1)) = ∑ i ∈ Finset.range (2 * n), f i := by
  rw [← Finset.sum_add_distrib]
  induction n with
  | zero => rfl
  | succ n ih =>
    rw [Finset.sum_range_succ, ih, show 2 * (n + 1) = 2 * n + 1 + 1 by omega, Finset.sum_range_succ, Finset.sum_range_succ, add_assoc]

/-- `m` runs of `n` terms, end to end. -/
theorem sum_runs (f : ℕ → EReal) (m n : ℕ) : (∑ g ∈ Finset.range m, ∑ r ∈ Finset.range n, f (g * n + r)) = ∑ i ∈ Finset.range (m * n), f i := by
  induction m with
  | zero => simp
  | succ m ih => rw [Finset.sum_range_succ, ih, Nat.succ_mul, Finset.sum_range_add]

/-! ## The running vectors -/

/-- The running vector number `(h, q)` of the eight. -/
def get8 (a : A8 Ideal) : Fin 2 → Fin 4 → FVec Ideal S16 .f32
  | 0, 0 => a.1
  | 0, 1 => a.2.1
  | 0, 2 => a.2.2.1
  | 0, 3 => a.2.2.2.1
  | 1, 0 => a.2.2.2.2.1
  | 1, 1 => a.2.2.2.2.2.1
  | 1, 2 => a.2.2.2.2.2.2.1
  | 1, 3 => a.2.2.2.2.2.2.2

theorem get8_acc8 (B : S128x128.Idx → Ideal .f32) (O : ℕ → ℕ) (a : A8 Ideal) (n : ℕ) (h : Fin 2) (q : Fin 4) :
    get8 (acc8 B O a n) h q = accN B O h.val q.val (get8 a h q) n := by
  fin_cases h <;> fin_cases q <;> rfl

theorem accN_at (B : S128x128.Idx → Ideal .f32) (O : ℕ → ℕ) (h q : ℕ) (a : FVec Ideal S16 .f32) (l : S16.Idx) (n : ℕ) :
    (accN B O h q a n l : EReal) = a l + ∑ i ∈ Finset.range n, (B (ixB (2 * i + h) (O (2 * i + h) + 16 * q + (l 0).val)) : EReal) := by
  induction n with
  | zero => simp [accN]
  | succ n ih =>
    rw [Finset.sum_range_succ, ← add_assoc, ← ih]
    rfl

theorem accs_at (T : S507904x128.Idx → Ideal .f32) (P6 O7 : S64x128.Idx → BitVec 32) (h : Fin 2) (q : Fin 4) (l : S16.Idx) (n : ℕ) :
    (get8 (accs T P6 O7 n) h q l : EReal) = ∑ g ∈ Finset.range (2 * n), ∑ i ∈ Finset.range 64,
      (chunk T P6 g (ixB (2 * i + h.val) (offs O7 g (2 * i + h.val) + 16 * q.val + (l 0).val)) : EReal) := by
  induction n with
  | zero =>
    have e : (get8 (accs T P6 O7 0) h q l : EReal) = Ideal.ofBits .f32 0x00000000#32 := by
      fin_cases h <;> fin_cases q <;> rfl
    rw [e, Ideal.ofBits_zero_f32]; rfl
  | succ n ih =>
    rw [show accs T P6 O7 (n + 1) = acc8 (chunk T P6 (2 * n + 1)) (offs O7 (2 * n + 1)) (acc8 (chunk T P6 (2 * n)) (offs O7 (2 * n)) (accs T P6 O7 n) 64) 64 from rfl,
      get8_acc8, get8_acc8, accN_at, accN_at, ih, show 2 * (n + 1) = 2 * n + 1 + 1 by omega,
      Finset.sum_range_succ _ (2 * n + 1), Finset.sum_range_succ _ (2 * n)]

theorem outN_at (a : A8 Ideal) (q : Fin 4) (l : S16.Idx) : (outN a q.val l : EReal) = get8 a 0 q l + get8 a 1 q l := by
  fin_cases q <;> rfl

/-- Lane `x` of a subcore's result: the sum of all its rows' entries. -/
theorem outV_at (T : S507904x128.Idx → Ideal .f32) (P6 O7 : S64x128.Idx → BitVec 32) (x : ℕ) (hx : x < 64) :
    (outV (accs T P6 O7 32) x : EReal) = ∑ g ∈ Finset.range 64, ∑ r ∈ Finset.range 128, (chunk T P6 g (ixB r (offs O7 g r + x)) : EReal) := by
  unfold outV
  have e := outN_at (accs T P6 O7 32) ⟨x / 16, by omega⟩ (ixL x)
  refine e.trans ?_
  rw [accs_at, accs_at, ← Finset.sum_add_distrib]
  refine Finset.sum_congr rfl fun g _ => ?_
  have hl : ((ixL x) 0).val = x % 16 := rfl
  have hx' : ∀ o : ℕ, o + 16 * (x / 16) + x % 16 = o + x := fun o => by omega
  simp only [hl, hx', Fin.val_zero, Fin.val_one, Nat.add_zero]
  exact sum_two (fun r => (chunk T P6 g (ixB r (offs O7 g r + x)) : EReal)) 64

/-! ## The rows a subcore reads -/

theorem P5v_at (t : S262144.Idx → BitVec 32) (r c : ℕ) (hr : r < 2048) (hc : c < 128) :
    P5v t (ixR r c) = physW (t (ix1 ⟨r * 128 + c, by omega⟩)) := by
  have e : ixR r c = ix2 ⟨r, hr⟩ ⟨c, hc⟩ := by
    funext a
    match a with
    | 0 => exact Fin.ext (Nat.mod_eq_of_lt hr)
    | 1 => exact Fin.ext (Nat.mod_eq_of_lt hc)
  rw [e]; unfold P5v
  pointwise []
theorem O8v_at (t : S262144.Idx → BitVec 32) (r c : ℕ) (hr : r < 2048) (hc : c < 128) :
    O8v t (ixR r c) = offW (t (ix1 ⟨r * 128 + c, by omega⟩)) := by
  have e : ixR r c = ix2 ⟨r, hr⟩ ⟨c, hc⟩ := by
    funext a
    match a with
    | 0 => exact Fin.ext (Nat.mod_eq_of_lt hr)
    | 1 => exact Fin.ext (Nat.mod_eq_of_lt hc)
  rw [e]; unfold O8v
  pointwise []

variable (t : S262144.Idx → BitVec 32) (e : S1000000x64.Idx → Ideal .f32) (T : S507904x128.Idx → Ideal .f32)

/-- Row `r` of chunk `g`, read from where its word's half starts, is the row its word names. -/
theorem row_at (ht : Ref.InRange t) (hT : TableOk (embV e) T) (h b g r : ℕ) (hh : h < 2) (hb : b < 16) (hg : g < 64) (hr : r < 128) (x : Fin 64) :
    chunk T (rowsAt h b (P5v t)) g (ixB r (offs (rowsAt h b (O8v t)) g r + x.val))
      = e (ix2 (Ref.rowOf t (b * 16384 + (h * 8192 + (g * 128 + r)))) x) := by
  have hr' : r % 128 = r := Nat.mod_eq_of_lt hr
  have hg' : g % 64 = g := Nat.mod_eq_of_lt hg
  have eP : rowsAt h b (P5v t) (ixO g (r % 128)) = physW (t (ix1 ⟨(b * 128 + h * 64 + g) * 128 + r, by omega⟩)) := by
    show P5v t (ixR (b * 128 + h * 64 + g % 64) (r % 128 % 128)) = _
    rw [hr', hr', hg']; exact P5v_at t _ _ (by omega) hr
  have eO : rowsAt h b (O8v t) (ixO g r) = offW (t (ix1 ⟨(b * 128 + h * 64 + g) * 128 + r, by omega⟩)) := by
    show O8v t (ixR (b * 128 + h * 64 + g % 64) (r % 128)) = _
    rw [hr', hg']; exact O8v_at t _ _ (by omega) hr
  have em : ∀ n c, ixT n (c % 128) = ixT n c := fun n c => by
    funext a
    match a with
    | 0 => rfl
    | 1 => exact Fin.ext (Nat.mod_mod _ _)
  show T (ixT (rowsAt h b (P5v t) (ixO g (r % 128))).toNat (((rowsAt h b (O8v t) (ixO g r)).toNat + x.val) % 128)) = _
  rw [em, eP, eO, table_at e T hT _ (ht _) x]
  refine congrArg (fun k => e (ix2 k x)) (Fin.ext ?_)
  show (t (ix1 _)).toNat % 1000000 = (t (ix1 _)).toNat % 1000000
  refine congrArg (fun k => (t (ix1 k)).toNat % 1000000) (Fin.ext ?_)
  show (b * 128 + h * 64 + g) * 128 + r = (b * 16384 + (h * 8192 + (g * 128 + r))) % 262144
  omega

/-- What a subcore leaves: the sum of its half's rows. -/
theorem partV_at (ht : Ref.InRange t) (hT : TableOk (embV e) T) (h b : ℕ) (hh : h < 2) (hb : b < 16) (x : Fin 64) :
    (partV T (P5v t) (O8v t) h b x.val : EReal)
      = ∑ s ∈ Finset.range 8192, (e (ix2 (Ref.rowOf t (b * 16384 + (h * 8192 + s))) x) : EReal) := by
  unfold partV
  refine (outV_at T _ _ x.val x.isLt).trans ?_
  refine Eq.trans ?_ (sum_runs (fun s => (e (ix2 (Ref.rowOf t (b * 16384 + (h * 8192 + s))) x) : EReal)) 64 128)
  exact Finset.sum_congr rfl fun g hg => Finset.sum_congr rfl fun r hr =>
    row_at t e T ht hT h b g r hh hb (Finset.mem_range.1 hg) (Finset.mem_range.1 hr) x

/-- Both halves together. -/
theorem halves (b : ℕ) (x : Fin 64) :
    (∑ s ∈ Finset.range 8192, (e (ix2 (Ref.rowOf t (b * 16384 + (0 * 8192 + s))) x) : EReal))
      + (∑ s ∈ Finset.range 8192, (e (ix2 (Ref.rowOf t (b * 16384 + (1 * 8192 + s))) x) : EReal)) = Ref.sumV t e b x := by
  unfold Ref.sumV
  rw [← Finset.sum_range (fun s => (e (ix2 (Ref.rowOf t (b * 16384 + s)) x) : EReal)), show 16384 = 8192 + 8192 from rfl, Finset.sum_range_add]
  simp only [Nat.zero_mul, Nat.zero_add, Nat.one_mul]

/-! ## The head -/

theorem ofBits_seg : Ideal.ofBits .f32 0x46800000#32 = ((16384 : ℝ) : EReal) := by
  simp [Ideal.ofBits, Ideal.ieee, -EReal.coe_mul]; norm_num
theorem ofBits_inv : Ideal.ofBits .f32 0x38800000#32 = ((1 / 16384 : ℝ) : EReal) := by
  simp [Ideal.ofBits, Ideal.ieee, -EReal.coe_mul]; norm_num

/-- The kernel's product with 1/16384 is the reference's quotient by 16384. -/
theorem mul_inv (y : EReal) : y * Ideal.ofBits .f32 0x38800000#32 = Ideal.div y (Ideal.ofBits .f32 0x46800000#32) := by
  rw [ofBits_seg, ofBits_inv]
  unfold Ideal.div
  rw [if_neg (by norm_cast), one_div, EReal.coe_inv]

/-- The head's result from the partial sums of all rows is the reference's. -/
theorem head_at (ht : Ref.InRange t) (f : S2x16x64.Idx → Ideal .f32) (w : S16x64.Idx → Ideal .f32) (b : S16.Idx → Ideal .f32)
    (hf : ∀ h < 2, ∀ i < 16, PartOk (TableOk (embV e)) (P5v t) (O8v t) h i f) : headV f w (biasV b) = Ref.outV t e w b := by
  have hp : ∀ (i : Fin 16) (x : Fin 64), (halfP 0 f (ix3 0 i x) : EReal) + halfP 1 f (ix3 0 i x) = Ref.sumV t e i.val x := fun i x => by
    obtain ⟨T0, hT0, h0⟩ := hf 0 (by omega) i.val i.isLt
    obtain ⟨T1, hT1, h1⟩ := hf 1 (by omega) i.val i.isLt
    have e0 : (halfP 0 f (ix3 0 i x) : EReal) = _ := (h0 x.val x.isLt).trans (partV_at t e T0 ht hT0 0 i.val (by omega) i.isLt x)
    have e1 : (halfP 1 f (ix3 0 i x) : EReal) = _ := (h1 x.val x.isLt).trans (partV_at t e T1 ht hT1 1 i.val (by omega) i.isLt x)
    rw [e0, e1]; exact halves t e i.val x
  funext j
  unfold headV biasV Ref.outV
  pointwise [k2_pay1]
  refine congrArg (fun y : EReal => y + b (ix1 (j 1))) (Finset.sum_congr rfl fun k _ => ?_)
  refine congrArg (fun y : EReal => y * w (ix2 (j 1) k)) ?_
  exact (mul_inv _).trans (congrArg (fun y : EReal => Ideal.div y _) (hp (j 0) k))

end Cert.Proof.KI

end
-- ==== Proof.lean ====
/-
  The claims of the statement, proved: the program's run (Proof/Kernel/Launch.lean at `Bits`, Proof/Launch.lean at `Ideal`) gives its
  frames; the reference's run is Proof/Gen/ReferenceIdeal/Run.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Range
public import proofs.«01_k».proof.Proof.Launch
public import proofs.«01_k».proof.Proof.Kernel.Launch
public import proofs.«01_k».proof.Proof.RefValue
public import proofs.«01_k».proof.Proof.SumValue
public import Idealize.ShloMosaic.Adequacy
public import Idealize.ShloMosaic.Init

@[expose] public section

noncomputable section

namespace Cert.Proof

open Idealize.ShloMosaic Idealize.SL.Sem Cert.Kernel

theorem frame_Kernel : Cert.quiescent_Kernel (hKernel := Cert.Kernel.Gen.facts) (hPre_in_range := Cert.Pre_in_range.Gen.facts) := fun m ρ hpre =>
  (θ_run Cert.Kernel.defs _ _).mono (fun _ h => ⟨fun c => ⟨(h.1 c).1, (h.1 c).2.1, (h.1 c).2.2.1, (h.1 c).2.2.2.1⟩, h.2⟩)
    (Cert.Proof.KB.run_main (F := Bits) m ρ fun c i => range_of_fn _ _ _ _ (hpre c) i)

theorem frame_KernelIdeal : Cert.quiescent_KernelIdeal (hKernelIdeal := Cert.KernelIdeal.Gen.facts) (hPre_in_range := Cert.Pre_in_range.Gen.facts) := fun m ρ hpre =>
  (θ_run Cert.KernelIdeal.defs _ _).mono (fun _ h => ⟨fun c => ⟨(h.1 c).1, (h.1 c).2.1, (h.1 c).2.2.1, (h.1 c).2.2.2.1⟩, h.2⟩)
    (Cert.Proof.KI.run_main (F := Ideal) m ρ fun c i => range_of_fn _ _ _ _ (hpre c) i)

theorem frame_Reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Both programs leave, on every device, the inner products of the rows' means with the weights, plus the bias. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := fun m g m' g' hpre hargs => by
  have hr : Cert.Proof.KI.PreOK m := fun c i => range_of_fn _ _ _ _ (hpre c) i
  refine ⟨fun c => Cert.Proof.Ref.outV (KI.a0 m c) (KI.a1 m c) (KI.a2 m c) (KI.a3 m c), ?_, ?_⟩
  · refine (θ_run Cert.KernelIdeal.defs _ _).mono (fun r h c => ?_) (Cert.Proof.KI.run_main (F := Ideal) m g hr)
    obtain ⟨e0, e1, e2, e3, f, hf, e⟩ := h.1 c
    exact ⟨e.trans (KI.head_at _ _ (hr c) f _ _ hf), e0, e1, e2, e3⟩
  · have ht : ∀ c : Dev Cert.ReferenceIdeal.nD, Ref.InRange (m' ((c.tc : Thread Cert.ReferenceIdeal.nD Cert.ReferenceIdeal.τ).loc Cert.ReferenceIdeal.main_arg0)) := fun c => by
      rw [(hargs c).1]; exact hr c
    refine (θ_run Cert.ReferenceIdeal.defs _ _).mono (fun r h c => ⟨(h c).1.trans ?_, (h c).2⟩) (Cert.Proof.Ref.run m' g' ht)
    rw [(hargs c).1, (hargs c).2.1, (hargs c).2.2.1, (hargs c).2.2.2]

theorem claim : Cert.Claim := ⟨Cert.Kernel.Gen.facts, Cert.KernelIdeal.Gen.facts, Cert.ReferenceIdeal.Gen.facts, Cert.Pre_in_range.Gen.facts,
  frame_Kernel, frame_KernelIdeal, frame_Reference, fun m ρ _ => frame_Reference m ρ trivial, trivial, algebraic⟩

end Cert.Proof

end
